-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S32 : Shape := ⟨1, ![32]⟩
abbrev S2048x2048 : Shape := ⟨2, ![2048, 2048]⟩
abbrev S16x64x1024 : Shape := ⟨3, ![16, 64, 1024]⟩
abbrev S15x64x1024 : Shape := ⟨3, ![15, 64, 1024]⟩
abbrev S16 : Shape := ⟨1, ![16]⟩
abbrev S15 : Shape := ⟨1, ![15]⟩
abbrev S1 : Shape := ⟨1, ![1]⟩
abbrev S64x64 : Shape := ⟨2, ![64, 64]⟩
abbrev S_ : Shape := ⟨0, ![]⟩
abbrev S1x64x1024 : Shape := ⟨3, ![1, 64, 1024]⟩
abbrev S64x1024 : Shape := ⟨2, ![64, 1024]⟩

abbrev nBuf : Space → Nat
  | .hbm => 5
  | .vmem => 8
  | .smem => 2
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S32, .i32⟩
  | .hbm, ⟨3, _⟩ => ⟨S32, .i32⟩
  | .hbm, ⟨4, _⟩ => ⟨S2048x2048, .f32⟩
  | .local _ .vmem, ⟨0, _⟩ => ⟨S2048x64, .f32⟩
  | .local _ .vmem, ⟨1, _⟩ => ⟨S64x2048, .f32⟩
  | .local _ .vmem, ⟨2, _⟩ => ⟨S2048x2048, .f32⟩
  | .local _ .vmem, ⟨3, _⟩ => ⟨S2048x2048, .f32⟩
  | .local _ .vmem, ⟨4, _⟩ => ⟨S16x64x1024, .f32⟩
  | .local _ .vmem, ⟨5, _⟩ => ⟨S15x64x1024, .f32⟩
  | .local _ .vmem, ⟨6, _⟩ => ⟨S15x64x1024, .f32⟩
  | .local _ .vmem, ⟨7, _⟩ => ⟨S16x64x1024, .f32⟩
  | .local _ .smem, ⟨0, _⟩ => ⟨S32, .i32⟩
  | .local _ .smem, ⟨1, _⟩ => ⟨S32, .i32⟩
  | _, _ => ⟨S2048x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 253 → Bool
  | ⟨i, _⟩ => dmaSemScopedAt i

abbrev sig : RefSig :=
  (ofTc nBuf bufTy 1 253 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) (c33_i32 : BitVec 32) : Fin 1 → Nat :=
  let v5 : BitVec 32 := Scalar.addi v4 c33_i32
  let c32_i32_0 : BitVec 32 := 32#32
  let v6 : BitVec 32 := Scalar.remsi v5 c32_i32_0
  let v7 : Index := Scalar.indexCast v6
  ![v7.toNat]

def k0_off3 (v4 : BitVec 32) (c16_i32 : BitVec 32) : Fin 2 → Nat :=
  let v13 : BitVec 32 := Scalar.addi v4 c16_i32
  let c32_i32_2 : BitVec 32 := 32#32
  let v14 : BitVec 32 := Scalar.remsi v13 c32_i32_2
  let c64_i32 : BitVec 32 := 64#32
  let v15 : BitVec 32 := Scalar.muli v14 c64_i32
  let v16 : Index := Scalar.indexCast v15
  let c0 : Index := 0#32
  ![v16.toNat, 0]
def k0_off4 (v4 : BitVec 32) (c16_i32 : BitVec 32) : Fin 2 → Nat :=
  let v13 : BitVec 32 := Scalar.addi v4 c16_i32
  let c32_i32_2 : BitVec 32 := 32#32
  let v14 : BitVec 32 := Scalar.remsi v13 c32_i32_2
  let c64_i32 : BitVec 32 := 64#32
  let v15 : BitVec 32 := Scalar.muli v14 c64_i32
  let v22 : Index := Scalar.indexCast v15
  let c0_5 : Index := 0#32
  ![v22.toNat, 0]
def k0_dev1 (v8 : BitVec 32) : Nat :=
  let c0_i32 : BitVec 32 := 0#32
  let c1_i32_21 : BitVec 32 := 1#32
  let v53 : BitVec 32 := Scalar.muli v8 c1_i32_21
  let v54 : BitVec 32 := Scalar.addi c0_i32 v53
  v54.toNat

def k0_dev2 (v12 : BitVec 32) : Nat :=
  let c0_i32_24 : BitVec 32 := 0#32
  let c1_i32_23 : BitVec 32 := 1#32
  let v55 : BitVec 32 := Scalar.muli v12 c1_i32_23
  let v56 : BitVec 32 := Scalar.addi c0_i32_24 v55
  v56.toNat

def k0_off5 (v4 : BitVec 32) (c16_i32_25 : BitVec 32) : Fin 2 → Nat :=
  let v57 : BitVec 32 := Scalar.addi v4 c16_i32_25
  let c32_i32_26 : BitVec 32 := 32#32
  let v58 : BitVec 32 := Scalar.remsi v57 c32_i32_26
  let c64_i32_27 : BitVec 32 := 64#32
  let v59 : BitVec 32 := Scalar.muli v58 c64_i32_27
  let c0_i32_35 : BitVec 32 := 0#32
  ![v59.toNat, 0]
def k0_dev3 (v8 : BitVec 32) : Nat :=
  let c0_i32_32 : BitVec 32 := 0#32
  let c1_i32_31 : BitVec 32 := 1#32
  let v60 : BitVec 32 := Scalar.muli v8 c1_i32_31
  let v61 : BitVec 32 := Scalar.addi c0_i32_32 v60
  v61.toNat
def k0_dev4 (v12 : BitVec 32) : Nat :=
  let c0_i32_43 : BitVec 32 := 0#32
  let c1_i32_42 : BitVec 32 := 1#32
  let v72 : BitVec 32 := Scalar.muli v12 c1_i32_42
  let v73 : BitVec 32 := Scalar.addi c0_i32_43 v72
  v73.toNat
def k0_off6 (v4 : BitVec 32) (c15_i32_47 : BitVec 32) : Fin 2 → Nat :=
  let v81 : BitVec 32 := Scalar.addi v4 c15_i32_47
  let c32_i32_48 : BitVec 32 := 32#32
  let v82 : BitVec 32 := Scalar.remsi v81 c32_i32_48
  let c64_i32_49 : BitVec 32 := 64#32
  let v83 : BitVec 32 := Scalar.muli v82 c64_i32_49
  let c1024_i32 : BitVec 32 := 1024#32
  ![v83.toNat, 1024]
def k0_dev5 (v8 : BitVec 32) : Nat :=
  let c0_i32_54 : BitVec 32 := 0#32
  let c1_i32_53 : BitVec 32 := 1#32
  let v84 : BitVec 32 := Scalar.muli v8 c1_i32_53
  let v85 : BitVec 32 := Scalar.addi c0_i32_54 v84
  v85.toNat
def k0_dev6 (v12 : BitVec 32) : Nat :=
  let c0_i32_64 : BitVec 32 := 0#32
  let c1_i32_63 : BitVec 32 := 1#32
  let v96 : BitVec 32 := Scalar.muli v12 c1_i32_63
  let v97 : BitVec 32 := Scalar.addi c0_i32_64 v96
  v97.toNat
def k0_off7 (v4 : BitVec 32) (c14_i32 : BitVec 32) : Fin 2 → Nat :=
  let v105 : BitVec 32 := Scalar.addi v4 c14_i32
  let c32_i32_68 : BitVec 32 := 32#32
  let v106 : BitVec 32 := Scalar.remsi v105 c32_i32_68
  let c64_i32_69 : BitVec 32 := 64#32
  let v107 : BitVec 32 := Scalar.muli v106 c64_i32_69
  let v108 : Index := Scalar.indexCast v107
  let c0_70 : Index := 0#32
  ![v108.toNat, 0]
def k0_off7_at (r : Fin 29) : BitVec 32 :=
  if r.val < 14 then
    if r.val < 7 then
      if r.val < 3 then
        if r.val < 1 then
          14#32
        else
          if r.val < 2 then
            18#32
          else
            13#32
      else
        if r.val < 5 then
          if r.val < 4 then
            19#32
          else
            12#32
        else
          if r.val < 6 then
            20#32
          else
            11#32
    else
      if r.val < 10 then
        if r.val < 8 then
          21#32
        else
          if r.val < 9 then
            10#32
          else
            22#32
      else
        if r.val < 12 then
          if r.val < 11 then
            9#32
          else
            23#32
        else
          if r.val < 13 then
            8#32
          else
            24#32
  else
    if r.val < 21 then
      if r.val < 17 then
        if r.val < 15 then
          7#32
        else
          if r.val < 16 then
            25#32
          else
            6#32
      else
        if r.val < 19 then
          if r.val < 18 then
            26#32
          else
            5#32
        else
          if r.val < 20 then
            27#32
          else
            4#32
    else
      if r.val < 25 then
        if r.val < 23 then
          if r.val < 22 then
            28#32
          else
            3#32
        else
          if r.val < 24 then
            29#32
          else
            2#32
      else
        if r.val < 27 then
          if r.val < 26 then
            30#32
          else
            1#32
        else
          if r.val < 28 then
            31#32
          else
            0#32
def k0_off8 (v4 : BitVec 32) (c14_i32 : BitVec 32) : Fin 2 → Nat :=
  let v105 : BitVec 32 := Scalar.addi v4 c14_i32
  let c32_i32_68 : BitVec 32 := 32#32
  let v106 : BitVec 32 := Scalar.remsi v105 c32_i32_68
  let c64_i32_69 : BitVec 32 := 64#32
  let v107 : BitVec 32 := Scalar.muli v106 c64_i32_69
  let v114 : Index := Scalar.indexCast v107
  let c0_74 : Index := 0#32
  ![v114.toNat, 0]
def k0_off8_at (r : Fin 29) : BitVec 32 :=
  if r.val < 14 then
    if r.val < 7 then
      if r.val < 3 then
        if r.val < 1 then
          14#32
        else
          if r.val < 2 then
            18#32
          else
            13#32
      else
        if r.val < 5 then
          if r.val < 4 then
            19#32
          else
            12#32
        else
          if r.val < 6 then
            20#32
          else
            11#32
    else
      if r.val < 10 then
        if r.val < 8 then
          21#32
        else
          if r.val < 9 then
            10#32
          else
            22#32
      else
        if r.val < 12 then
          if r.val < 11 then
            9#32
          else
            23#32
        else
          if r.val < 13 then
            8#32
          else
            24#32
  else
    if r.val < 21 then
      if r.val < 17 then
        if r.val < 15 then
          7#32
        else
          if r.val < 16 then
            25#32
          else
            6#32
      else
        if r.val < 19 then
          if r.val < 18 then
            26#32
          else
            5#32
        else
          if r.val < 20 then
            27#32
          else
            4#32
    else
      if r.val < 25 then
        if r.val < 23 then
          if r.val < 22 then
            28#32
          else
            3#32
        else
          if r.val < 24 then
            29#32
          else
            2#32
      else
        if r.val < 27 then
          if r.val < 26 then
            30#32
          else
            1#32
        else
          if r.val < 28 then
            31#32
          else
            0#32
def k0_off9 (v4 : BitVec 32) (c15_i32_110 : BitVec 32) : Fin 2 → Nat :=
  let v169 : BitVec 32 := Scalar.addi v4 c15_i32_110
  let c32_i32_111 : BitVec 32 := 32#32
  let v170 : BitVec 32 := Scalar.remsi v169 c32_i32_111
  let c64_i32_112 : BitVec 32 := 64#32
  let v171 : BitVec 32 := Scalar.muli v170 c64_i32_112
  let v172 : Index := Scalar.indexCast v171
  let c0_113 : Index := 0#32
  ![v172.toNat, 0]
def k0_off9_at (r : Fin 29) : BitVec 32 :=
  if r.val < 14 then
    if r.val < 7 then
      if r.val < 3 then
        if r.val < 1 then
          15#32
        else
          if r.val < 2 then
            18#32
          else
            14#32
      else
        if r.val < 5 then
          if r.val < 4 then
            19#32
          else
            13#32
        else
          if r.val < 6 then
            20#32
          else
            12#32
    else
      if r.val < 10 then
        if r.val < 8 then
          21#32
        else
          if r.val < 9 then
            11#32
          else
            22#32
      else
        if r.val < 12 then
          if r.val < 11 then
            10#32
          else
            23#32
        else
          if r.val < 13 then
            9#32
          else
            24#32
  else
    if r.val < 21 then
      if r.val < 17 then
        if r.val < 15 then
          8#32
        else
          if r.val < 16 then
            25#32
          else
            7#32
      else
        if r.val < 19 then
          if r.val < 18 then
            26#32
          else
            6#32
        else
          if r.val < 20 then
            27#32
          else
            5#32
    else
      if r.val < 25 then
        if r.val < 23 then
          if r.val < 22 then
            28#32
          else
            4#32
        else
          if r.val < 24 then
            29#32
          else
            3#32
      else
        if r.val < 27 then
          if r.val < 26 then
            30#32
          else
            2#32
        else
          if r.val < 28 then
            31#32
          else
            1#32
def k0_dev7 (v8 : BitVec 32) : Nat :=
  let c0_i32_122 : BitVec 32 := 0#32
  let c1_i32_121 : BitVec 32 := 1#32
  let v178 : BitVec 32 := Scalar.muli v8 c1_i32_121
  let v179 : BitVec 32 := Scalar.addi c0_i32_122 v178
  v179.toNat
def k0_dev8 (v12 : BitVec 32) : Nat :=
  let c0_i32_153 : BitVec 32 := 0#32
  let c1_i32_152 : BitVec 32 := 1#32
  let v209 : BitVec 32 := Scalar.muli v12 c1_i32_152
  let v210 : BitVec 32 := Scalar.addi c0_i32_153 v209
  v210.toNat
def k0_off10 (v4 : BitVec 32) (c14_i32_172 : BitVec 32) : Fin 2 → Nat :=
  let v231 : BitVec 32 := Scalar.addi v4 c14_i32_172
  let c32_i32_173 : BitVec 32 := 32#32
  let v232 : BitVec 32 := Scalar.remsi v231 c32_i32_173
  let c64_i32_174 : BitVec 32 := 64#32
  let v233 : BitVec 32 := Scalar.muli v232 c64_i32_174
  let v234 : Index := Scalar.indexCast v233
  let c1024 : Index := 1024#32
  ![v234.toNat, 1024]
def k0_off10_at (r : Fin 29) : BitVec 32 :=
  if r.val < 14 then
    if r.val < 7 then
      if r.val < 3 then
        if r.val < 1 then
          14#32
        else
          if r.val < 2 then
            17#32
          else
            13#32
      else
        if r.val < 5 then
          if r.val < 4 then
            18#32
          else
            12#32
        else
          if r.val < 6 then
            19#32
          else
            11#32
    else
      if r.val < 10 then
        if r.val < 8 then
          20#32
        else
          if r.val < 9 then
            10#32
          else
            21#32
      else
        if r.val < 12 then
          if r.val < 11 then
            9#32
          else
            22#32
        else
          if r.val < 13 then
            8#32
          else
            23#32
  else
    if r.val < 21 then
      if r.val < 17 then
        if r.val < 15 then
          7#32
        else
          if r.val < 16 then
            24#32
          else
            6#32
      else
        if r.val < 19 then
          if r.val < 18 then
            25#32
          else
            5#32
        else
          if r.val < 20 then
            26#32
          else
            4#32
    else
      if r.val < 25 then
        if r.val < 23 then
          if r.val < 22 then
            27#32
          else
            3#32
        else
          if r.val < 24 then
            28#32
          else
            2#32
      else
        if r.val < 27 then
          if r.val < 26 then
            29#32
          else
            1#32
        else
          if r.val < 28 then
            30#32
          else
            31#32
def k0_dev9 (v8 : BitVec 32) : Nat :=
  let c0_i32_183 : BitVec 32 := 0#32
  let c1_i32_182 : BitVec 32 := 1#32
  let v240 : BitVec 32 := Scalar.muli v8 c1_i32_182
  let v241 : BitVec 32 := Scalar.addi c0_i32_183 v240
  v241.toNat
def k0_dev10 (v12 : BitVec 32) : Nat :=
  let c0_i32_214 : BitVec 32 := 0#32
  let c1_i32_213 : BitVec 32 := 1#32
  let v271 : BitVec 32 := Scalar.muli v12 c1_i32_213
  let v272 : BitVec 32 := Scalar.addi c0_i32_214 v271
  v272.toNat
def k0_dev11 (v8 : BitVec 32) : Nat :=
  let c0_i32_257 : BitVec 32 := 0#32
  let c1_i32_256 : BitVec 32 := 1#32
  let v326 : BitVec 32 := Scalar.muli v8 c1_i32_256
  let v327 : BitVec 32 := Scalar.addi c0_i32_257 v326
  v327.toNat
def k0_dev12 (v12 : BitVec 32) : Nat :=
  let c0_i32_287 : BitVec 32 := 0#32
  let c1_i32_286 : BitVec 32 := 1#32
  let v355 : BitVec 32 := Scalar.muli v12 c1_i32_286
  let v356 : BitVec 32 := Scalar.addi c0_i32_287 v355
  v356.toNat
def k0_dev13 (v8 : BitVec 32) : Nat :=
  let c0_i32_317 : BitVec 32 := 0#32
  let c1_i32_316 : BitVec 32 := 1#32
  let v384 : BitVec 32 := Scalar.muli v8 c1_i32_316
  let v385 : BitVec 32 := Scalar.addi c0_i32_317 v384
  v385.toNat
def k0_dev14 (v12 : BitVec 32) : Nat :=
  let c0_i32_347 : BitVec 32 := 0#32
  let c1_i32_346 : BitVec 32 := 1#32
  let v413 : BitVec 32 := Scalar.muli v12 c1_i32_346
  let v414 : BitVec 32 := Scalar.addi c0_i32_347 v413
  v414.toNat
def k0_dev15 (v8 : BitVec 32) : Nat :=
  let c0_i32_389 : BitVec 32 := 0#32
  let c1_i32_388 : BitVec 32 := 1#32
  let v468 : BitVec 32 := Scalar.muli v8 c1_i32_388
  let v469 : BitVec 32 := Scalar.addi c0_i32_389 v468
  v469.toNat
def k0_dev16 (v12 : BitVec 32) : Nat :=
  let c0_i32_419 : BitVec 32 := 0#32
  let c1_i32_418 : BitVec 32 := 1#32
  let v497 : BitVec 32 := Scalar.muli v12 c1_i32_418
  let v498 : BitVec 32 := Scalar.addi c0_i32_419 v497
  v498.toNat
def k0_dev17 (v8 : BitVec 32) : Nat :=
  let c0_i32_449 : BitVec 32 := 0#32
  let c1_i32_448 : BitVec 32 := 1#32
  let v526 : BitVec 32 := Scalar.muli v8 c1_i32_448
  let v527 : BitVec 32 := Scalar.addi c0_i32_449 v526
  v527.toNat
def k0_dev18 (v12 : BitVec 32) : Nat :=
  let c0_i32_479 : BitVec 32 := 0#32
  let c1_i32_478 : BitVec 32 := 1#32
  let v555 : BitVec 32 := Scalar.muli v12 c1_i32_478
  let v556 : BitVec 32 := Scalar.addi c0_i32_479 v555
  v556.toNat
def k0_dev19 (v8 : BitVec 32) : Nat :=
  let c0_i32_521 : BitVec 32 := 0#32
  let c1_i32_520 : BitVec 32 := 1#32
  let v610 : BitVec 32 := Scalar.muli v8 c1_i32_520
  let v611 : BitVec 32 := Scalar.addi c0_i32_521 v610
  v611.toNat
def k0_dev20 (v12 : BitVec 32) : Nat :=
  let c0_i32_551 : BitVec 32 := 0#32
  let c1_i32_550 : BitVec 32 := 1#32
  let v639 : BitVec 32 := Scalar.muli v12 c1_i32_550
  let v640 : BitVec 32 := Scalar.addi c0_i32_551 v639
  v640.toNat
def k0_dev21 (v8 : BitVec 32) : Nat :=
  let c0_i32_581 : BitVec 32 := 0#32
  let c1_i32_580 : BitVec 32 := 1#32
  let v668 : BitVec 32 := Scalar.muli v8 c1_i32_580
  let v669 : BitVec 32 := Scalar.addi c0_i32_581 v668
  v669.toNat
def k0_dev22 (v12 : BitVec 32) : Nat :=
  let c0_i32_611 : BitVec 32 := 0#32
  let c1_i32_610 : BitVec 32 := 1#32
  let v697 : BitVec 32 := Scalar.muli v12 c1_i32_610
  let v698 : BitVec 32 := Scalar.addi c0_i32_611 v697
  v698.toNat
def k0_dev23 (v8 : BitVec 32) : Nat :=
  let c0_i32_653 : BitVec 32 := 0#32
  let c1_i32_652 : BitVec 32 := 1#32
  let v752 : BitVec 32 := Scalar.muli v8 c1_i32_652
  let v753 : BitVec 32 := Scalar.addi c0_i32_653 v752
  v753.toNat
def k0_dev24 (v12 : BitVec 32) : Nat :=
  let c0_i32_683 : BitVec 32 := 0#32
  let c1_i32_682 : BitVec 32 := 1#32
  let v781 : BitVec 32 := Scalar.muli v12 c1_i32_682
  let v782 : BitVec 32 := Scalar.addi c0_i32_683 v781
  v782.toNat
def k0_dev25 (v8 : BitVec 32) : Nat :=
  let c0_i32_713 : BitVec 32 := 0#32
  let c1_i32_712 : BitVec 32 := 1#32
  let v810 : BitVec 32 := Scalar.muli v8 c1_i32_712
  let v811 : BitVec 32 := Scalar.addi c0_i32_713 v810
  v811.toNat
def k0_dev26 (v12 : BitVec 32) : Nat :=
  let c0_i32_743 : BitVec 32 := 0#32
  let c1_i32_742 : BitVec 32 := 1#32
  let v839 : BitVec 32 := Scalar.muli v12 c1_i32_742
  let v840 : BitVec 32 := Scalar.addi c0_i32_743 v839
  v840.toNat
def k0_dev27 (v8 : BitVec 32) : Nat :=
  let c0_i32_785 : BitVec 32 := 0#32
  let c1_i32_784 : BitVec 32 := 1#32
  let v894 : BitVec 32 := Scalar.muli v8 c1_i32_784
  let v895 : BitVec 32 := Scalar.addi c0_i32_785 v894
  v895.toNat
def k0_dev28 (v12 : BitVec 32) : Nat :=
  let c0_i32_815 : BitVec 32 := 0#32
  let c1_i32_814 : BitVec 32 := 1#32
  let v923 : BitVec 32 := Scalar.muli v12 c1_i32_814
  let v924 : BitVec 32 := Scalar.addi c0_i32_815 v923
  v924.toNat
def k0_dev29 (v8 : BitVec 32) : Nat :=
  let c0_i32_845 : BitVec 32 := 0#32
  let c1_i32_844 : BitVec 32 := 1#32
  let v952 : BitVec 32 := Scalar.muli v8 c1_i32_844
  let v953 : BitVec 32 := Scalar.addi c0_i32_845 v952
  v953.toNat
def k0_dev30 (v12 : BitVec 32) : Nat :=
  let c0_i32_875 : BitVec 32 := 0#32
  let c1_i32_874 : BitVec 32 := 1#32
  let v981 : BitVec 32 := Scalar.muli v12 c1_i32_874
  let v982 : BitVec 32 := Scalar.addi c0_i32_875 v981
  v982.toNat
def k0_dev31 (v8 : BitVec 32) : Nat :=
  let c0_i32_918 : BitVec 32 := 0#32
  let c1_i32_917 : BitVec 32 := 1#32
  let v1036 : BitVec 32 := Scalar.muli v8 c1_i32_917
  let v1037 : BitVec 32 := Scalar.addi c0_i32_918 v1036
  v1037.toNat
def k0_dev32 (v12 : BitVec 32) : Nat :=
  let c0_i32_948 : BitVec 32 := 0#32
  let c1_i32_947 : BitVec 32 := 1#32
  let v1065 : BitVec 32 := Scalar.muli v12 c1_i32_947
  let v1066 : BitVec 32 := Scalar.addi c0_i32_948 v1065
  v1066.toNat
def k0_dev33 (v8 : BitVec 32) : Nat :=
  let c0_i32_978 : BitVec 32 := 0#32
  let c1_i32_977 : BitVec 32 := 1#32
  let v1094 : BitVec 32 := Scalar.muli v8 c1_i32_977
  let v1095 : BitVec 32 := Scalar.addi c0_i32_978 v1094
  v1095.toNat
def k0_dev34 (v12 : BitVec 32) : Nat :=
  let c0_i32_1008 : BitVec 32 := 0#32
  let c1_i32_1007 : BitVec 32 := 1#32
  let v1123 : BitVec 32 := Scalar.muli v12 c1_i32_1007
  let v1124 : BitVec 32 := Scalar.addi c0_i32_1008 v1123
  v1124.toNat
def k0_dev35 (v8 : BitVec 32) : Nat :=
  let c0_i32_1052 : BitVec 32 := 0#32
  let c1_i32_1051 : BitVec 32 := 1#32
  let v1178 : BitVec 32 := Scalar.muli v8 c1_i32_1051
  let v1179 : BitVec 32 := Scalar.addi c0_i32_1052 v1178
  v1179.toNat
def k0_dev36 (v12 : BitVec 32) : Nat :=
  let c0_i32_1082 : BitVec 32 := 0#32
  let c1_i32_1081 : BitVec 32 := 1#32
  let v1207 : BitVec 32 := Scalar.muli v12 c1_i32_1081
  let v1208 : BitVec 32 := Scalar.addi c0_i32_1082 v1207
  v1208.toNat
def k0_dev37 (v8 : BitVec 32) : Nat :=
  let c0_i32_1112 : BitVec 32 := 0#32
  let c1_i32_1111 : BitVec 32 := 1#32
  let v1236 : BitVec 32 := Scalar.muli v8 c1_i32_1111
  let v1237 : BitVec 32 := Scalar.addi c0_i32_1112 v1236
  v1237.toNat
def k0_dev38 (v12 : BitVec 32) : Nat :=
  let c0_i32_1142 : BitVec 32 := 0#32
  let c1_i32_1141 : BitVec 32 := 1#32
  let v1265 : BitVec 32 := Scalar.muli v12 c1_i32_1141
  let v1266 : BitVec 32 := Scalar.addi c0_i32_1142 v1265
  v1266.toNat
def k0_dev39 (v8 : BitVec 32) : Nat :=
  let c0_i32_1186 : BitVec 32 := 0#32
  let c1_i32_1185 : BitVec 32 := 1#32
  let v1320 : BitVec 32 := Scalar.muli v8 c1_i32_1185
  let v1321 : BitVec 32 := Scalar.addi c0_i32_1186 v1320
  v1321.toNat
def k0_dev40 (v12 : BitVec 32) : Nat :=
  let c0_i32_1216 : BitVec 32 := 0#32
  let c1_i32_1215 : BitVec 32 := 1#32
  let v1349 : BitVec 32 := Scalar.muli v12 c1_i32_1215
  let v1350 : BitVec 32 := Scalar.addi c0_i32_1216 v1349
  v1350.toNat
def k0_dev41 (v8 : BitVec 32) : Nat :=
  let c0_i32_1246 : BitVec 32 := 0#32
  let c1_i32_1245 : BitVec 32 := 1#32
  let v1378 : BitVec 32 := Scalar.muli v8 c1_i32_1245
  let v1379 : BitVec 32 := Scalar.addi c0_i32_1246 v1378
  v1379.toNat
def k0_dev42 (v12 : BitVec 32) : Nat :=
  let c0_i32_1276 : BitVec 32 := 0#32
  let c1_i32_1275 : BitVec 32 := 1#32
  let v1407 : BitVec 32 := Scalar.muli v12 c1_i32_1275
  let v1408 : BitVec 32 := Scalar.addi c0_i32_1276 v1407
  v1408.toNat
def k0_dev43 (v8 : BitVec 32) : Nat :=
  let c0_i32_1320 : BitVec 32 := 0#32
  let c1_i32_1319 : BitVec 32 := 1#32
  let v1462 : BitVec 32 := Scalar.muli v8 c1_i32_1319
  let v1463 : BitVec 32 := Scalar.addi c0_i32_1320 v1462
  v1463.toNat
def k0_dev44 (v12 : BitVec 32) : Nat :=
  let c0_i32_1350 : BitVec 32 := 0#32
  let c1_i32_1349 : BitVec 32 := 1#32
  let v1491 : BitVec 32 := Scalar.muli v12 c1_i32_1349
  let v1492 : BitVec 32 := Scalar.addi c0_i32_1350 v1491
  v1492.toNat
def k0_dev45 (v8 : BitVec 32) : Nat :=
  let c0_i32_1380 : BitVec 32 := 0#32
  let c1_i32_1379 : BitVec 32 := 1#32
  let v1520 : BitVec 32 := Scalar.muli v8 c1_i32_1379
  let v1521 : BitVec 32 := Scalar.addi c0_i32_1380 v1520
  v1521.toNat
def k0_dev46 (v12 : BitVec 32) : Nat :=
  let c0_i32_1410 : BitVec 32 := 0#32
  let c1_i32_1409 : BitVec 32 := 1#32
  let v1549 : BitVec 32 := Scalar.muli v12 c1_i32_1409
  let v1550 : BitVec 32 := Scalar.addi c0_i32_1410 v1549
  v1550.toNat
def k0_dev47 (v8 : BitVec 32) : Nat :=
  let c0_i32_1454 : BitVec 32 := 0#32
  let c1_i32_1453 : BitVec 32 := 1#32
  let v1604 : BitVec 32 := Scalar.muli v8 c1_i32_1453
  let v1605 : BitVec 32 := Scalar.addi c0_i32_1454 v1604
  v1605.toNat
def k0_dev48 (v12 : BitVec 32) : Nat :=
  let c0_i32_1484 : BitVec 32 := 0#32
  let c1_i32_1483 : BitVec 32 := 1#32
  let v1633 : BitVec 32 := Scalar.muli v12 c1_i32_1483
  let v1634 : BitVec 32 := Scalar.addi c0_i32_1484 v1633
  v1634.toNat
def k0_dev49 (v8 : BitVec 32) : Nat :=
  let c0_i32_1514 : BitVec 32 := 0#32
  let c1_i32_1513 : BitVec 32 := 1#32
  let v1662 : BitVec 32 := Scalar.muli v8 c1_i32_1513
  let v1663 : BitVec 32 := Scalar.addi c0_i32_1514 v1662
  v1663.toNat
def k0_dev50 (v12 : BitVec 32) : Nat :=
  let c0_i32_1544 : BitVec 32 := 0#32
  let c1_i32_1543 : BitVec 32 := 1#32
  let v1691 : BitVec 32 := Scalar.muli v12 c1_i32_1543
  let v1692 : BitVec 32 := Scalar.addi c0_i32_1544 v1691
  v1692.toNat
def k0_dev51 (v8 : BitVec 32) : Nat :=
  let c0_i32_1588 : BitVec 32 := 0#32
  let c1_i32_1587 : BitVec 32 := 1#32
  let v1746 : BitVec 32 := Scalar.muli v8 c1_i32_1587
  let v1747 : BitVec 32 := Scalar.addi c0_i32_1588 v1746
  v1747.toNat
def k0_dev52 (v12 : BitVec 32) : Nat :=
  let c0_i32_1618 : BitVec 32 := 0#32
  let c1_i32_1617 : BitVec 32 := 1#32
  let v1775 : BitVec 32 := Scalar.muli v12 c1_i32_1617
  let v1776 : BitVec 32 := Scalar.addi c0_i32_1618 v1775
  v1776.toNat
def k0_dev53 (v8 : BitVec 32) : Nat :=
  let c0_i32_1648 : BitVec 32 := 0#32
  let c1_i32_1647 : BitVec 32 := 1#32
  let v1804 : BitVec 32 := Scalar.muli v8 c1_i32_1647
  let v1805 : BitVec 32 := Scalar.addi c0_i32_1648 v1804
  v1805.toNat
def k0_dev54 (v12 : BitVec 32) : Nat :=
  let c0_i32_1678 : BitVec 32 := 0#32
  let c1_i32_1677 : BitVec 32 := 1#32
  let v1833 : BitVec 32 := Scalar.muli v12 c1_i32_1677
  let v1834 : BitVec 32 := Scalar.addi c0_i32_1678 v1833
  v1834.toNat
def k0_dev55 (v8 : BitVec 32) : Nat :=
  let c0_i32_1723 : BitVec 32 := 0#32
  let c1_i32_1722 : BitVec 32 := 1#32
  let v1888 : BitVec 32 := Scalar.muli v8 c1_i32_1722
  let v1889 : BitVec 32 := Scalar.addi c0_i32_1723 v1888
  v1889.toNat
def k0_dev56 (v12 : BitVec 32) : Nat :=
  let c0_i32_1753 : BitVec 32 := 0#32
  let c1_i32_1752 : BitVec 32 := 1#32
  let v1917 : BitVec 32 := Scalar.muli v12 c1_i32_1752
  let v1918 : BitVec 32 := Scalar.addi c0_i32_1753 v1917
  v1918.toNat
def k0_dev57 (v8 : BitVec 32) : Nat :=
  let c0_i32_1783 : BitVec 32 := 0#32
  let c1_i32_1782 : BitVec 32 := 1#32
  let v1946 : BitVec 32 := Scalar.muli v8 c1_i32_1782
  let v1947 : BitVec 32 := Scalar.addi c0_i32_1783 v1946
  v1947.toNat
def k0_dev58 (v12 : BitVec 32) : Nat :=
  let c0_i32_1813 : BitVec 32 := 0#32
  let c1_i32_1812 : BitVec 32 := 1#32
  let v1975 : BitVec 32 := Scalar.muli v12 c1_i32_1812
  let v1976 : BitVec 32 := Scalar.addi c0_i32_1813 v1975
  v1976.toNat
def k0_dev59 (v8 : BitVec 32) : Nat :=
  let c0_i32_1850 : BitVec 32 := 0#32
  let c1_i32_1849 : BitVec 32 := 1#32
  let v2017 : BitVec 32 := Scalar.muli v8 c1_i32_1849
  let v2018 : BitVec 32 := Scalar.addi c0_i32_1850 v2017
  v2018.toNat
def k0_dev60 (v12 : BitVec 32) : Nat :=
  let c0_i32_1880 : BitVec 32 := 0#32
  let c1_i32_1879 : BitVec 32 := 1#32
  let v2046 : BitVec 32 := Scalar.muli v12 c1_i32_1879
  let v2047 : BitVec 32 := Scalar.addi c0_i32_1880 v2046
  v2047.toNat
def k0_dev61 (v8 : BitVec 32) : Nat :=
  let c0_i32_1910 : BitVec 32 := 0#32
  let c1_i32_1909 : BitVec 32 := 1#32
  let v2075 : BitVec 32 := Scalar.muli v8 c1_i32_1909
  let v2076 : BitVec 32 := Scalar.addi c0_i32_1910 v2075
  v2076.toNat
def k0_dev62 (v12 : BitVec 32) : Nat :=
  let c0_i32_1940 : BitVec 32 := 0#32
  let c1_i32_1939 : BitVec 32 := 1#32
  let v2104 : BitVec 32 := Scalar.muli v12 c1_i32_1939
  let v2105 : BitVec 32 := Scalar.addi c0_i32_1940 v2104
  v2105.toNat
def k0_dev63 (v8 : BitVec 32) : Nat :=
  let c0_i32_1969 : BitVec 32 := 0#32
  let c1_i32_1968 : BitVec 32 := 1#32
  let v2133 : BitVec 32 := Scalar.muli v8 c1_i32_1968
  let v2134 : BitVec 32 := Scalar.addi c0_i32_1969 v2133
  v2134.toNat
def k0_dev64 (v12 : BitVec 32) : Nat :=
  let c0_i32_2019 : BitVec 32 := 0#32
  let c1_i32_2018 : BitVec 32 := 1#32
  let v2178 : BitVec 32 := Scalar.muli v12 c1_i32_2018
  let v2179 : BitVec 32 := Scalar.addi c0_i32_2019 v2178
  v2179.toNat
def k0_off11 (v4 : BitVec 32) : Fin 2 → Nat :=
  let c64_i32_2049 : BitVec 32 := 64#32
  let v2209 : BitVec 32 := Scalar.muli v4 c64_i32_2049
  let v2210 : Index := Scalar.indexCast v2209
  let c0_2050 : Index := 0#32
  ![v2210.toNat, 0]
def k0_dev65 (v8 : BitVec 32) : Nat :=
  let c0_i32_2063 : BitVec 32 := 0#32
  let c1_i32_2062 : BitVec 32 := 1#32
  let v2232 : BitVec 32 := Scalar.muli v8 c1_i32_2062
  let v2233 : BitVec 32 := Scalar.addi c0_i32_2063 v2232
  v2233.toNat
def k0_dev66 (v12 : BitVec 32) : Nat :=
  let c0_i32_2072 : BitVec 32 := 0#32
  let c1_i32_2071 : BitVec 32 := 1#32
  let v2243 : BitVec 32 := Scalar.muli v12 c1_i32_2071
  let v2244 : BitVec 32 := Scalar.addi c0_i32_2072 v2243
  v2244.toNat
def k0_off12 (v4 : BitVec 32) : Fin 2 → Nat :=
  let c64_i32_2081 : BitVec 32 := 64#32
  let v2256 : BitVec 32 := Scalar.muli v4 c64_i32_2081
  let v2257 : Index := Scalar.indexCast v2256
  let c1024_2082 : Index := 1024#32
  ![v2257.toNat, 1024]

def k0_chk1 (v4 : BitVec 32) : Prop :=
  (∀ (r : Fin 2), ∀ a, (k0_off2 v4 (BitVec.ofNat 32 (31 + 2 * r.val))) a + S1.size a ≤ S32.size a) ∧
  (∀ (r : Fin 3), ∀ a, (k0_off3 v4 (BitVec.ofNat 32 (15 + r.val))) a + S64x64.size a ≤ S2048x64.size a) ∧
  (∀ (r : Fin 3), ∀ a, (k0_off4 v4 (BitVec.ofNat 32 (15 + r.val))) a + S64x2048.size a ≤ S2048x2048.size a) ∧
  (∀ (r : Fin 32), ∀ a, (k0_off5 v4 (BitVec.ofNat 32 r.val)) a + S64x1024.size a ≤ S2048x2048.size a) ∧
  (∀ (r : Fin 32), ∀ a, (k0_off6 v4 (BitVec.ofNat 32 r.val)) a + S64x1024.size a ≤ S2048x2048.size a) ∧
  (∀ (r : Fin 29), ∀ a, (k0_off7 v4 (k0_off7_at r)) a + S64x64.size a ≤ S2048x64.size a) ∧
  (∀ (r : Fin 29), ∀ a, (k0_off8 v4 (k0_off8_at r)) a + S64x2048.size a ≤ S2048x2048.size a) ∧
  (∀ (r : Fin 29), ∀ a, (k0_off9 v4 (k0_off9_at r)) a + S64x1024.size a ≤ S2048x2048.size a) ∧
  (∀ (r : Fin 29), ∀ a, (k0_off10 v4 (k0_off10_at r)) a + S64x1024.size a ≤ S2048x2048.size a) ∧
  (∀ a, (k0_off11 v4) a + S64x1024.size a ≤ S2048x2048.size a) ∧
  (∀ a, (k0_off12 v4) a + S64x1024.size a ≤ S2048x2048.size a)
theorem k0_off2_inb : ∀ (v4 : BitVec 32) (k0_hw1 : k0_chk1 v4), ∀ (r : Fin 2), ∀ a, (k0_off2 v4 (BitVec.ofNat 32 (31 + 2 * r.val))) a + S1.size a ≤ S32.size a := fun v4 k0_hw1 r => k0_hw1.1 r
theorem k0_off3_inb : ∀ (v4 : BitVec 32) (k0_hw1 : k0_chk1 v4), ∀ (r : Fin 3), ∀ a, (k0_off3 v4 (BitVec.ofNat 32 (15 + r.val))) a + S64x64.size a ≤ S2048x64.size a := fun v4 k0_hw1 r => k0_hw1.2.1 r
theorem k0_off4_inb : ∀ (v4 : BitVec 32) (k0_hw1 : k0_chk1 v4), ∀ (r : Fin 3), ∀ a, (k0_off4 v4 (BitVec.ofNat 32 (15 + r.val))) a + S64x2048.size a ≤ S2048x2048.size a := fun v4 k0_hw1 r => k0_hw1.2.2.1 r
theorem k0_off5_inb : ∀ (v4 : BitVec 32) (k0_hw1 : k0_chk1 v4), ∀ (r : Fin 32), ∀ a, (k0_off5 v4 (BitVec.ofNat 32 r.val)) a + S64x1024.size a ≤ S2048x2048.size a := fun v4 k0_hw1 r => k0_hw1.2.2.2.1 r
theorem k0_off6_inb : ∀ (v4 : BitVec 32) (k0_hw1 : k0_chk1 v4), ∀ (r : Fin 32), ∀ a, (k0_off6 v4 (BitVec.ofNat 32 r.val)) a + S64x1024.size a ≤ S2048x2048.size a := fun v4 k0_hw1 r => k0_hw1.2.2.2.2.1 r
theorem k0_off7_inb : ∀ (v4 : BitVec 32) (k0_hw1 : k0_chk1 v4), ∀ (r : Fin 29), ∀ a, (k0_off7 v4 (k0_off7_at r)) a + S64x64.size a ≤ S2048x64.size a := fun v4 k0_hw1 r => k0_hw1.2.2.2.2.2.1 r
theorem k0_off8_inb : ∀ (v4 : BitVec 32) (k0_hw1 : k0_chk1 v4), ∀ (r : Fin 29), ∀ a, (k0_off8 v4 (k0_off8_at r)) a + S64x2048.size a ≤ S2048x2048.size a := fun v4 k0_hw1 r => k0_hw1.2.2.2.2.2.2.1 r
theorem k0_off9_inb : ∀ (v4 : BitVec 32) (k0_hw1 : k0_chk1 v4), ∀ (r : Fin 29), ∀ a, (k0_off9 v4 (k0_off9_at r)) a + S64x1024.size a ≤ S2048x2048.size a := fun v4 k0_hw1 r => k0_hw1.2.2.2.2.2.2.2.1 r
theorem k0_off10_inb : ∀ (v4 : BitVec 32) (k0_hw1 : k0_chk1 v4), ∀ (r : Fin 29), ∀ a, (k0_off10 v4 (k0_off10_at r)) a + S64x1024.size a ≤ S2048x2048.size a := fun v4 k0_hw1 r => k0_hw1.2.2.2.2.2.2.2.2.1 r
theorem k0_off11_inb : ∀ (v4 : BitVec 32) (k0_hw1 : k0_chk1 v4), ∀ a, (k0_off11 v4) a + S64x1024.size a ≤ S2048x2048.size a := fun v4 k0_hw1 => k0_hw1.2.2.2.2.2.2.2.2.2.1
theorem k0_off12_inb : ∀ (v4 : BitVec 32) (k0_hw1 : k0_chk1 v4), ∀ a, (k0_off12 v4) a + S64x1024.size a ≤ S2048x2048.size a := fun v4 k0_hw1 => k0_hw1.2.2.2.2.2.2.2.2.2.2

def k0_dev67 (v8 : BitVec 32) : Nat :=
  let c0_i32_2095 : BitVec 32 := 0#32
  let c1_i32_2094 : BitVec 32 := 1#32
  let v2279 : BitVec 32 := Scalar.muli v8 c1_i32_2094
  let v2280 : BitVec 32 := Scalar.addi c0_i32_2095 v2279
  v2280.toNat
def k0_dev68 (v12 : BitVec 32) : Nat :=
  let c0_i32_2104 : BitVec 32 := 0#32
  let c1_i32_2103 : BitVec 32 := 1#32
  let v2290 : BitVec 32 := Scalar.muli v12 c1_i32_2103
  let v2291 : BitVec 32 := Scalar.addi c0_i32_2104 v2290
  v2291.toNat
def k0_dev69 (v8 : BitVec 32) : Nat :=
  let c0_i32_2122 : BitVec 32 := 0#32
  let c1_i32_2121 : BitVec 32 := 1#32
  let v2310 : BitVec 32 := Scalar.muli v8 c1_i32_2121
  let v2311 : BitVec 32 := Scalar.addi c0_i32_2122 v2310
  v2311.toNat
def k0_dev70 (v12 : BitVec 32) : Nat :=
  let c0_i32_2140 : BitVec 32 := 0#32
  let c1_i32_2139 : BitVec 32 := 1#32
  let v2330 : BitVec 32 := Scalar.muli v12 c1_i32_2139
  let v2331 : BitVec 32 := Scalar.addi c0_i32_2140 v2330
  v2331.toNat
def k0_dev71 (v8 : BitVec 32) : Nat :=
  let c0_i32_2158 : BitVec 32 := 0#32
  let c1_i32_2157 : BitVec 32 := 1#32
  let v2350 : BitVec 32 := Scalar.muli v8 c1_i32_2157
  let v2351 : BitVec 32 := Scalar.addi c0_i32_2158 v2350
  v2351.toNat
def k0_dev72 (v12 : BitVec 32) : Nat :=
  let c0_i32_2176 : BitVec 32 := 0#32
  let c1_i32_2175 : BitVec 32 := 1#32
  let v2370 : BitVec 32 := Scalar.muli v12 c1_i32_2175
  let v2371 : BitVec 32 := Scalar.addi c0_i32_2176 v2370
  v2371.toNat
def k0_dev73 (v8 : BitVec 32) : Nat :=
  let c0_i32_2194 : BitVec 32 := 0#32
  let c1_i32_2193 : BitVec 32 := 1#32
  let v2390 : BitVec 32 := Scalar.muli v8 c1_i32_2193
  let v2391 : BitVec 32 := Scalar.addi c0_i32_2194 v2390
  v2391.toNat
def k0_dev74 (v12 : BitVec 32) : Nat :=
  let c0_i32_2212 : BitVec 32 := 0#32
  let c1_i32_2211 : BitVec 32 := 1#32
  let v2410 : BitVec 32 := Scalar.muli v12 c1_i32_2211
  let v2411 : BitVec 32 := Scalar.addi c0_i32_2212 v2410
  v2411.toNat
def k0_dev75 (v8 : BitVec 32) : Nat :=
  let c0_i32_2230 : BitVec 32 := 0#32
  let c1_i32_2229 : BitVec 32 := 1#32
  let v2430 : BitVec 32 := Scalar.muli v8 c1_i32_2229
  let v2431 : BitVec 32 := Scalar.addi c0_i32_2230 v2430
  v2431.toNat
def k0_dev76 (v12 : BitVec 32) : Nat :=
  let c0_i32_2248 : BitVec 32 := 0#32
  let c1_i32_2247 : BitVec 32 := 1#32
  let v2450 : BitVec 32 := Scalar.muli v12 c1_i32_2247
  let v2451 : BitVec 32 := Scalar.addi c0_i32_2248 v2450
  v2451.toNat
def k0_dev77 (v8 : BitVec 32) : Nat :=
  let c0_i32_2266 : BitVec 32 := 0#32
  let c1_i32_2265 : BitVec 32 := 1#32
  let v2470 : BitVec 32 := Scalar.muli v8 c1_i32_2265
  let v2471 : BitVec 32 := Scalar.addi c0_i32_2266 v2470
  v2471.toNat
def k0_dev78 (v12 : BitVec 32) : Nat :=
  let c0_i32_2284 : BitVec 32 := 0#32
  let c1_i32_2283 : BitVec 32 := 1#32
  let v2490 : BitVec 32 := Scalar.muli v12 c1_i32_2283
  let v2491 : BitVec 32 := Scalar.addi c0_i32_2284 v2490
  v2491.toNat
def k0_dev79 (v8 : BitVec 32) : Nat :=
  let c0_i32_2302 : BitVec 32 := 0#32
  let c1_i32_2301 : BitVec 32 := 1#32
  let v2510 : BitVec 32 := Scalar.muli v8 c1_i32_2301
  let v2511 : BitVec 32 := Scalar.addi c0_i32_2302 v2510
  v2511.toNat
def k0_dev80 (v12 : BitVec 32) : Nat :=
  let c0_i32_2320 : BitVec 32 := 0#32
  let c1_i32_2319 : BitVec 32 := 1#32
  let v2530 : BitVec 32 := Scalar.muli v12 c1_i32_2319
  let v2531 : BitVec 32 := Scalar.addi c0_i32_2320 v2530
  v2531.toNat
def k0_dev81 (v8 : BitVec 32) : Nat :=
  let c0_i32_2338 : BitVec 32 := 0#32
  let c1_i32_2337 : BitVec 32 := 1#32
  let v2550 : BitVec 32 := Scalar.muli v8 c1_i32_2337
  let v2551 : BitVec 32 := Scalar.addi c0_i32_2338 v2550
  v2551.toNat
def k0_dev82 (v12 : BitVec 32) : Nat :=
  let c0_i32_2356 : BitVec 32 := 0#32
  let c1_i32_2355 : BitVec 32 := 1#32
  let v2570 : BitVec 32 := Scalar.muli v12 c1_i32_2355
  let v2571 : BitVec 32 := Scalar.addi c0_i32_2356 v2570
  v2571.toNat
def k0_dev83 (v8 : BitVec 32) : Nat :=
  let c0_i32_2374 : BitVec 32 := 0#32
  let c1_i32_2373 : BitVec 32 := 1#32
  let v2590 : BitVec 32 := Scalar.muli v8 c1_i32_2373
  let v2591 : BitVec 32 := Scalar.addi c0_i32_2374 v2590
  v2591.toNat
def k0_dev84 (v12 : BitVec 32) : Nat :=
  let c0_i32_2392 : BitVec 32 := 0#32
  let c1_i32_2391 : BitVec 32 := 1#32
  let v2610 : BitVec 32 := Scalar.muli v12 c1_i32_2391
  let v2611 : BitVec 32 := Scalar.addi c0_i32_2392 v2610
  v2611.toNat
def k0_dev85 (v8 : BitVec 32) : Nat :=
  let c0_i32_2410 : BitVec 32 := 0#32
  let c1_i32_2409 : BitVec 32 := 1#32
  let v2630 : BitVec 32 := Scalar.muli v8 c1_i32_2409
  let v2631 : BitVec 32 := Scalar.addi c0_i32_2410 v2630
  v2631.toNat
def k0_dev86 (v12 : BitVec 32) : Nat :=
  let c0_i32_2428 : BitVec 32 := 0#32
  let c1_i32_2427 : BitVec 32 := 1#32
  let v2650 : BitVec 32 := Scalar.muli v12 c1_i32_2427
  let v2651 : BitVec 32 := Scalar.addi c0_i32_2428 v2650
  v2651.toNat
def k0_dev87 (v8 : BitVec 32) : Nat :=
  let c0_i32_2446 : BitVec 32 := 0#32
  let c1_i32_2445 : BitVec 32 := 1#32
  let v2670 : BitVec 32 := Scalar.muli v8 c1_i32_2445
  let v2671 : BitVec 32 := Scalar.addi c0_i32_2446 v2670
  v2671.toNat
def k0_dev88 (v12 : BitVec 32) : Nat :=
  let c0_i32_2464 : BitVec 32 := 0#32
  let c1_i32_2463 : BitVec 32 := 1#32
  let v2690 : BitVec 32 := Scalar.muli v12 c1_i32_2463
  let v2691 : BitVec 32 := Scalar.addi c0_i32_2464 v2690
  v2691.toNat
def k0_dev89 (v8 : BitVec 32) : Nat :=
  let c0_i32_2482 : BitVec 32 := 0#32
  let c1_i32_2481 : BitVec 32 := 1#32
  let v2710 : BitVec 32 := Scalar.muli v8 c1_i32_2481
  let v2711 : BitVec 32 := Scalar.addi c0_i32_2482 v2710
  v2711.toNat
def k0_dev90 (v12 : BitVec 32) : Nat :=
  let c0_i32_2500 : BitVec 32 := 0#32
  let c1_i32_2499 : BitVec 32 := 1#32
  let v2730 : BitVec 32 := Scalar.muli v12 c1_i32_2499
  let v2731 : BitVec 32 := Scalar.addi c0_i32_2500 v2730
  v2731.toNat
def k0_dev91 (v8 : BitVec 32) : Nat :=
  let c0_i32_2518 : BitVec 32 := 0#32
  let c1_i32_2517 : BitVec 32 := 1#32
  let v2750 : BitVec 32 := Scalar.muli v8 c1_i32_2517
  let v2751 : BitVec 32 := Scalar.addi c0_i32_2518 v2750
  v2751.toNat
def k0_dev92 (v12 : BitVec 32) : Nat :=
  let c0_i32_2536 : BitVec 32 := 0#32
  let c1_i32_2535 : BitVec 32 := 1#32
  let v2770 : BitVec 32 := Scalar.muli v12 c1_i32_2535
  let v2771 : BitVec 32 := Scalar.addi c0_i32_2536 v2770
  v2771.toNat
def k0_dev93 (v8 : BitVec 32) : Nat :=
  let c0_i32_2554 : BitVec 32 := 0#32
  let c1_i32_2553 : BitVec 32 := 1#32
  let v2790 : BitVec 32 := Scalar.muli v8 c1_i32_2553
  let v2791 : BitVec 32 := Scalar.addi c0_i32_2554 v2790
  v2791.toNat
def k0_dev94 (v12 : BitVec 32) : Nat :=
  let c0_i32_2572 : BitVec 32 := 0#32
  let c1_i32_2571 : BitVec 32 := 1#32
  let v2810 : BitVec 32 := Scalar.muli v12 c1_i32_2571
  let v2811 : BitVec 32 := Scalar.addi c0_i32_2572 v2810
  v2811.toNat
def k0_dev95 (v8 : BitVec 32) : Nat :=
  let c0_i32_2590 : BitVec 32 := 0#32
  let c1_i32_2589 : BitVec 32 := 1#32
  let v2830 : BitVec 32 := Scalar.muli v8 c1_i32_2589
  let v2831 : BitVec 32 := Scalar.addi c0_i32_2590 v2830
  v2831.toNat
def k0_dev96 (v12 : BitVec 32) : Nat :=
  let c0_i32_2608 : BitVec 32 := 0#32
  let c1_i32_2607 : BitVec 32 := 1#32
  let v2850 : BitVec 32 := Scalar.muli v12 c1_i32_2607
  let v2851 : BitVec 32 := Scalar.addi c0_i32_2608 v2850
  v2851.toNat
def k0_dev97 (v8 : BitVec 32) : Nat :=
  let c0_i32_2626 : BitVec 32 := 0#32
  let c1_i32_2625 : BitVec 32 := 1#32
  let v2870 : BitVec 32 := Scalar.muli v8 c1_i32_2625
  let v2871 : BitVec 32 := Scalar.addi c0_i32_2626 v2870
  v2871.toNat
def k0_dev98 (v12 : BitVec 32) : Nat :=
  let c0_i32_2644 : BitVec 32 := 0#32
  let c1_i32_2643 : BitVec 32 := 1#32
  let v2890 : BitVec 32 := Scalar.muli v12 c1_i32_2643
  let v2891 : BitVec 32 := Scalar.addi c0_i32_2644 v2890
  v2891.toNat
def k0_dev99 (v8 : BitVec 32) : Nat :=
  let c0_i32_2662 : BitVec 32 := 0#32
  let c1_i32_2661 : BitVec 32 := 1#32
  let v2910 : BitVec 32 := Scalar.muli v8 c1_i32_2661
  let v2911 : BitVec 32 := Scalar.addi c0_i32_2662 v2910
  v2911.toNat
def k0_dev100 (v12 : BitVec 32) : Nat :=
  let c0_i32_2680 : BitVec 32 := 0#32
  let c1_i32_2679 : BitVec 32 := 1#32
  let v2930 : BitVec 32 := Scalar.muli v12 c1_i32_2679
  let v2931 : BitVec 32 := Scalar.addi c0_i32_2680 v2930
  v2931.toNat
def k0_dev101 (v8 : BitVec 32) : Nat :=
  let c0_i32_2698 : BitVec 32 := 0#32
  let c1_i32_2697 : BitVec 32 := 1#32
  let v2950 : BitVec 32 := Scalar.muli v8 c1_i32_2697
  let v2951 : BitVec 32 := Scalar.addi c0_i32_2698 v2950
  v2951.toNat
def k0_dev102 (v12 : BitVec 32) : Nat :=
  let c0_i32_2716 : BitVec 32 := 0#32
  let c1_i32_2715 : BitVec 32 := 1#32
  let v2970 : BitVec 32 := Scalar.muli v12 c1_i32_2715
  let v2971 : BitVec 32 := Scalar.addi c0_i32_2716 v2970
  v2971.toNat
def k0_dev103 (v8 : BitVec 32) : Nat :=
  let c0_i32_2734 : BitVec 32 := 0#32
  let c1_i32_2733 : BitVec 32 := 1#32
  let v2990 : BitVec 32 := Scalar.muli v8 c1_i32_2733
  let v2991 : BitVec 32 := Scalar.addi c0_i32_2734 v2990
  v2991.toNat
def k0_dev104 (v12 : BitVec 32) : Nat :=
  let c0_i32_2752 : BitVec 32 := 0#32
  let c1_i32_2751 : BitVec 32 := 1#32
  let v3010 : BitVec 32 := Scalar.muli v12 c1_i32_2751
  let v3011 : BitVec 32 := Scalar.addi c0_i32_2752 v3010
  v3011.toNat
def k0_dev105 (v8 : BitVec 32) : Nat :=
  let c0_i32_2770 : BitVec 32 := 0#32
  let c1_i32_2769 : BitVec 32 := 1#32
  let v3030 : BitVec 32 := Scalar.muli v8 c1_i32_2769
  let v3031 : BitVec 32 := Scalar.addi c0_i32_2770 v3030
  v3031.toNat
def k0_dev106 (v12 : BitVec 32) : Nat :=
  let c0_i32_2788 : BitVec 32 := 0#32
  let c1_i32_2787 : BitVec 32 := 1#32
  let v3050 : BitVec 32 := Scalar.muli v12 c1_i32_2787
  let v3051 : BitVec 32 := Scalar.addi c0_i32_2788 v3050
  v3051.toNat
def k0_dev107 (v8 : BitVec 32) : Nat :=
  let c0_i32_2806 : BitVec 32 := 0#32
  let c1_i32_2805 : BitVec 32 := 1#32
  let v3070 : BitVec 32 := Scalar.muli v8 c1_i32_2805
  let v3071 : BitVec 32 := Scalar.addi c0_i32_2806 v3070
  v3071.toNat
def k0_dev108 (v12 : BitVec 32) : Nat :=
  let c0_i32_2824 : BitVec 32 := 0#32
  let c1_i32_2823 : BitVec 32 := 1#32
  let v3090 : BitVec 32 := Scalar.muli v12 c1_i32_2823
  let v3091 : BitVec 32 := Scalar.addi c0_i32_2824 v3090
  v3091.toNat
def k0_dev109 (v8 : BitVec 32) : Nat :=
  let c0_i32_2842 : BitVec 32 := 0#32
  let c1_i32_2841 : BitVec 32 := 1#32
  let v3110 : BitVec 32 := Scalar.muli v8 c1_i32_2841
  let v3111 : BitVec 32 := Scalar.addi c0_i32_2842 v3110
  v3111.toNat
def k0_dev110 (v12 : BitVec 32) : Nat :=
  let c0_i32_2860 : BitVec 32 := 0#32
  let c1_i32_2859 : BitVec 32 := 1#32
  let v3130 : BitVec 32 := Scalar.muli v12 c1_i32_2859
  let v3131 : BitVec 32 := Scalar.addi c0_i32_2860 v3130
  v3131.toNat
def k0_dev111 (v8 : BitVec 32) : Nat :=
  let c0_i32_2878 : BitVec 32 := 0#32
  let c1_i32_2877 : BitVec 32 := 1#32
  let v3150 : BitVec 32 := Scalar.muli v8 c1_i32_2877
  let v3151 : BitVec 32 := Scalar.addi c0_i32_2878 v3150
  v3151.toNat
def k0_dev112 (v12 : BitVec 32) : Nat :=
  let c0_i32_2896 : BitVec 32 := 0#32
  let c1_i32_2895 : BitVec 32 := 1#32
  let v3170 : BitVec 32 := Scalar.muli v12 c1_i32_2895
  let v3171 : BitVec 32 := Scalar.addi c0_i32_2896 v3170
  v3171.toNat
def k0_dev113 (v8 : BitVec 32) : Nat :=
  let c0_i32_2914 : BitVec 32 := 0#32
  let c1_i32_2913 : BitVec 32 := 1#32
  let v3190 : BitVec 32 := Scalar.muli v8 c1_i32_2913
  let v3191 : BitVec 32 := Scalar.addi c0_i32_2914 v3190
  v3191.toNat
def k0_dev114 (v12 : BitVec 32) : Nat :=
  let c0_i32_2932 : BitVec 32 := 0#32
  let c1_i32_2931 : BitVec 32 := 1#32
  let v3210 : BitVec 32 := Scalar.muli v12 c1_i32_2931
  let v3211 : BitVec 32 := Scalar.addi c0_i32_2932 v3210
  v3211.toNat
def k0_dev115 (v8 : BitVec 32) : Nat :=
  let c0_i32_2950 : BitVec 32 := 0#32
  let c1_i32_2949 : BitVec 32 := 1#32
  let v3230 : BitVec 32 := Scalar.muli v8 c1_i32_2949
  let v3231 : BitVec 32 := Scalar.addi c0_i32_2950 v3230
  v3231.toNat
def k0_dev116 (v12 : BitVec 32) : Nat :=
  let c0_i32_2968 : BitVec 32 := 0#32
  let c1_i32_2967 : BitVec 32 := 1#32
  let v3250 : BitVec 32 := Scalar.muli v12 c1_i32_2967
  let v3251 : BitVec 32 := Scalar.addi c0_i32_2968 v3250
  v3251.toNat
def k0_dev117 (v8 : BitVec 32) : Nat :=
  let c0_i32_2986 : BitVec 32 := 0#32
  let c1_i32_2985 : BitVec 32 := 1#32
  let v3270 : BitVec 32 := Scalar.muli v8 c1_i32_2985
  let v3271 : BitVec 32 := Scalar.addi c0_i32_2986 v3270
  v3271.toNat
def k0_dev118 (v12 : BitVec 32) : Nat :=
  let c0_i32_3004 : BitVec 32 := 0#32
  let c1_i32_3003 : BitVec 32 := 1#32
  let v3290 : BitVec 32 := Scalar.muli v12 c1_i32_3003
  let v3291 : BitVec 32 := Scalar.addi c0_i32_3004 v3290
  v3291.toNat
def k0_dev119 (v8 : BitVec 32) : Nat :=
  let c0_i32_3022 : BitVec 32 := 0#32
  let c1_i32_3021 : BitVec 32 := 1#32
  let v3310 : BitVec 32 := Scalar.muli v8 c1_i32_3021
  let v3311 : BitVec 32 := Scalar.addi c0_i32_3022 v3310
  v3311.toNat
def k0_dev120 (v12 : BitVec 32) : Nat :=
  let c0_i32_3040 : BitVec 32 := 0#32
  let c1_i32_3039 : BitVec 32 := 1#32
  let v3330 : BitVec 32 := Scalar.muli v12 c1_i32_3039
  let v3331 : BitVec 32 := Scalar.addi c0_i32_3040 v3330
  v3331.toNat
def k0_dev121 (v8 : BitVec 32) : Nat :=
  let c0_i32_3058 : BitVec 32 := 0#32
  let c1_i32_3057 : BitVec 32 := 1#32
  let v3350 : BitVec 32 := Scalar.muli v8 c1_i32_3057
  let v3351 : BitVec 32 := Scalar.addi c0_i32_3058 v3350
  v3351.toNat
def k0_dev122 (v12 : BitVec 32) : Nat :=
  let c0_i32_3076 : BitVec 32 := 0#32
  let c1_i32_3075 : BitVec 32 := 1#32
  let v3370 : BitVec 32 := Scalar.muli v12 c1_i32_3075
  let v3371 : BitVec 32 := Scalar.addi c0_i32_3076 v3370
  v3371.toNat
def k0_dev123 (v8 : BitVec 32) : Nat :=
  let c0_i32_3094 : BitVec 32 := 0#32
  let c1_i32_3093 : BitVec 32 := 1#32
  let v3390 : BitVec 32 := Scalar.muli v8 c1_i32_3093
  let v3391 : BitVec 32 := Scalar.addi c0_i32_3094 v3390
  v3391.toNat
def k0_dev124 (v12 : BitVec 32) : Nat :=
  let c0_i32_3112 : BitVec 32 := 0#32
  let c1_i32_3111 : BitVec 32 := 1#32
  let v3410 : BitVec 32 := Scalar.muli v12 c1_i32_3111
  let v3411 : BitVec 32 := Scalar.addi c0_i32_3112 v3410
  v3411.toNat
def k0_dev125 (v8 : BitVec 32) : Nat :=
  let c0_i32_3130 : BitVec 32 := 0#32
  let c1_i32_3129 : BitVec 32 := 1#32
  let v3430 : BitVec 32 := Scalar.muli v8 c1_i32_3129
  let v3431 : BitVec 32 := Scalar.addi c0_i32_3130 v3430
  v3431.toNat

def k0_chk2_0 (v8 : BitVec 32) : Prop :=
  ((k0_dev1 v8) < nD) ∧
  ((k0_dev3 v8) < nD) ∧
  ((k0_dev5 v8) < nD) ∧
  ((k0_dev7 v8) < nD) ∧
  ((k0_dev9 v8) < nD) ∧
  ((k0_dev11 v8) < nD) ∧
  ((k0_dev13 v8) < nD) ∧
  ((k0_dev15 v8) < nD) ∧
  ((k0_dev17 v8) < nD) ∧
  ((k0_dev19 v8) < nD) ∧
  ((k0_dev21 v8) < nD) ∧
  ((k0_dev23 v8) < nD) ∧
  ((k0_dev25 v8) < nD) ∧
  ((k0_dev27 v8) < nD) ∧
  ((k0_dev29 v8) < nD) ∧
  ((k0_dev31 v8) < nD) ∧
  ((k0_dev33 v8) < nD) ∧
  ((k0_dev35 v8) < nD) ∧
  ((k0_dev37 v8) < nD) ∧
  ((k0_dev39 v8) < nD) ∧
  ((k0_dev41 v8) < nD) ∧
  ((k0_dev43 v8) < nD) ∧
  ((k0_dev45 v8) < nD) ∧
  ((k0_dev47 v8) < nD) ∧
  ((k0_dev49 v8) < nD) ∧
  ((k0_dev51 v8) < nD) ∧
  ((k0_dev53 v8) < nD) ∧
  ((k0_dev55 v8) < nD) ∧
  ((k0_dev57 v8) < nD) ∧
  ((k0_dev59 v8) < nD) ∧
  ((k0_dev61 v8) < nD) ∧
  ((k0_dev63 v8) < nD)
def k0_chk2_1 (v8 : BitVec 32) : Prop :=
  ((k0_dev65 v8) < nD) ∧
  ((k0_dev67 v8) < nD) ∧
  ((k0_dev69 v8) < nD) ∧
  ((k0_dev71 v8) < nD) ∧
  ((k0_dev73 v8) < nD) ∧
  ((k0_dev75 v8) < nD) ∧
  ((k0_dev77 v8) < nD) ∧
  ((k0_dev79 v8) < nD) ∧
  ((k0_dev81 v8) < nD) ∧
  ((k0_dev83 v8) < nD) ∧
  ((k0_dev85 v8) < nD) ∧
  ((k0_dev87 v8) < nD) ∧
  ((k0_dev89 v8) < nD) ∧
  ((k0_dev91 v8) < nD) ∧
  ((k0_dev93 v8) < nD) ∧
  ((k0_dev95 v8) < nD) ∧
  ((k0_dev97 v8) < nD) ∧
  ((k0_dev99 v8) < nD) ∧
  ((k0_dev101 v8) < nD) ∧
  ((k0_dev103 v8) < nD) ∧
  ((k0_dev105 v8) < nD) ∧
  ((k0_dev107 v8) < nD) ∧
  ((k0_dev109 v8) < nD) ∧
  ((k0_dev111 v8) < nD) ∧
  ((k0_dev113 v8) < nD) ∧
  ((k0_dev115 v8) < nD) ∧
  ((k0_dev117 v8) < nD) ∧
  ((k0_dev119 v8) < nD) ∧
  ((k0_dev121 v8) < nD) ∧
  ((k0_dev123 v8) < nD) ∧
  ((k0_dev125 v8) < nD)
def k0_chk2 (v8 : BitVec 32) : Prop :=
  k0_chk2_0 v8 ∧
  k0_chk2_1 v8
theorem k0_dev1_lt : ∀ (v8 : BitVec 32) (k0_hw2 : k0_chk2 v8), (k0_dev1 v8) < nD := fun v8 k0_hw2 => k0_hw2.1.1
theorem k0_dev3_lt : ∀ (v8 : BitVec 32) (k0_hw2 : k0_chk2 v8), (k0_dev3 v8) < nD := fun v8 k0_hw2 => k0_hw2.1.2.1
theorem k0_dev5_lt : ∀ (v8 : BitVec 32) (k0_hw2 : k0_chk2 v8), (k0_dev5 v8) < nD := fun v8 k0_hw2 => k0_hw2.1.2.2.1
theorem k0_dev7_lt : ∀ (v8 : BitVec 32) (k0_hw2 : k0_chk2 v8), (k0_dev7 v8) < nD := fun v8 k0_hw2 => k0_hw2.1.2.2.2.1
theorem k0_dev9_lt : ∀ (v8 : BitVec 32) (k0_hw2 : k0_chk2 v8), (k0_dev9 v8) < nD := fun v8 k0_hw2 => k0_hw2.1.2.2.2.2.1
theorem k0_dev11_lt : ∀ (v8 : BitVec 32) (k0_hw2 : k0_chk2 v8), (k0_dev11 v8) < nD := fun v8 k0_hw2 => k0_hw2.1.2.2.2.2.2.1
theorem k0_dev13_lt : ∀ (v8 : BitVec 32) (k0_hw2 : k0_chk2 v8), (k0_dev13 v8) < nD := fun v8 k0_hw2 => k0_hw2.1.2.2.2.2.2.2.1
theorem k0_dev15_lt : ∀ (v8 : BitVec 32) (k0_hw2 : k0_chk2 v8), (k0_dev15 v8) < nD := fun v8 k0_hw2 => k0_hw2.1.2.2.2.2.2.2.2.1
theorem k0_dev17_lt : ∀ (v8 : BitVec 32) (k0_hw2 : k0_chk2 v8), (k0_dev17 v8) < nD := fun v8 k0_hw2 => k0_hw2.1.2.2.2.2.2.2.2.2.1
theorem k0_dev19_lt : ∀ (v8 : BitVec 32) (k0_hw2 : k0_chk2 v8), (k0_dev19 v8) < nD := fun v8 k0_hw2 => k0_hw2.1.2.2.2.2.2.2.2.2.2.1
theorem k0_dev21_lt : ∀ (v8 : BitVec 32) (k0_hw2 : k0_chk2 v8), (k0_dev21 v8) < nD := fun v8 k0_hw2 => k0_hw2.1.2.2.2.2.2.2.2.2.2.2.1
theorem k0_dev23_lt : ∀ (v8 : BitVec 32) (k0_hw2 : k0_chk2 v8), (k0_dev23 v8) < nD := fun v8 k0_hw2 => k0_hw2.1.2.2.2.2.2.2.2.2.2.2.2.1
theorem k0_dev25_lt : ∀ (v8 : BitVec 32) (k0_hw2 : k0_chk2 v8), (k0_dev25 v8) < nD := fun v8 k0_hw2 => k0_hw2.1.2.2.2.2.2.2.2.2.2.2.2.2.1
theorem k0_dev27_lt : ∀ (v8 : BitVec 32) (k0_hw2 : k0_chk2 v8), (k0_dev27 v8) < nD := fun v8 k0_hw2 => k0_hw2.1.2.2.2.2.2.2.2.2.2.2.2.2.2.1
theorem k0_dev29_lt : ∀ (v8 : BitVec 32) (k0_hw2 : k0_chk2 v8), (k0_dev29 v8) < nD := fun v8 k0_hw2 => k0_hw2.1.2.2.2.2.2.2.2.2.2.2.2.2.2.2.1
theorem k0_dev31_lt : ∀ (v8 : BitVec 32) (k0_hw2 : k0_chk2 v8), (k0_dev31 v8) < nD := fun v8 k0_hw2 => k0_hw2.1.2.2.2.2.2.2.2.2.2.2.2.2.2.2.2.1
theorem k0_dev33_lt : ∀ (v8 : BitVec 32) (k0_hw2 : k0_chk2 v8), (k0_dev33 v8) < nD := fun v8 k0_hw2 => k0_hw2.1.2.2.2.2.2.2.2.2.2.2.2.2.2.2.2.2.1
theorem k0_dev35_lt : ∀ (v8 : BitVec 32) (k0_hw2 : k0_chk2 v8), (k0_dev35 v8) < nD := fun v8 k0_hw2 => k0_hw2.1.2.2.2.2.2.2.2.2.2.2.2.2.2.2.2.2.2.1
theorem k0_dev37_lt : ∀ (v8 : BitVec 32) (k0_hw2 : k0_chk2 v8), (k0_dev37 v8) < nD := fun v8 k0_hw2 => k0_hw2.1.2.2.2.2.2.2.2.2.2.2.2.2.2.2.2.2.2.2.1
theorem k0_dev39_lt : ∀ (v8 : BitVec 32) (k0_hw2 : k0_chk2 v8), (k0_dev39 v8) < nD := fun v8 k0_hw2 => k0_hw2.1.2.2.2.2.2.2.2.2.2.2.2.2.2.2.2.2.2.2.2.1
theorem k0_dev41_lt : ∀ (v8 : BitVec 32) (k0_hw2 : k0_chk2 v8), (k0_dev41 v8) < nD := fun v8 k0_hw2 => k0_hw2.1.2.2.2.2.2.2.2.2.2.2.2.2.2.2.2.2.2.2.2.2.1
theorem k0_dev43_lt : ∀ (v8 : BitVec 32) (k0_hw2 : k0_chk2 v8), (k0_dev43 v8) < nD := fun v8 k0_hw2 => k0_hw2.1.2.2.2.2.2.2.2.2.2.2.2.2.2.2.2.2.2.2.2.2.2.1
theorem k0_dev45_lt : ∀ (v8 : BitVec 32) (k0_hw2 : k0_chk2 v8), (k0_dev45 v8) < nD := fun v8 k0_hw2 => k0_hw2.1.2.2.2.2.2.2.2.2.2.2.2.2.2.2.2.2.2.2.2.2.2.2.1
theorem k0_dev47_lt : ∀ (v8 : BitVec 32) (k0_hw2 : k0_chk2 v8), (k0_dev47 v8) < nD := fun v8 k0_hw2 => k0_hw2.1.2.2.2.2.2.2.2.2.2.2.2.2.2.2.2.2.2.2.2.2.2.2.2.1
theorem k0_dev49_lt : ∀ (v8 : BitVec 32) (k0_hw2 : k0_chk2 v8), (k0_dev49 v8) < nD := fun v8 k0_hw2 => k0_hw2.1.2.2.2.2.2.2.2.2.2.2.2.2.2.2.2.2.2.2.2.2.2.2.2.2.1
theorem k0_dev51_lt : ∀ (v8 : BitVec 32) (k0_hw2 : k0_chk2 v8), (k0_dev51 v8) < nD := fun v8 k0_hw2 => k0_hw2.1.2.2.2.2.2.2.2.2.2.2.2.2.2.2.2.2.2.2.2.2.2.2.2.2.2.1
theorem k0_dev53_lt : ∀ (v8 : BitVec 32) (k0_hw2 : k0_chk2 v8), (k0_dev53 v8) < nD := fun v8 k0_hw2 => k0_hw2.1.2.2.2.2.2.2.2.2.2.2.2.2.2.2.2.2.2.2.2.2.2.2.2.2.2.2.1
theorem k0_dev55_lt : ∀ (v8 : BitVec 32) (k0_hw2 : k0_chk2 v8), (k0_dev55 v8) < nD := fun v8 k0_hw2 => k0_hw2.1.2.2.2.2.2.2.2.2.2.2.2.2.2.2.2.2.2.2.2.2.2.2.2.2.2.2.2.1
theorem k0_dev57_lt : ∀ (v8 : BitVec 32) (k0_hw2 : k0_chk2 v8), (k0_dev57 v8) < nD := fun v8 k0_hw2 => k0_hw2.1.2.2.2.2.2.2.2.2.2.2.2.2.2.2.2.2.2.2.2.2.2.2.2.2.2.2.2.2.1
theorem k0_dev59_lt : ∀ (v8 : BitVec 32) (k0_hw2 : k0_chk2 v8), (k0_dev59 v8) < nD := fun v8 k0_hw2 => k0_hw2.1.2.2.2.2.2.2.2.2.2.2.2.2.2.2.2.2.2.2.2.2.2.2.2.2.2.2.2.2.2.1
theorem k0_dev61_lt : ∀ (v8 : BitVec 32) (k0_hw2 : k0_chk2 v8), (k0_dev61 v8) < nD := fun v8 k0_hw2 => k0_hw2.1.2.2.2.2.2.2.2.2.2.2.2.2.2.2.2.2.2.2.2.2.2.2.2.2.2.2.2.2.2.2.1
theorem k0_dev63_lt : ∀ (v8 : BitVec 32) (k0_hw2 : k0_chk2 v8), (k0_dev63 v8) < nD := fun v8 k0_hw2 => k0_hw2.1.2.2.2.2.2.2.2.2.2.2.2.2.2.2.2.2.2.2.2.2.2.2.2.2.2.2.2.2.2.2.2
theorem k0_dev65_lt : ∀ (v8 : BitVec 32) (k0_hw2 : k0_chk2 v8), (k0_dev65 v8) < nD := fun v8 k0_hw2 => k0_hw2.2.1
theorem k0_dev67_lt : ∀ (v8 : BitVec 32) (k0_hw2 : k0_chk2 v8), (k0_dev67 v8) < nD := fun v8 k0_hw2 => k0_hw2.2.2.1
theorem k0_dev69_lt : ∀ (v8 : BitVec 32) (k0_hw2 : k0_chk2 v8), (k0_dev69 v8) < nD := fun v8 k0_hw2 => k0_hw2.2.2.2.1
theorem k0_dev71_lt : ∀ (v8 : BitVec 32) (k0_hw2 : k0_chk2 v8), (k0_dev71 v8) < nD := fun v8 k0_hw2 => k0_hw2.2.2.2.2.1
theorem k0_dev73_lt : ∀ (v8 : BitVec 32) (k0_hw2 : k0_chk2 v8), (k0_dev73 v8) < nD := fun v8 k0_hw2 => k0_hw2.2.2.2.2.2.1
theorem k0_dev75_lt : ∀ (v8 : BitVec 32) (k0_hw2 : k0_chk2 v8), (k0_dev75 v8) < nD := fun v8 k0_hw2 => k0_hw2.2.2.2.2.2.2.1
theorem k0_dev77_lt : ∀ (v8 : BitVec 32) (k0_hw2 : k0_chk2 v8), (k0_dev77 v8) < nD := fun v8 k0_hw2 => k0_hw2.2.2.2.2.2.2.2.1
theorem k0_dev79_lt : ∀ (v8 : BitVec 32) (k0_hw2 : k0_chk2 v8), (k0_dev79 v8) < nD := fun v8 k0_hw2 => k0_hw2.2.2.2.2.2.2.2.2.1
theorem k0_dev81_lt : ∀ (v8 : BitVec 32) (k0_hw2 : k0_chk2 v8), (k0_dev81 v8) < nD := fun v8 k0_hw2 => k0_hw2.2.2.2.2.2.2.2.2.2.1
theorem k0_dev83_lt : ∀ (v8 : BitVec 32) (k0_hw2 : k0_chk2 v8), (k0_dev83 v8) < nD := fun v8 k0_hw2 => k0_hw2.2.2.2.2.2.2.2.2.2.2.1
theorem k0_dev85_lt : ∀ (v8 : BitVec 32) (k0_hw2 : k0_chk2 v8), (k0_dev85 v8) < nD := fun v8 k0_hw2 => k0_hw2.2.2.2.2.2.2.2.2.2.2.2.1
theorem k0_dev87_lt : ∀ (v8 : BitVec 32) (k0_hw2 : k0_chk2 v8), (k0_dev87 v8) < nD := fun v8 k0_hw2 => k0_hw2.2.2.2.2.2.2.2.2.2.2.2.2.1
theorem k0_dev89_lt : ∀ (v8 : BitVec 32) (k0_hw2 : k0_chk2 v8), (k0_dev89 v8) < nD := fun v8 k0_hw2 => k0_hw2.2.2.2.2.2.2.2.2.2.2.2.2.2.1
theorem k0_dev91_lt : ∀ (v8 : BitVec 32) (k0_hw2 : k0_chk2 v8), (k0_dev91 v8) < nD := fun v8 k0_hw2 => k0_hw2.2.2.2.2.2.2.2.2.2.2.2.2.2.2.1
theorem k0_dev93_lt : ∀ (v8 : BitVec 32) (k0_hw2 : k0_chk2 v8), (k0_dev93 v8) < nD := fun v8 k0_hw2 => k0_hw2.2.2.2.2.2.2.2.2.2.2.2.2.2.2.2.1
theorem k0_dev95_lt : ∀ (v8 : BitVec 32) (k0_hw2 : k0_chk2 v8), (k0_dev95 v8) < nD := fun v8 k0_hw2 => k0_hw2.2.2.2.2.2.2.2.2.2.2.2.2.2.2.2.2.1
theorem k0_dev97_lt : ∀ (v8 : BitVec 32) (k0_hw2 : k0_chk2 v8), (k0_dev97 v8) < nD := fun v8 k0_hw2 => k0_hw2.2.2.2.2.2.2.2.2.2.2.2.2.2.2.2.2.2.1
theorem k0_dev99_lt : ∀ (v8 : BitVec 32) (k0_hw2 : k0_chk2 v8), (k0_dev99 v8) < nD := fun v8 k0_hw2 => k0_hw2.2.2.2.2.2.2.2.2.2.2.2.2.2.2.2.2.2.2.1
theorem k0_dev101_lt : ∀ (v8 : BitVec 32) (k0_hw2 : k0_chk2 v8), (k0_dev101 v8) < nD := fun v8 k0_hw2 => k0_hw2.2.2.2.2.2.2.2.2.2.2.2.2.2.2.2.2.2.2.2.1
theorem k0_dev103_lt : ∀ (v8 : BitVec 32) (k0_hw2 : k0_chk2 v8), (k0_dev103 v8) < nD := fun v8 k0_hw2 => k0_hw2.2.2.2.2.2.2.2.2.2.2.2.2.2.2.2.2.2.2.2.2.1
theorem k0_dev105_lt : ∀ (v8 : BitVec 32) (k0_hw2 : k0_chk2 v8), (k0_dev105 v8) < nD := fun v8 k0_hw2 => k0_hw2.2.2.2.2.2.2.2.2.2.2.2.2.2.2.2.2.2.2.2.2.2.1
theorem k0_dev107_lt : ∀ (v8 : BitVec 32) (k0_hw2 : k0_chk2 v8), (k0_dev107 v8) < nD := fun v8 k0_hw2 => k0_hw2.2.2.2.2.2.2.2.2.2.2.2.2.2.2.2.2.2.2.2.2.2.2.1
theorem k0_dev109_lt : ∀ (v8 : BitVec 32) (k0_hw2 : k0_chk2 v8), (k0_dev109 v8) < nD := fun v8 k0_hw2 => k0_hw2.2.2.2.2.2.2.2.2.2.2.2.2.2.2.2.2.2.2.2.2.2.2.2.1
theorem k0_dev111_lt : ∀ (v8 : BitVec 32) (k0_hw2 : k0_chk2 v8), (k0_dev111 v8) < nD := fun v8 k0_hw2 => k0_hw2.2.2.2.2.2.2.2.2.2.2.2.2.2.2.2.2.2.2.2.2.2.2.2.2.1
theorem k0_dev113_lt : ∀ (v8 : BitVec 32) (k0_hw2 : k0_chk2 v8), (k0_dev113 v8) < nD := fun v8 k0_hw2 => k0_hw2.2.2.2.2.2.2.2.2.2.2.2.2.2.2.2.2.2.2.2.2.2.2.2.2.2.1
theorem k0_dev115_lt : ∀ (v8 : BitVec 32) (k0_hw2 : k0_chk2 v8), (k0_dev115 v8) < nD := fun v8 k0_hw2 => k0_hw2.2.2.2.2.2.2.2.2.2.2.2.2.2.2.2.2.2.2.2.2.2.2.2.2.2.2.1
theorem k0_dev117_lt : ∀ (v8 : BitVec 32) (k0_hw2 : k0_chk2 v8), (k0_dev117 v8) < nD := fun v8 k0_hw2 => k0_hw2.2.2.2.2.2.2.2.2.2.2.2.2.2.2.2.2.2.2.2.2.2.2.2.2.2.2.2.1
theorem k0_dev119_lt : ∀ (v8 : BitVec 32) (k0_hw2 : k0_chk2 v8), (k0_dev119 v8) < nD := fun v8 k0_hw2 => k0_hw2.2.2.2.2.2.2.2.2.2.2.2.2.2.2.2.2.2.2.2.2.2.2.2.2.2.2.2.2.1
theorem k0_dev121_lt : ∀ (v8 : BitVec 32) (k0_hw2 : k0_chk2 v8), (k0_dev121 v8) < nD := fun v8 k0_hw2 => k0_hw2.2.2.2.2.2.2.2.2.2.2.2.2.2.2.2.2.2.2.2.2.2.2.2.2.2.2.2.2.2.1
theorem k0_dev123_lt : ∀ (v8 : BitVec 32) (k0_hw2 : k0_chk2 v8), (k0_dev123 v8) < nD := fun v8 k0_hw2 => k0_hw2.2.2.2.2.2.2.2.2.2.2.2.2.2.2.2.2.2.2.2.2.2.2.2.2.2.2.2.2.2.2.1
theorem k0_dev125_lt : ∀ (v8 : BitVec 32) (k0_hw2 : k0_chk2 v8), (k0_dev125 v8) < nD := fun v8 k0_hw2 => k0_hw2.2.2.2.2.2.2.2.2.2.2.2.2.2.2.2.2.2.2.2.2.2.2.2.2.2.2.2.2.2.2.2

def k0_dev126 (v12 : BitVec 32) : Nat :=
  let c0_i32_3166 : BitVec 32 := 0#32
  let c1_i32_3165 : BitVec 32 := 1#32
  let v3468 : BitVec 32 := Scalar.muli v12 c1_i32_3165
  let v3469 : BitVec 32 := Scalar.addi c0_i32_3166 v3468
  v3469.toNat

def k0_chk3_0 (v12 : BitVec 32) : Prop :=
  ((k0_dev2 v12) < nD) ∧
  ((k0_dev4 v12) < nD) ∧
  ((k0_dev6 v12) < nD) ∧
  ((k0_dev8 v12) < nD) ∧
  ((k0_dev10 v12) < nD) ∧
  ((k0_dev12 v12) < nD) ∧
  ((k0_dev14 v12) < nD) ∧
  ((k0_dev16 v12) < nD) ∧
  ((k0_dev18 v12) < nD) ∧
  ((k0_dev20 v12) < nD) ∧
  ((k0_dev22 v12) < nD) ∧
  ((k0_dev24 v12) < nD) ∧
  ((k0_dev26 v12) < nD) ∧
  ((k0_dev28 v12) < nD) ∧
  ((k0_dev30 v12) < nD) ∧
  ((k0_dev32 v12) < nD) ∧
  ((k0_dev34 v12) < nD) ∧
  ((k0_dev36 v12) < nD) ∧
  ((k0_dev38 v12) < nD) ∧
  ((k0_dev40 v12) < nD) ∧
  ((k0_dev42 v12) < nD) ∧
  ((k0_dev44 v12) < nD) ∧
  ((k0_dev46 v12) < nD) ∧
  ((k0_dev48 v12) < nD) ∧
  ((k0_dev50 v12) < nD) ∧
  ((k0_dev52 v12) < nD) ∧
  ((k0_dev54 v12) < nD) ∧
  ((k0_dev56 v12) < nD) ∧
  ((k0_dev58 v12) < nD) ∧
  ((k0_dev60 v12) < nD) ∧
  ((k0_dev62 v12) < nD) ∧
  ((k0_dev64 v12) < nD)
def k0_chk3_1 (v12 : BitVec 32) : Prop :=
  ((k0_dev66 v12) < nD) ∧
  ((k0_dev68 v12) < nD) ∧
  ((k0_dev70 v12) < nD) ∧
  ((k0_dev72 v12) < nD) ∧
  ((k0_dev74 v12) < nD) ∧
  ((k0_dev76 v12) < nD) ∧
  ((k0_dev78 v12) < nD) ∧
  ((k0_dev80 v12) < nD) ∧
  ((k0_dev82 v12) < nD) ∧
  ((k0_dev84 v12) < nD) ∧
  ((k0_dev86 v12) < nD) ∧
  ((k0_dev88 v12) < nD) ∧
  ((k0_dev90 v12) < nD) ∧
  ((k0_dev92 v12) < nD) ∧
  ((k0_dev94 v12) < nD) ∧
  ((k0_dev96 v12) < nD) ∧
  ((k0_dev98 v12) < nD) ∧
  ((k0_dev100 v12) < nD) ∧
  ((k0_dev102 v12) < nD) ∧
  ((k0_dev104 v12) < nD) ∧
  ((k0_dev106 v12) < nD) ∧
  ((k0_dev108 v12) < nD) ∧
  ((k0_dev110 v12) < nD) ∧
  ((k0_dev112 v12) < nD) ∧
  ((k0_dev114 v12) < nD) ∧
  ((k0_dev116 v12) < nD) ∧
  ((k0_dev118 v12) < nD) ∧
  ((k0_dev120 v12) < nD) ∧
  ((k0_dev122 v12) < nD) ∧
  ((k0_dev124 v12) < nD) ∧
  ((k0_dev126 v12) < nD)
def k0_chk3 (v12 : BitVec 32) : Prop :=
  k0_chk3_0 v12 ∧
  k0_chk3_1 v12
theorem k0_dev2_lt : ∀ (v12 : BitVec 32) (k0_hw3 : k0_chk3 v12), (k0_dev2 v12) < nD := fun v12 k0_hw3 => k0_hw3.1.1
theorem k0_dev4_lt : ∀ (v12 : BitVec 32) (k0_hw3 : k0_chk3 v12), (k0_dev4 v12) < nD := fun v12 k0_hw3 => k0_hw3.1.2.1
theorem k0_dev6_lt : ∀ (v12 : BitVec 32) (k0_hw3 : k0_chk3 v12), (k0_dev6 v12) < nD := fun v12 k0_hw3 => k0_hw3.1.2.2.1
theorem k0_dev8_lt : ∀ (v12 : BitVec 32) (k0_hw3 : k0_chk3 v12), (k0_dev8 v12) < nD := fun v12 k0_hw3 => k0_hw3.1.2.2.2.1
theorem k0_dev10_lt : ∀ (v12 : BitVec 32) (k0_hw3 : k0_chk3 v12), (k0_dev10 v12) < nD := fun v12 k0_hw3 => k0_hw3.1.2.2.2.2.1
theorem k0_dev12_lt : ∀ (v12 : BitVec 32) (k0_hw3 : k0_chk3 v12), (k0_dev12 v12) < nD := fun v12 k0_hw3 => k0_hw3.1.2.2.2.2.2.1
theorem k0_dev14_lt : ∀ (v12 : BitVec 32) (k0_hw3 : k0_chk3 v12), (k0_dev14 v12) < nD := fun v12 k0_hw3 => k0_hw3.1.2.2.2.2.2.2.1
theorem k0_dev16_lt : ∀ (v12 : BitVec 32) (k0_hw3 : k0_chk3 v12), (k0_dev16 v12) < nD := fun v12 k0_hw3 => k0_hw3.1.2.2.2.2.2.2.2.1
theorem k0_dev18_lt : ∀ (v12 : BitVec 32) (k0_hw3 : k0_chk3 v12), (k0_dev18 v12) < nD := fun v12 k0_hw3 => k0_hw3.1.2.2.2.2.2.2.2.2.1
theorem k0_dev20_lt : ∀ (v12 : BitVec 32) (k0_hw3 : k0_chk3 v12), (k0_dev20 v12) < nD := fun v12 k0_hw3 => k0_hw3.1.2.2.2.2.2.2.2.2.2.1
theorem k0_dev22_lt : ∀ (v12 : BitVec 32) (k0_hw3 : k0_chk3 v12), (k0_dev22 v12) < nD := fun v12 k0_hw3 => k0_hw3.1.2.2.2.2.2.2.2.2.2.2.1
theorem k0_dev24_lt : ∀ (v12 : BitVec 32) (k0_hw3 : k0_chk3 v12), (k0_dev24 v12) < nD := fun v12 k0_hw3 => k0_hw3.1.2.2.2.2.2.2.2.2.2.2.2.1
theorem k0_dev26_lt : ∀ (v12 : BitVec 32) (k0_hw3 : k0_chk3 v12), (k0_dev26 v12) < nD := fun v12 k0_hw3 => k0_hw3.1.2.2.2.2.2.2.2.2.2.2.2.2.1
theorem k0_dev28_lt : ∀ (v12 : BitVec 32) (k0_hw3 : k0_chk3 v12), (k0_dev28 v12) < nD := fun v12 k0_hw3 => k0_hw3.1.2.2.2.2.2.2.2.2.2.2.2.2.2.1
theorem k0_dev30_lt : ∀ (v12 : BitVec 32) (k0_hw3 : k0_chk3 v12), (k0_dev30 v12) < nD := fun v12 k0_hw3 => k0_hw3.1.2.2.2.2.2.2.2.2.2.2.2.2.2.2.1
theorem k0_dev32_lt : ∀ (v12 : BitVec 32) (k0_hw3 : k0_chk3 v12), (k0_dev32 v12) < nD := fun v12 k0_hw3 => k0_hw3.1.2.2.2.2.2.2.2.2.2.2.2.2.2.2.2.1
theorem k0_dev34_lt : ∀ (v12 : BitVec 32) (k0_hw3 : k0_chk3 v12), (k0_dev34 v12) < nD := fun v12 k0_hw3 => k0_hw3.1.2.2.2.2.2.2.2.2.2.2.2.2.2.2.2.2.1
theorem k0_dev36_lt : ∀ (v12 : BitVec 32) (k0_hw3 : k0_chk3 v12), (k0_dev36 v12) < nD := fun v12 k0_hw3 => k0_hw3.1.2.2.2.2.2.2.2.2.2.2.2.2.2.2.2.2.2.1
theorem k0_dev38_lt : ∀ (v12 : BitVec 32) (k0_hw3 : k0_chk3 v12), (k0_dev38 v12) < nD := fun v12 k0_hw3 => k0_hw3.1.2.2.2.2.2.2.2.2.2.2.2.2.2.2.2.2.2.2.1
theorem k0_dev40_lt : ∀ (v12 : BitVec 32) (k0_hw3 : k0_chk3 v12), (k0_dev40 v12) < nD := fun v12 k0_hw3 => k0_hw3.1.2.2.2.2.2.2.2.2.2.2.2.2.2.2.2.2.2.2.2.1
theorem k0_dev42_lt : ∀ (v12 : BitVec 32) (k0_hw3 : k0_chk3 v12), (k0_dev42 v12) < nD := fun v12 k0_hw3 => k0_hw3.1.2.2.2.2.2.2.2.2.2.2.2.2.2.2.2.2.2.2.2.2.1
theorem k0_dev44_lt : ∀ (v12 : BitVec 32) (k0_hw3 : k0_chk3 v12), (k0_dev44 v12) < nD := fun v12 k0_hw3 => k0_hw3.1.2.2.2.2.2.2.2.2.2.2.2.2.2.2.2.2.2.2.2.2.2.1
theorem k0_dev46_lt : ∀ (v12 : BitVec 32) (k0_hw3 : k0_chk3 v12), (k0_dev46 v12) < nD := fun v12 k0_hw3 => k0_hw3.1.2.2.2.2.2.2.2.2.2.2.2.2.2.2.2.2.2.2.2.2.2.2.1
theorem k0_dev48_lt : ∀ (v12 : BitVec 32) (k0_hw3 : k0_chk3 v12), (k0_dev48 v12) < nD := fun v12 k0_hw3 => k0_hw3.1.2.2.2.2.2.2.2.2.2.2.2.2.2.2.2.2.2.2.2.2.2.2.2.1
theorem k0_dev50_lt : ∀ (v12 : BitVec 32) (k0_hw3 : k0_chk3 v12), (k0_dev50 v12) < nD := fun v12 k0_hw3 => k0_hw3.1.2.2.2.2.2.2.2.2.2.2.2.2.2.2.2.2.2.2.2.2.2.2.2.2.1
theorem k0_dev52_lt : ∀ (v12 : BitVec 32) (k0_hw3 : k0_chk3 v12), (k0_dev52 v12) < nD := fun v12 k0_hw3 => k0_hw3.1.2.2.2.2.2.2.2.2.2.2.2.2.2.2.2.2.2.2.2.2.2.2.2.2.2.1
theorem k0_dev54_lt : ∀ (v12 : BitVec 32) (k0_hw3 : k0_chk3 v12), (k0_dev54 v12) < nD := fun v12 k0_hw3 => k0_hw3.1.2.2.2.2.2.2.2.2.2.2.2.2.2.2.2.2.2.2.2.2.2.2.2.2.2.2.1
theorem k0_dev56_lt : ∀ (v12 : BitVec 32) (k0_hw3 : k0_chk3 v12), (k0_dev56 v12) < nD := fun v12 k0_hw3 => k0_hw3.1.2.2.2.2.2.2.2.2.2.2.2.2.2.2.2.2.2.2.2.2.2.2.2.2.2.2.2.1
theorem k0_dev58_lt : ∀ (v12 : BitVec 32) (k0_hw3 : k0_chk3 v12), (k0_dev58 v12) < nD := fun v12 k0_hw3 => k0_hw3.1.2.2.2.2.2.2.2.2.2.2.2.2.2.2.2.2.2.2.2.2.2.2.2.2.2.2.2.2.1
theorem k0_dev60_lt : ∀ (v12 : BitVec 32) (k0_hw3 : k0_chk3 v12), (k0_dev60 v12) < nD := fun v12 k0_hw3 => k0_hw3.1.2.2.2.2.2.2.2.2.2.2.2.2.2.2.2.2.2.2.2.2.2.2.2.2.2.2.2.2.2.1
theorem k0_dev62_lt : ∀ (v12 : BitVec 32) (k0_hw3 : k0_chk3 v12), (k0_dev62 v12) < nD := fun v12 k0_hw3 => k0_hw3.1.2.2.2.2.2.2.2.2.2.2.2.2.2.2.2.2.2.2.2.2.2.2.2.2.2.2.2.2.2.2.1
theorem k0_dev64_lt : ∀ (v12 : BitVec 32) (k0_hw3 : k0_chk3 v12), (k0_dev64 v12) < nD := fun v12 k0_hw3 => k0_hw3.1.2.2.2.2.2.2.2.2.2.2.2.2.2.2.2.2.2.2.2.2.2.2.2.2.2.2.2.2.2.2.2
theorem k0_dev66_lt : ∀ (v12 : BitVec 32) (k0_hw3 : k0_chk3 v12), (k0_dev66 v12) < nD := fun v12 k0_hw3 => k0_hw3.2.1
theorem k0_dev68_lt : ∀ (v12 : BitVec 32) (k0_hw3 : k0_chk3 v12), (k0_dev68 v12) < nD := fun v12 k0_hw3 => k0_hw3.2.2.1
theorem k0_dev70_lt : ∀ (v12 : BitVec 32) (k0_hw3 : k0_chk3 v12), (k0_dev70 v12) < nD := fun v12 k0_hw3 => k0_hw3.2.2.2.1
theorem k0_dev72_lt : ∀ (v12 : BitVec 32) (k0_hw3 : k0_chk3 v12), (k0_dev72 v12) < nD := fun v12 k0_hw3 => k0_hw3.2.2.2.2.1
theorem k0_dev74_lt : ∀ (v12 : BitVec 32) (k0_hw3 : k0_chk3 v12), (k0_dev74 v12) < nD := fun v12 k0_hw3 => k0_hw3.2.2.2.2.2.1
theorem k0_dev76_lt : ∀ (v12 : BitVec 32) (k0_hw3 : k0_chk3 v12), (k0_dev76 v12) < nD := fun v12 k0_hw3 => k0_hw3.2.2.2.2.2.2.1
theorem k0_dev78_lt : ∀ (v12 : BitVec 32) (k0_hw3 : k0_chk3 v12), (k0_dev78 v12) < nD := fun v12 k0_hw3 => k0_hw3.2.2.2.2.2.2.2.1
theorem k0_dev80_lt : ∀ (v12 : BitVec 32) (k0_hw3 : k0_chk3 v12), (k0_dev80 v12) < nD := fun v12 k0_hw3 => k0_hw3.2.2.2.2.2.2.2.2.1
theorem k0_dev82_lt : ∀ (v12 : BitVec 32) (k0_hw3 : k0_chk3 v12), (k0_dev82 v12) < nD := fun v12 k0_hw3 => k0_hw3.2.2.2.2.2.2.2.2.2.1
theorem k0_dev84_lt : ∀ (v12 : BitVec 32) (k0_hw3 : k0_chk3 v12), (k0_dev84 v12) < nD := fun v12 k0_hw3 => k0_hw3.2.2.2.2.2.2.2.2.2.2.1
theorem k0_dev86_lt : ∀ (v12 : BitVec 32) (k0_hw3 : k0_chk3 v12), (k0_dev86 v12) < nD := fun v12 k0_hw3 => k0_hw3.2.2.2.2.2.2.2.2.2.2.2.1
theorem k0_dev88_lt : ∀ (v12 : BitVec 32) (k0_hw3 : k0_chk3 v12), (k0_dev88 v12) < nD := fun v12 k0_hw3 => k0_hw3.2.2.2.2.2.2.2.2.2.2.2.2.1
theorem k0_dev90_lt : ∀ (v12 : BitVec 32) (k0_hw3 : k0_chk3 v12), (k0_dev90 v12) < nD := fun v12 k0_hw3 => k0_hw3.2.2.2.2.2.2.2.2.2.2.2.2.2.1
theorem k0_dev92_lt : ∀ (v12 : BitVec 32) (k0_hw3 : k0_chk3 v12), (k0_dev92 v12) < nD := fun v12 k0_hw3 => k0_hw3.2.2.2.2.2.2.2.2.2.2.2.2.2.2.1
theorem k0_dev94_lt : ∀ (v12 : BitVec 32) (k0_hw3 : k0_chk3 v12), (k0_dev94 v12) < nD := fun v12 k0_hw3 => k0_hw3.2.2.2.2.2.2.2.2.2.2.2.2.2.2.2.1
theorem k0_dev96_lt : ∀ (v12 : BitVec 32) (k0_hw3 : k0_chk3 v12), (k0_dev96 v12) < nD := fun v12 k0_hw3 => k0_hw3.2.2.2.2.2.2.2.2.2.2.2.2.2.2.2.2.1
theorem k0_dev98_lt : ∀ (v12 : BitVec 32) (k0_hw3 : k0_chk3 v12), (k0_dev98 v12) < nD := fun v12 k0_hw3 => k0_hw3.2.2.2.2.2.2.2.2.2.2.2.2.2.2.2.2.2.1
theorem k0_dev100_lt : ∀ (v12 : BitVec 32) (k0_hw3 : k0_chk3 v12), (k0_dev100 v12) < nD := fun v12 k0_hw3 => k0_hw3.2.2.2.2.2.2.2.2.2.2.2.2.2.2.2.2.2.2.1
theorem k0_dev102_lt : ∀ (v12 : BitVec 32) (k0_hw3 : k0_chk3 v12), (k0_dev102 v12) < nD := fun v12 k0_hw3 => k0_hw3.2.2.2.2.2.2.2.2.2.2.2.2.2.2.2.2.2.2.2.1
theorem k0_dev104_lt : ∀ (v12 : BitVec 32) (k0_hw3 : k0_chk3 v12), (k0_dev104 v12) < nD := fun v12 k0_hw3 => k0_hw3.2.2.2.2.2.2.2.2.2.2.2.2.2.2.2.2.2.2.2.2.1
theorem k0_dev106_lt : ∀ (v12 : BitVec 32) (k0_hw3 : k0_chk3 v12), (k0_dev106 v12) < nD := fun v12 k0_hw3 => k0_hw3.2.2.2.2.2.2.2.2.2.2.2.2.2.2.2.2.2.2.2.2.2.1
theorem k0_dev108_lt : ∀ (v12 : BitVec 32) (k0_hw3 : k0_chk3 v12), (k0_dev108 v12) < nD := fun v12 k0_hw3 => k0_hw3.2.2.2.2.2.2.2.2.2.2.2.2.2.2.2.2.2.2.2.2.2.2.1
theorem k0_dev110_lt : ∀ (v12 : BitVec 32) (k0_hw3 : k0_chk3 v12), (k0_dev110 v12) < nD := fun v12 k0_hw3 => k0_hw3.2.2.2.2.2.2.2.2.2.2.2.2.2.2.2.2.2.2.2.2.2.2.2.1
theorem k0_dev112_lt : ∀ (v12 : BitVec 32) (k0_hw3 : k0_chk3 v12), (k0_dev112 v12) < nD := fun v12 k0_hw3 => k0_hw3.2.2.2.2.2.2.2.2.2.2.2.2.2.2.2.2.2.2.2.2.2.2.2.2.1
theorem k0_dev114_lt : ∀ (v12 : BitVec 32) (k0_hw3 : k0_chk3 v12), (k0_dev114 v12) < nD := fun v12 k0_hw3 => k0_hw3.2.2.2.2.2.2.2.2.2.2.2.2.2.2.2.2.2.2.2.2.2.2.2.2.2.1
theorem k0_dev116_lt : ∀ (v12 : BitVec 32) (k0_hw3 : k0_chk3 v12), (k0_dev116 v12) < nD := fun v12 k0_hw3 => k0_hw3.2.2.2.2.2.2.2.2.2.2.2.2.2.2.2.2.2.2.2.2.2.2.2.2.2.2.1
theorem k0_dev118_lt : ∀ (v12 : BitVec 32) (k0_hw3 : k0_chk3 v12), (k0_dev118 v12) < nD := fun v12 k0_hw3 => k0_hw3.2.2.2.2.2.2.2.2.2.2.2.2.2.2.2.2.2.2.2.2.2.2.2.2.2.2.2.1
theorem k0_dev120_lt : ∀ (v12 : BitVec 32) (k0_hw3 : k0_chk3 v12), (k0_dev120 v12) < nD := fun v12 k0_hw3 => k0_hw3.2.2.2.2.2.2.2.2.2.2.2.2.2.2.2.2.2.2.2.2.2.2.2.2.2.2.2.2.1
theorem k0_dev122_lt : ∀ (v12 : BitVec 32) (k0_hw3 : k0_chk3 v12), (k0_dev122 v12) < nD := fun v12 k0_hw3 => k0_hw3.2.2.2.2.2.2.2.2.2.2.2.2.2.2.2.2.2.2.2.2.2.2.2.2.2.2.2.2.2.1
theorem k0_dev124_lt : ∀ (v12 : BitVec 32) (k0_hw3 : k0_chk3 v12), (k0_dev124 v12) < nD := fun v12 k0_hw3 => k0_hw3.2.2.2.2.2.2.2.2.2.2.2.2.2.2.2.2.2.2.2.2.2.2.2.2.2.2.2.2.2.2.1
theorem k0_dev126_lt : ∀ (v12 : BitVec 32) (k0_hw3 : k0_chk3 v12), (k0_dev126 v12) < nD := fun v12 k0_hw3 => k0_hw3.2.2.2.2.2.2.2.2.2.2.2.2.2.2.2.2.2.2.2.2.2.2.2.2.2.2.2.2.2.2.2

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.BodyEq.lean ====
module
public import proofs.«01_k».proof.Proof.Steps
public import Idealize.ShloMosaic.Lib.Pipeline.Regions
@[expose] public section
noncomputable section
namespace Cert.Kernel.Ring
open Idealize.ShloMosaic Idealize.SL.Sem Cert.Kernel.Gen
variable {F : FTy → Type} [FloatOps F]

set_option maxRecDepth 1000000 in
set_option maxHeartbeats 0 in
/-- The printed body at its buffers is the run of the steps. -/
theorem cc0_body_eq_steps :
    cc0_body (F := F) xM (Memref.isWhole_whole _) wM (Memref.isWhole_whole _) permM (Memref.isWhole_whole _) invM (Memref.isWhole_whole _)
      outM (Memref.isWhole_whole _) partM (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9
      cc0_scratch10 cc0_scratch11 cc0_scratch12 cc0_scratch13 cc0_scratch14 cc0_scratch15 cc0_scratch16 cc0_scratch17 cc0_scratch18 cc0_scratch19 cc0_scratch20
      = body := by
  chain_rfl

end Cert.Kernel.Ring
-- ==== Proof.StepsIdeal.lean ====
/-
  The kernel body as a list of steps. A device works on four streams: a stream is a half of the columns and a
  direction round the ring. The printed body is one long sequence in which the same few steps (compute a block of
  the product, start a copy, await one and add to it, …) recur on changing blocks; here each step is written once
  over the stream and the hop, and the body is the run of a list of them.
-/
module

public import proofs.«01_k».proof.Proof.Gen.KernelIdeal

@[expose] public section

noncomputable section

namespace Cert.KernelIdeal.Ring

open Idealize.ShloMosaic Idealize.SL.Sem Cert.KernelIdeal.Gen

variable {F : FTy → Type} [FloatOps F]

/-! ## Streams and their buffers -/

/-- A stream: the half of the columns it carries and the direction it goes (`false` is up the ring). -/
abbrev Str := Bool × Bool

/-- The number of hops of a stream: one of the two directions of each half goes one hop further. -/
@[reducible] def hops : Str → ℕ
  | (false, false) => 16
  | (false, true) => 15
  | (true, false) => 15
  | (true, true) => 16

abbrev slotsShape (s : Str) : Shape := ⟨3, ![hops s, 64, 1024]⟩
abbrev semsShape (s : Str) : Shape := ⟨1, ![hops s]⟩

abbrev xM : Memref sig .tc .vmem S2048x64 .f32 := Memref.whole cc0_stg0_0
abbrev wM : Memref sig .tc .vmem S64x2048 .f32 := Memref.whole cc0_stg1_0
abbrev permM : Memref sig .tc .smem S32 .i32 := Memref.whole cc0_stg2_0
abbrev invM : Memref sig .tc .smem S32 .i32 := Memref.whole cc0_stg3_0
abbrev outM : Memref sig .tc .vmem S2048x2048 .f32 := Memref.whole cc0_stg4_0
abbrev partM : Memref sig .tc .vmem S2048x2048 .f32 := Memref.whole cc0_scratch0

/-- The landing slots of a stream. -/
@[reducible] def rsM : (s : Str) → Memref sig .tc .vmem (slotsShape s) .f32
  | (false, false) => Memref.whole cc0_scratch1
  | (false, true) => Memref.whole cc0_scratch2
  | (true, false) => Memref.whole cc0_scratch3
  | (true, true) => Memref.whole cc0_scratch4

/-- The semaphores of a stream's sends while the sums are formed. -/
@[reducible] def rssA : (s : Str) → DmaSems sig (semsShape s)
  | (false, false) => cc0_scratch5
  | (false, true) => cc0_scratch7
  | (true, false) => cc0_scratch9
  | (true, true) => cc0_scratch11
/-- The semaphores of a stream's arrivals while the sums are formed. -/
@[reducible] def rsrA : (s : Str) → DmaSems sig (semsShape s)
  | (false, false) => cc0_scratch6
  | (false, true) => cc0_scratch8
  | (true, false) => cc0_scratch10
  | (true, true) => cc0_scratch12
/-- The semaphores of a stream's sends while the results are passed on. -/
@[reducible] def agsA : (s : Str) → DmaSems sig (semsShape s)
  | (false, false) => cc0_scratch13
  | (false, true) => cc0_scratch15
  | (true, false) => cc0_scratch17
  | (true, true) => cc0_scratch19
/-- The semaphores of a stream's arrivals while the results are passed on. -/
@[reducible] def agrA : (s : Str) → DmaSems sig (semsShape s)
  | (false, false) => cc0_scratch14
  | (false, true) => cc0_scratch16
  | (true, false) => cc0_scratch18
  | (true, true) => cc0_scratch20

/-! ## Offsets -/

/-- `n` blocks on in a direction, modulo the ring. -/
@[reducible] def off (di : Bool) (n : ℕ) : Fin 32 :=
  ⟨(if di then 32 - n % 32 else n) % 32, Nat.mod_lt _ (by decide)⟩

/-- The offsets of the block `x` rows of blocks past the device's own, in a half of the columns. -/
def rowOff (v4 : BitVec 32) (x : Fin 32) (st : Bool) : Fin 2 → ℕ :=
  ![(Scalar.muli (Scalar.remsi (Scalar.addi v4 (BitVec.ofNat 32 x.val)) 32#32) 64#32).toNat,
    if st then 1024 else 0]

/-- The offsets of the device's own block, as the kernel computes them. -/
def ownOff (v4 : BitVec 32) (st : Bool) : Fin 2 → ℕ :=
  ![(Scalar.muli v4 64#32).toNat, if st then 1024 else 0]

theorem rowOff_inb (v4 : BitVec 32) (h : k0_chk1 v4) (x : Fin 32) (st : Bool) :
    ∀ a, rowOff v4 x st a + S64x1024.size a ≤ S2048x2048.size a := by
  cases st
  · exact k0_off5_inb v4 h x
  · exact k0_off6_inb v4 h x

theorem rowOff_wide (v4 : BitVec 32) (h : k0_chk1 v4) (x : Fin 32) :
    ∀ a, rowOff v4 x false a + S64x2048.size a ≤ S2048x2048.size a := by
  intro a
  have := rowOff_inb v4 h x false 0
  fin_cases a
  · exact this
  · exact (by decide : 0 + 2048 ≤ 2048)

theorem rowOff_x (v4 : BitVec 32) (h : k0_chk1 v4) (x : Fin 32) :
    ∀ a, rowOff v4 x false a + S64x64.size a ≤ S2048x64.size a := by
  intro a
  have := rowOff_inb v4 h x false 0
  fin_cases a
  · exact this
  · exact (by decide : 0 + 64 ≤ 64)

theorem ownOff_inb (v4 : BitVec 32) (h : k0_chk1 v4) (st : Bool) :
    ∀ a, ownOff v4 st a + S64x1024.size a ≤ S2048x2048.size a := by
  cases st
  · exact k0_off11_inb v4 h
  · exact k0_off12_inb v4 h

theorem slot_inb (s : Str) (j : ℕ) (h : j < hops s) :
    ∀ a, (![j, 0, 0] : Fin 3 → ℕ) a + S1x64x1024.size a ≤ (slotsShape s).size a := by
  intro a
  fin_cases a
  · exact h
  · exact Nat.le_refl 64
  · exact Nat.le_refl 1024

theorem sem_inb (s : Str) (j : ℕ) (h : j < hops s) :
    ∀ a, (![j] : Fin 1 → ℕ) a + S1.size a ≤ (semsShape s).size a := by
  intro a
  fin_cases a
  exact h

/-! ## The regions the copies go between -/

/-- Slot `j` of a stream's landing buffer. -/
@[reducible] def slot (s : Str) (j : ℕ) (h : j < hops s) : Memref sig .tc .vmem S64x1024 .f32 :=
  ((rsM s).slice (Rect.unit (s := slotsShape s) ![j, 0, 0] S1x64x1024.size (slot_inb s j h)) (fun _ => rfl)).squeeze
    S64x1024 squeezes_S1x64x1024_S64x1024

/-- A block of 64 rows and half the columns of a square buffer. -/
@[reducible] def blk (m : Memref sig .tc .vmem S2048x2048 .f32) (v4 : BitVec 32) (hw : k0_chk1 v4) (x : Fin 32) (st : Bool) :
    Memref sig .tc .vmem S64x1024 .f32 :=
  m.slice (Rect.unit (s := S2048x2048) (rowOff v4 x st) S64x1024.size (rowOff_inb v4 hw x st)) (fun _ => rfl)

/-- One semaphore of a stream's array of them. -/
@[reducible] def semAt (s : Str) (A : DmaSems sig (semsShape s)) (j : ℕ) (h : j < hops s) : DmaSem sig :=
  ((A.slice (Rect.unit (s := semsShape s) ![j] S1.size (sem_inb s j h))).squeeze S_ squeezes_S1_S_).sem

/-- What hop `j` of a stream sends: at first a block of the device's own products, later the slot it has added to. -/
@[reducible] def rsSrc (v4 : BitVec 32) (hw : k0_chk1 v4) (s : Str) : (j : ℕ) → j < hops s → Memref sig .tc .vmem S64x1024 .f32
  | 0, _ => blk partM v4 hw (off s.2 (hops s)) s.1
  | j + 1, h => slot s j (Nat.lt_of_succ_lt h)

/-- The block of the result hop `g` of a stream passes on. -/
@[reducible] def agX (s : Str) (g : ℕ) : Fin 32 := off (!s.2) g

theorem rsSrc_exact (v4 : BitVec 32) (hw : k0_chk1 v4) (s : Str) : (j : ℕ) → (h : j < hops s) →
    (rsSrc v4 hw s j h).view.WordExact
  | 0, _ => View.wordExact_bits rfl
  | _ + 1, _ => by
    obtain ⟨_ | _, _ | _⟩ := s <;> exact ((View.wordExact_bits rfl).reshape _ _)

theorem slot_exact (s : Str) (j : ℕ) (h : j < hops s) : (slot s j h).view.WordExact := by
  obtain ⟨_ | _, _ | _⟩ := s <;> exact ((View.wordExact_bits rfl).reshape _ _)

/-! ## The payloads -/

/-- A block of rows of the device's `x` times its `w`. -/
def dotPay (a : Vec F S64x64 .f32) (b : Vec F S64x2048 .f32) : FVec F S64x2048 .f32 :=
  shapeCast S64x2048
    (matmul dot_S64x64_S64x2048_S64x2048_1_0_0_1_n_n none (shapeCast S64x64 a shapeCasts_S64x64_S64x64)
      (shapeCast S64x2048 b shapeCasts_S64x2048_S64x2048) (constant S64x2048 .f32 0x00000000#32))
    shapeCasts_S64x2048_S64x2048

/-- A landed block plus the device's own. -/
def addPay (a : Vec F S1x64x1024 .f32) (b : Vec F S64x1024 .f32) : FVec F S1x64x1024 .f32 :=
  shapeCast S1x64x1024 (addf (shapeCast S64x1024 a shapeCasts_S1x64x1024_S64x1024) b) shapeCasts_S64x1024_S1x64x1024

/-- The activation of a block. -/
def geluV (y : FVec F S64x1024 .f32) : FVec F S64x1024 .f32 :=
  mulf (mulf (broadcast S64x1024 (Scalar.ofBits .f32 0x3F000000#32)) y)
    (addf (broadcast S64x1024 (Scalar.ofBits .f32 0x3F800000#32))
      (tanh (mulf (broadcast S64x1024 (Scalar.ofBits .f32 0x3F4C422A#32))
        (addf y (mulf (mulf (mulf (broadcast S64x1024 (Scalar.ofBits .f32 0x3D372713#32)) y) y) y)))))

/-- The device's own block of the result: the two landed sums and its own products, activated. -/
def ownPay (a b : Vec F S1x64x1024 .f32) (y : Vec F S64x1024 .f32) : FVec F S64x1024 .f32 :=
  geluV (addf (addf (shapeCast S64x1024 a shapeCasts_S1x64x1024_S64x1024)
    (shapeCast S64x1024 b shapeCasts_S1x64x1024_S64x1024)) y)

/-! ## The steps -/

/-- The words a device reads before anything else, with what the body assumes of them: its place on the ring and its
    two neighbours. -/
structure Words where
  v4 : BitVec 32
  h1 : k0_chk1 v4
  v8 : BitVec 32
  h2 : k0_chk2 v8
  v12 : BitVec 32
  h3 : k0_chk3 v12

/-- The neighbour in a direction. -/
@[reducible] def Words.nbr (W : Words) : Bool → Dev nD
  | false => ⟨k0_dev1 W.v8, k0_dev1_lt W.v8 W.h2⟩
  | true => ⟨k0_dev2 W.v12, k0_dev2_lt W.v12 W.h3⟩

/-- The regular semaphore of the barrier. -/
abbrev barS : Sem sig := (SemArray.scalar (sig.barrier 0 rfl) : Sems sig S_).sem

abbrev P := Prog (TpuEff nD τ sig (Elt F) Λ₀ .tc) PUnit

/-- Compute a block of the product. -/
def pieceP (W : Words) (x : Fin 32) : P (F := F) := do
  let a : Vec F S64x64 .f32 ← Prog.lift (.load xM (Rect.unit (s := S2048x64) (rowOff W.v4 x false) S64x64.size (rowOff_x W.v4 W.h1 x)).toLoadRect (View.loadsAt_vmem h_S64x64))
  let b : Vec F S64x2048 .f32 ← Prog.lift (.load wM (Rect.unit (s := S64x2048) ![0, 0] S64x2048.size inb_S64x2048_S64x2048_0_0).toLoadRect (View.loadsAt_vmem h_S64x2048))
  let _y : Vec F S64x2048 .f32 ← Prog.lift (.load partM (Rect.unit (s := S2048x2048) (rowOff W.v4 x false) S64x2048.size (rowOff_wide W.v4 W.h1 x)).toLoadRect (View.loadsAt_vmem h_S64x2048))
  Prog.lift (.store partM (Rect.unit (s := S2048x2048) (rowOff W.v4 x false) S64x2048.size (rowOff_wide W.v4 W.h1 x)) (dotPay a b) Finset.univ (View.stores_vmem_bits_univ h_S64x2048 rfl) (.inl rfl))

/-- Tell both neighbours, and wait for both. -/
def barrierP (W : Words) : P (F := F) := do
  semSignalWord (W.nbr false) barS 1#32
  semSignalWord (W.nbr true) barS 1#32
  semWaitWord barS 2#32

/-- Start hop `j` of a stream's sums. -/
def rsStartP (W : Words) (s : Str) (j : ℕ) (h : j < hops s) : P (F := F) :=
  Prog.lift (.enqueueDma (rsSrc W.v4 W.h1 s j h)
    (.remote (Dev.tc (W.nbr s.2)) (slot s j h) (.dma (semAt s (rssA s) j h))) (.dma (semAt s (rsrA s) j h))
    (rsSrc_exact W.v4 W.h1 s j h) (slot_exact s j h) ⟨⟨rfl, Or.inl rfl⟩, trivial⟩)

/-- Await hop `j` of a stream's sums. -/
def rsWaitP (W : Words) (s : Str) (j : ℕ) (h : j < hops s) : P (F := F) :=
  Prog.lift (.waitDma2 (semAt s (rsrA s) j h) (rsSrc W.v4 W.h1 s j h) (slot s j h)
    (rsSrc_exact W.v4 W.h1 s j h) (slot_exact s j h))

/-- Add the device's own block to what hop `j` of a stream brought. -/
def rsAddP (W : Words) (s : Str) (j : ℕ) (h : j < hops s) : P (F := F) := do
  let a : Vec F S1x64x1024 .f32 ← Prog.lift (.load (rsM s) (Rect.unit (s := slotsShape s) ![j, 0, 0] S1x64x1024.size (slot_inb s j h)).toLoadRect (View.loadsAt_vmem h_S1x64x1024))
  let b : Vec F S64x1024 .f32 ← Prog.lift (.load partM (Rect.unit (s := S2048x2048) (rowOff W.v4 (off s.2 (hops s - 1 - j)) s.1) S64x1024.size (rowOff_inb W.v4 W.h1 _ s.1)).toLoadRect (View.loadsAt_vmem h_S64x1024))
  let _y : Vec F S1x64x1024 .f32 ← Prog.lift (.load (rsM s) (Rect.unit (s := slotsShape s) ![j, 0, 0] S1x64x1024.size (slot_inb s j h)).toLoadRect (View.loadsAt_vmem h_S1x64x1024))
  Prog.lift (.store (rsM s) (Rect.unit (s := slotsShape s) ![j, 0, 0] S1x64x1024.size (slot_inb s j h)) (addPay a b) Finset.univ (View.stores_vmem_bits_univ h_S1x64x1024 rfl) (.inl rfl))

theorem hops_pos (s : Str) : 0 < hops s := by obtain ⟨_ | _, _ | _⟩ := s <;> decide

theorem last_lt (s : Str) : hops s - 1 < hops s := Nat.sub_lt (hops_pos s) Nat.one_pos

/-- Form the device's own block of the result in a half of the columns. -/
def ownP (W : Words) (st : Bool) : P (F := F) := do
  let a : Vec F S1x64x1024 .f32 ← Prog.lift (.load (rsM (st, false)) (Rect.unit (s := slotsShape (st, false)) ![hops (st, false) - 1, 0, 0] S1x64x1024.size (slot_inb (st, false) _ (last_lt _))).toLoadRect (View.loadsAt_vmem h_S1x64x1024))
  let b : Vec F S1x64x1024 .f32 ← Prog.lift (.load (rsM (st, true)) (Rect.unit (s := slotsShape (st, true)) ![hops (st, true) - 1, 0, 0] S1x64x1024.size (slot_inb (st, true) _ (last_lt _))).toLoadRect (View.loadsAt_vmem h_S1x64x1024))
  let y : Vec F S64x1024 .f32 ← Prog.lift (.load partM (Rect.unit (s := S2048x2048) (ownOff W.v4 st) S64x1024.size (ownOff_inb W.v4 W.h1 st)).toLoadRect (View.loadsAt_vmem h_S64x1024))
  let _z : Vec F S64x1024 .f32 ← Prog.lift (.load outM (Rect.unit (s := S2048x2048) (ownOff W.v4 st) S64x1024.size (ownOff_inb W.v4 W.h1 st)).toLoadRect (View.loadsAt_vmem h_S64x1024))
  Prog.lift (.store outM (Rect.unit (s := S2048x2048) (ownOff W.v4 st) S64x1024.size (ownOff_inb W.v4 W.h1 st)) (ownPay a b y) Finset.univ (View.stores_vmem_bits_univ h_S64x1024 rfl) (.inl rfl))

/-- Start hop `g` of a stream's results. -/
def agStartP (W : Words) (s : Str) (g : ℕ) (h : g < hops s) : P (F := F) :=
  Prog.lift (.enqueueDma (blk outM W.v4 W.h1 (agX s g) s.1)
    (.remote (Dev.tc (W.nbr s.2)) (blk outM W.v4 W.h1 (agX s g) s.1) (.dma (semAt s (agsA s) g h)))
    (.dma (semAt s (agrA s) g h)) (View.wordExact_bits rfl) (View.wordExact_bits rfl) ⟨⟨rfl, Or.inl rfl⟩, trivial⟩)

/-- Await hop `g` of a stream's results. -/
def agWaitP (W : Words) (s : Str) (g : ℕ) (h : g < hops s) : P (F := F) :=
  Prog.lift (.waitDma2 (semAt s (agrA s) g h) (blk outM W.v4 W.h1 (agX s (g + 1)) s.1)
    (blk outM W.v4 W.h1 (agX s (g + 1)) s.1) (View.wordExact_bits rfl) (View.wordExact_bits rfl))

/-- Wait until hop `j` of a stream's sums has left. -/
def rsDoneP (W : Words) (s : Str) (j : ℕ) (h : j < hops s) : P (F := F) :=
  Prog.lift (.waitDma2 (semAt s (rssA s) j h) (slot s j h) (rsSrc W.v4 W.h1 s j h)
    (slot_exact s j h) (rsSrc_exact W.v4 W.h1 s j h))

/-- Wait until hop `g` of a stream's results has left. -/
def agDoneP (W : Words) (s : Str) (g : ℕ) (h : g < hops s) : P (F := F) :=
  Prog.lift (.waitDma2 (semAt s (agsA s) g h) (blk outM W.v4 W.h1 (agX s g) s.1)
    (blk outM W.v4 W.h1 (agX s g) s.1) (View.wordExact_bits rfl) (View.wordExact_bits rfl))

/-! ## The body as a list of steps -/

inductive Step
  | piece (x : Fin 32)
  | barrier
  | rsStart (s : Str) (j : ℕ)
  | rsWait (s : Str) (j : ℕ)
  | rsAdd (s : Str) (j : ℕ)
  | own (st : Bool)
  | agStart (s : Str) (g : ℕ)
  | agWait (s : Str) (g : ℕ)
  | rsDone (s : Str) (j : ℕ)
  | agDone (s : Str) (g : ℕ)

/-- A step's program; a hop a stream does not have is nothing. -/
def Step.prog (W : Words) : Step → P (F := F)
  | .piece x => pieceP W x
  | .barrier => barrierP W
  | .rsStart s j => if h : j < hops s then rsStartP W s j h else pure ⟨⟩
  | .rsWait s j => if h : j < hops s then rsWaitP W s j h else pure ⟨⟩
  | .rsAdd s j => if h : j < hops s then rsAddP W s j h else pure ⟨⟩
  | .own st => ownP W st
  | .agStart s g => if h : g < hops s then agStartP W s g h else pure ⟨⟩
  | .agWait s g => if h : g < hops s then agWaitP W s g h else pure ⟨⟩
  | .rsDone s j => if h : j < hops s then rsDoneP W s j h else pure ⟨⟩
  | .agDone s g => if h : g < hops s then agDoneP W s g h else pure ⟨⟩

/-- The run of a list of steps. -/
def run (W : Words) : List Step → P (F := F)
  | [] => pure ⟨⟩
  | s :: l => s.prog W >>= fun _ => run W l

/-- The four streams in the order the kernel visits them. -/
def strs : List Str := [(false, false), (false, true), (true, false), (true, true)]

/-- The blocks computed after hop `j` of the sums. -/
def lateBlocks (j : ℕ) : List Step :=
  if j < 12 then [.piece (off false (12 - j)), .piece (off true (12 - j))] else if j = 12 then [.piece 0] else []

/-- What is done with stream `s` at hop `j` of the sums. -/
def rsHop (j : ℕ) (s : Str) : List Step :=
  if j + 1 < hops s then [.rsWait s j, .rsAdd s j, .rsStart s (j + 1)] else if j < hops s then [.rsWait s j] else []

/-- What is done with stream `s` at hop `g` of the results. -/
def agHop (g : ℕ) (s : Str) : List Step :=
  if g + 1 < hops s then [.agWait s g, .agStart s (g + 1)] else if g < hops s then [.agWait s g] else []

/-- The last waits of hop `h` of stream `s`. -/
def doneHop (h : ℕ) (s : Str) : List Step :=
  if h < hops s then [.rsDone s h, .agDone s h] else []

/-- The steps up to the first copies. -/
def steps₀ : List Step :=
  [.piece 16, .piece 15, .piece 17, .barrier, .rsStart (false, false) 0, .rsStart (false, true) 0,
    .rsStart (true, false) 0, .rsStart (true, true) 0, .piece 14, .piece 18, .piece 13, .piece 19]

/-- The steps forming the sums. -/
def steps₁ : List Step := (List.range 16).flatMap fun j => strs.flatMap (rsHop j) ++ lateBlocks j

/-- The steps forming the device's own block of the result. -/
def steps₂ : List Step := [false, true].flatMap fun st => [.own st, .agStart (st, false) 0, .agStart (st, true) 0]

/-- The steps passing the results on. -/
def steps₃ : List Step := (List.range 16).flatMap fun g => strs.flatMap (agHop g)

/-- The last waits. -/
def steps₄ : List Step := (List.range 16).flatMap fun h => strs.flatMap (doneHop h)

def steps : List Step := steps₀ ++ (steps₁ ++ (steps₂ ++ (steps₃ ++ steps₄)))

/-- The body: read the three words, then run the steps. -/
def body : P (F := F) := do
  let d0 : Dev nD ← Prog.lift .deviceId
  let v4 : Elt F .i32 ← smemLoad invM (Rect.unit (s := S32) (k0_off1 d0) S1.size (k0_off1_inb d0)) numel1_S1 rfl
  let h1 : k0_chk1 v4 := (← Prog.lift (TpuEff.assume (k0_chk1 v4) (k0_chk1.dec v4))).down
  let v8 : Elt F .i32 ← smemLoad permM (Rect.unit (s := S32) (k0_off2 v4 33#32) S1.size (k0_off2_inb v4 h1 1)) numel1_S1 rfl
  let h2 : k0_chk2 v8 := (← Prog.lift (TpuEff.assume (k0_chk2 v8) (k0_chk2.dec v8))).down
  let v12 : Elt F .i32 ← smemLoad permM (Rect.unit (s := S32) (k0_off2 v4 31#32) S1.size (k0_off2_inb v4 h1 0)) numel1_S1 rfl
  let h3 : k0_chk3 v12 := (← Prog.lift (TpuEff.assume (k0_chk3 v12) (k0_chk3.dec v12))).down
  run ⟨v4, h1, v8, h2, v12, h3⟩ steps

end Cert.KernelIdeal.Ring
-- ==== Proof.RingIdeal.lean ====
/-
  The ring: where each device stands on it, its neighbours, and the words its body reads; the blocks and slots the
  body names, in closed form; what the views of blocks, rows and slots of one buffer have to do with each other.
-/
module

public import proofs.«01_k».proof.Proof.StepsIdeal
public import Idealize.ShloMosaic.Lib.Rounds
public import Idealize.ShloMosaic.Lib.Tactic
public import Idealize.ShloMosaic.Lib.Pipeline.Regions
public import Idealize.ShloMosaic.Lib.Pipeline.RegionTalk

@[expose] public section

noncomputable section

namespace Cert.KernelIdeal.Ring

open Idealize.ShloMosaic Idealize.SL.Sem Cert.KernelIdeal.Gen

variable {F : FTy → Type} [FloatOps F]

/-! ## Places on the ring -/

/-- The place of a device on the ring. -/
def posT : Fin 32 → Fin 32 :=
  ![0, 31, 16, 15, 14, 17, 18, 13, 1, 30, 25, 6, 7, 24, 19, 12, 2, 29, 26, 5, 8, 23, 20, 11, 3, 28, 27, 4, 9, 22, 21, 10]

/-- The device at a place of the ring. -/
def devT : Fin 32 → Fin 32 :=
  ![0, 8, 16, 24, 27, 19, 11, 12, 20, 28, 31, 23, 15, 7, 4, 3, 2, 5, 6, 14, 22, 30, 29, 21, 13, 10, 18, 26, 25, 17, 9, 1]

theorem devT_posT : ∀ c, devT (posT c) = c := by decide +kernel
theorem posT_devT : ∀ q, posT (devT q) = q := by decide +kernel

/-- One place on in a direction. -/
abbrev one (di : Bool) : Fin 32 := off di 1

/-- The three words a device reads. -/
def v4T (c : Dev nD) : BitVec 32 := BitVec.ofNat 32 (posT c).val
def v8T (c : Dev nD) : BitVec 32 := BitVec.ofNat 32 (devT (posT c + 1)).val
def v12T (c : Dev nD) : BitVec 32 := BitVec.ofNat 32 (devT (posT c + 31)).val

theorem h1T : ∀ c, k0_chk1 (v4T c) := by
  have h : ∀ q : Fin 32, k0_chk1 (BitVec.ofNat 32 q.val) := by decide +kernel
  exact fun c => h (posT c)
theorem h2T : ∀ c, k0_chk2 (v8T c) := by decide +kernel
theorem h3T : ∀ c, k0_chk3 (v12T c) := by decide +kernel

/-- The words of a device. -/
@[reducible] def wd (c : Dev nD) : Words := ⟨v4T c, h1T c, v8T c, h2T c, v12T c, h3T c⟩

/-- The neighbour of a device in a direction. -/
abbrev nbr (di : Bool) (c : Dev nD) : Dev nD := (wd c).nbr di

theorem posT_nbr : ∀ (di : Bool) (c : Dev nD), posT (nbr di c) = posT c + one di := by decide +kernel
theorem nbr_nbr : ∀ (di : Bool) (c : Dev nD), nbr di (nbr (!di) c) = c := by decide +kernel
theorem nbr_nbr' (di : Bool) (c : Dev nD) : nbr (!di) (nbr di c) = c := by
  have := nbr_nbr (!di) c
  rwa [Bool.not_not] at this

/-- Going along a direction is a permutation of the devices. -/
def nbrEquiv (di : Bool) : Dev nD ≃ Dev nD := ⟨nbr di, nbr (!di), nbr_nbr' di, nbr_nbr di⟩

/-! ## Offsets in closed form -/

/-- The offsets of the block of a row of blocks in a half of the columns. -/
def colOff (q : Fin 32) (st : Bool) : Fin 2 → ℕ := ![64 * q.val, if st then 1024 else 0]

theorem colOff_inb (q : Fin 32) (st : Bool) : ∀ a, colOff q st a + S64x1024.size a ≤ S2048x2048.size a := by
  intro a
  have := q.isLt
  fin_cases a
  · show 64 * q.val + 64 ≤ 2048; omega
  · cases st
    · exact (by decide : 0 + 1024 ≤ 2048)
    · exact (by decide : 1024 + 1024 ≤ 2048)

theorem colOff_wide (q : Fin 32) : ∀ a, colOff q false a + S64x2048.size a ≤ S2048x2048.size a := by
  intro a
  have := q.isLt
  fin_cases a
  · show 64 * q.val + 64 ≤ 2048; omega
  · exact (by decide : 0 + 2048 ≤ 2048)

theorem colOff_x (q : Fin 32) : ∀ a, colOff q false a + S64x64.size a ≤ S2048x64.size a := by
  intro a
  have := q.isLt
  fin_cases a
  · show 64 * q.val + 64 ≤ 2048; omega
  · exact (by decide : 0 + 64 ≤ 64)

theorem rowOff_eq (c : Dev nD) (x : Fin 32) (st : Bool) : rowOff (wd c).v4 x st = colOff (posT c + x) st := by
  have h : ∀ q x : Fin 32, (Scalar.muli (Scalar.remsi (Scalar.addi (BitVec.ofNat 32 q.val) (BitVec.ofNat 32 x.val)) 32#32) 64#32).toNat
      = 64 * (q + x).val := by decide +kernel
  unfold rowOff colOff
  rw [show (wd c).v4 = BitVec.ofNat 32 (posT c).val from rfl, h]

theorem ownOff_eq (c : Dev nD) (st : Bool) : ownOff (wd c).v4 st = colOff (posT c) st := by
  have h : ∀ q : Fin 32, (Scalar.muli (BitVec.ofNat 32 q.val) 64#32).toNat = 64 * q.val := by decide +kernel
  unfold ownOff colOff
  rw [show (wd c).v4 = BitVec.ofNat 32 (posT c).val from rfl, h]

/-- A block of a square buffer at its absolute place. -/
@[reducible] def cblk (m : Memref sig .tc .vmem S2048x2048 .f32) (q : Fin 32) (st : Bool) : Memref sig .tc .vmem S64x1024 .f32 :=
  m.slice (Rect.unit (s := S2048x2048) (colOff q st) S64x1024.size (colOff_inb q st)) (fun _ => rfl)

/-- A row of blocks of the products at its absolute place. -/
@[reducible] def crow (q : Fin 32) : Memref sig .tc .vmem S64x2048 .f32 :=
  partM.slice (Rect.unit (s := S2048x2048) (colOff q false) S64x2048.size (colOff_wide q)) (fun _ => rfl)

theorem slice_congr {s : Shape} (m : Memref sig .tc .vmem s .f32) (sz : Fin s.rank → ℕ) {o o' : Fin s.rank → ℕ} (h : o = o')
    (i : ∀ a, o a + sz a ≤ s.size a) (i' : ∀ a, o' a + sz a ≤ s.size a) :
    m.slice (Rect.unit (s := s) o sz i) (fun _ => rfl) = m.slice (Rect.unit (s := s) o' sz i') (fun _ => rfl) := by
  subst h; rfl

theorem rect_congr {s : Shape} (sz : Fin s.rank → ℕ) {o o' : Fin s.rank → ℕ} (h : o = o')
    (i : ∀ a, o a + sz a ≤ s.size a) (i' : ∀ a, o' a + sz a ≤ s.size a) :
    Rect.unit (s := s) o sz i = Rect.unit (s := s) o' sz i' := by
  subst h; rfl

theorem blk_eq (m : Memref sig .tc .vmem S2048x2048 .f32) (c : Dev nD) (x : Fin 32) (st : Bool) :
    blk m (wd c).v4 (wd c).h1 x st = cblk m (posT c + x) st :=
  slice_congr m S64x1024.size (rowOff_eq c x st) _ _

/-- What arrives at a device by hop `g` of a stream is what the device before it passes on. -/
theorem land_q (c : Dev nD) (s : Str) (g : ℕ) (h : g < 31) :
    posT (nbr (!s.2) c) + off (!s.2) g = posT c + off (!s.2) (g + 1) := by
  have k : ∀ (di : Bool) (q : Fin 32) (g : Fin 31), q + one di + off di g.val = q + off di (g.val + 1) := by decide +kernel
  rw [posT_nbr]
  exact k _ _ ⟨g, h⟩

end Cert.KernelIdeal.Ring
-- ==== Proof.ViewsIdeal.lean ====
/-
  What the views of the body have to do with each other: a row of blocks is its two halves, a square buffer is its
  sixty-four blocks, a landing buffer is its slots, and a slot reads what the accesses to its buffer read there.
-/
module

public import proofs.«01_k».proof.Proof.RingIdeal
public import Idealize.ShloMosaic.Lib.Memref
public import Idealize.ShloMosaic.Lib.Ring
public import Idealize.ShloMosaic.Lib.Pipeline.ValueKit.Geometry

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Ring (pointsTo_blocks pointsTo_blocks_join_exists pointsTo_sub_blocks pointsTo_sub_blocks_join_exists)

variable {F : FTy → Type} [FloatOps F]

abbrev UU : Type := UR sig nD τ × URounds (GSem nD τ sig) Bool

local notation "𝕄" => MT nD τ sig Unit (Elt F) ℕ UU ℕ

/-- A device holds a block, reading `v` through it. -/
abbrev Holds (c : Dev nD) (m : Memref sig .tc .vmem S64x1024 .f32) (q : PosShare TreeShare) (v : Vec F S64x1024 .f32) : sProp 𝕄 :=
  owns (c : Thread nD τ) m q v

/-- A device holds a block outright, at contents not chosen. -/
def Free (c : Dev nD) (m : Memref sig .tc .vmem S64x1024 .f32) : sProp 𝕄 :=
  iprop(∃ f : Buf (Elt F) (m.view.loc (c : Thread nD τ)), m.view.loc (c : Thread nD τ) ↦[m.view.set]{fullShare} f)

theorem holds_free (c : Dev nD) (m : Memref sig .tc .vmem S64x1024 .f32) (v : Vec F S64x1024 .f32) :
    Holds c m fullShare v ⊢ (Free c m : sProp 𝕄) := by
  unfold Holds owns Free
  iintro ⟨%f, -, H⟩
  iexists f; iexact H

theorem free_holds (c : Dev nD) (m : Memref sig .tc .vmem S64x1024 .f32) :
    (Free c m : sProp 𝕄) ⊢ iprop(∃ v, Holds c m fullShare v) := by
  unfold Holds owns Free
  iintro ⟨%f, H⟩
  iexists (m.view.read (Elt F) f); iexists f
  isplitr; · ipureintro; rfl
  iexact H

/-- Elements at given contents are at some contents. -/
theorem pt_some {ℓ : Loc nD τ sig} {I : Finset (Idx ℓ)} (f : Buf (Elt F) ℓ) :
    (ℓ ↦[I]{fullShare} f : sProp 𝕄) ⊢ iprop(∃ f : Buf (Elt F) ℓ, ℓ ↦[I]{fullShare} f) := by
  iintro H; iexists f; iexact H

/-- A buffer's elements at some contents are a disjoint covering family's, each at some contents; -/
theorem cut_some {ℓ : Loc nD τ sig} {B : Type} [Fintype B] [DecidableEq B] (I : B → Finset (Idx ℓ)) (S : Finset (Idx ℓ))
    (hd : ∀ b b', b ≠ b' → Disjoint (I b) (I b')) (hS : Finset.univ.biUnion I = S) :
    (iprop(∃ f : Buf (Elt F) ℓ, ℓ ↦[S]{fullShare} f) : sProp 𝕄)
      ⊢ bigSep Finset.univ fun b => iprop(∃ f : Buf (Elt F) ℓ, ℓ ↦[I b]{fullShare} f) := by
  have h (f : Buf (Elt F) ℓ) : (bigSep Finset.univ fun b => (ℓ ↦[I b]{fullShare} f : sProp 𝕄))
      ⊢ bigSep Finset.univ fun b => iprop(∃ f : Buf (Elt F) ℓ, ℓ ↦[I b]{fullShare} f) := bigSep_mono fun b _ => pt_some (I := I b) f
  iintro ⟨%f, H⟩
  ihave H' := (Entails.of_eq (pointsTo_sub_blocks I hd S hS f)) $$ H
  iapply (h f); iexact H'

/-- and back. -/
theorem join_some {ℓ : Loc nD τ sig} {B : Type} [Fintype B] [DecidableEq B] (I : B → Finset (Idx ℓ)) (S : Finset (Idx ℓ))
    (hd : ∀ b b', b ≠ b' → Disjoint (I b) (I b')) (hS : Finset.univ.biUnion I = S) (f₀ : Buf (Elt F) ℓ) :
    (bigSep Finset.univ fun b => iprop(∃ f : Buf (Elt F) ℓ, ℓ ↦[I b]{fullShare} f))
      ⊢ (iprop(∃ f : Buf (Elt F) ℓ, ℓ ↦[S]{fullShare} f) : sProp 𝕄) :=
  pointsTo_sub_blocks_join_exists I hd S hS f₀

/-! ## Rows and halves -/

/-- A column of a half, among all the columns. -/
def wideIx (st : Bool) (i : S64x1024.Idx) : S64x2048.Idx :=
  fun a => match a with
  | ⟨0, _⟩ => i 0
  | ⟨1, _⟩ => ⟨(if st then 1024 else 0) + (i 1).val, by
      have h : (i 1).val < 1024 := (i 1).isLt
      show _ < 2048
      split <;> omega⟩

abbrev blkRect (q : Fin 32) (st : Bool) : Rect S2048x2048 := Rect.unit (s := S2048x2048) (colOff q st) S64x1024.size (colOff_inb q st)
abbrev rowRect (q : Fin 32) : Rect S2048x2048 := Rect.unit (s := S2048x2048) (colOff q false) S64x2048.size (colOff_wide q)

theorem mem_blkRect (q : Fin 32) (st : Bool) (i : S2048x2048.Idx) :
    i ∈ (blkRect q st).set ↔ (64 * q.val ≤ (i 0).val ∧ (i 0).val < 64 * q.val + 64)
      ∧ ((if st then 1024 else 0) ≤ (i 1).val ∧ (i 1).val < (if st then 1024 else 0) + 1024) := by
  rw [Rect.mem_set_unit]
  constructor
  · intro h; exact ⟨h 0, h 1⟩
  · rintro ⟨h0, h1⟩ a
    fin_cases a
    · exact h0
    · exact h1

theorem mem_rowRect (q : Fin 32) (i : S2048x2048.Idx) :
    i ∈ (rowRect q).set ↔ (64 * q.val ≤ (i 0).val ∧ (i 0).val < 64 * q.val + 64) := by
  rw [Rect.mem_set_unit]
  constructor
  · intro h; exact h 0
  · intro h0 a
    have h1 : (i 1).val < 2048 := (i 1).isLt
    fin_cases a
    · exact h0
    · exact ⟨Nat.zero_le _, by show (i 1).val < 0 + 2048; omega⟩

theorem blkRect_disjoint (b b' : Fin 32 × Bool) (h : b ≠ b') : Disjoint (blkRect b.1 b.2).set (blkRect b'.1 b'.2).set := by
  rw [Finset.disjoint_left]
  intro i hi hi'
  rw [mem_blkRect] at hi hi'
  apply h
  obtain ⟨q, st⟩ := b
  obtain ⟨q', st'⟩ := b'
  have hq : q = q' := Fin.ext (by dsimp only at hi hi'; omega)
  subst hq
  cases st <;> cases st' <;> simp_all <;> omega

theorem blkRect_cover : (Finset.univ : Finset (Fin 32 × Bool)).biUnion (fun b => (blkRect b.1 b.2).set) = Finset.univ := by
  ext i
  simp only [Finset.mem_biUnion, Finset.mem_univ, true_and, iff_true]
  have h0 : (i 0).val < 2048 := (i 0).isLt
  have h1 : (i 1).val < 2048 := (i 1).isLt
  refine ⟨(⟨(i 0).val / 64, by omega⟩, decide (1024 ≤ (i 1).val)), ?_⟩
  rw [mem_blkRect]
  dsimp only
  by_cases h : 1024 ≤ (i 1).val
  · simp only [h, decide_true, if_true, true_and]; omega
  · simp only [h, decide_false]
    simp only [Bool.false_eq_true, if_false]; omega

theorem rowRect_eq (q : Fin 32) : (rowRect q).set = (blkRect q false).set ∪ (blkRect q true).set := by
  ext i
  have h1 : (i 1).val < 2048 := (i 1).isLt
  rw [Finset.mem_union, mem_blkRect, mem_blkRect, mem_rowRect]
  simp only [Bool.false_eq_true, if_false, if_true]
  omega

theorem set_cblk_part (q : Fin 32) (st : Bool) : (cblk partM q st).view.set = (blkRect q st).set := View.set_slice_whole _ _
theorem set_cblk_out (q : Fin 32) (st : Bool) : (cblk outM q st).view.set = (blkRect q st).set := View.set_slice_whole _ _
theorem set_crow (q : Fin 32) : (crow q).view.set = (rowRect q).set := View.set_slice_whole _ _

theorem emb_wide (q : Fin 32) (st : Bool) (i : S64x1024.Idx) :
    (cblk partM q st).view.emb i = (crow q).view.emb (wideIx st i) := by
  funext a
  apply Fin.ext
  show ((blkRect q st).emb i a).val = ((rowRect q).emb (wideIx st i) a).val
  rw [Rect.emb_apply, Rect.emb_apply]
  fin_cases a
  · rfl
  · show (if st then 1024 else 0) + 1 * (i 1).val = 0 + 1 * ((if st then 1024 else 0) + (i 1).val)
    omega

/-- What a block reads once its row has been written. -/
theorem read_write_row (q : Fin 32) (st : Bool) (f : (crow q).view.ty.Contents (Elt F)) (w : Vec F S64x2048 .f32) :
    (cblk partM q st).view.read (Elt F) ((crow q).view.write (Elt F) f w Finset.univ) = fun i => w (wideIx st i) := by
  funext i
  rw [← congrFun (View.read_write_univ (v := (crow q).view) (Val := Elt F) f w) (wideIx st i)]
  rw [View.read_apply, View.read_apply]
  exact congrArg (fun j => (View.write (Elt F) (crow q).view f w Finset.univ) j) (emb_wide q st i)

/-- A row at given contents is its two halves at what they read. -/
theorem row_split (c : Dev nD) (q : Fin 32) (g : Buf (Elt F) ((crow q).view.loc (c : Thread nD τ))) :
    ((crow q).view.loc (c : Thread nD τ) ↦[(crow q).view.set]{fullShare} g : sProp 𝕄)
      ⊢ iprop(Holds c (cblk partM q false) fullShare ((cblk partM q false).view.read (Elt F) g)
          ∗ Holds c (cblk partM q true) fullShare ((cblk partM q true).view.read (Elt F) g)) := by
  have e : (crow q).view.set = (cblk partM q false).view.set ∪ (cblk partM q true).view.set := by
    rw [set_crow, set_cblk_part, set_cblk_part]; exact rowRect_eq q
  have d : Disjoint (cblk partM q false).view.set (cblk partM q true).view.set := by
    rw [set_cblk_part, set_cblk_part]; exact blkRect_disjoint (q, false) (q, true) (fun h => by cases (Prod.mk.inj h).2)
  rw [e]
  iintro H
  ihave H2 := (pointsTo_union d).1 $$ H
  icases H2 with ⟨H1, H2⟩
  isplitl [H1]
  · iapply (owns_intro (c : Thread nD τ) (cblk partM q false) fullShare g); iexact H1
  · iapply (owns_intro (c : Thread nD τ) (cblk partM q true) fullShare g); iexact H2

/-- The two halves of a row, at contents not chosen, are the row at some contents. -/
theorem row_join (c : Dev nD) (q : Fin 32) :
    iprop(Free c (cblk partM q false) ∗ Free c (cblk partM q true))
      ⊢ (iprop(∃ g : Buf (Elt F) ((crow q).view.loc (c : Thread nD τ)), (crow q).view.loc (c : Thread nD τ) ↦[(crow q).view.set]{fullShare} g) : sProp 𝕄) := by
  have e : (crow q).view.set = (cblk partM q false).view.set ∪ (cblk partM q true).view.set := by
    rw [set_crow, set_cblk_part, set_cblk_part]; exact rowRect_eq q
  have d : Disjoint (cblk partM q false).view.set (cblk partM q true).view.set := by
    rw [set_cblk_part, set_cblk_part]; exact blkRect_disjoint (q, false) (q, true) (fun h => by cases (Prod.mk.inj h).2)
  rw [e]
  unfold Free
  iintro ⟨⟨%f, H1⟩, ⟨%g, H2⟩⟩
  iexists ((cblk partM q true).view.set.piecewise g f)
  iapply (pointsTo_join d)
  isplitl [H1]
  · iexact H1
  · iexact H2

theorem free_part (c : Dev nD) (q : Fin 32) (st : Bool) : (Free c (cblk partM q st) : sProp 𝕄)
    = iprop(∃ f : Buf (Elt F) ((c : Thread nD τ).loc cc0_scratch0), (c : Thread nD τ).loc cc0_scratch0 ↦[(blkRect q st).set]{fullShare} f) := by
  unfold Free
  rw [set_cblk_part]

theorem free_out (c : Dev nD) (q : Fin 32) (st : Bool) : (Free c (cblk outM q st) : sProp 𝕄)
    = iprop(∃ f : Buf (Elt F) ((c : Thread nD τ).loc cc0_stg4_0), (c : Thread nD τ).loc cc0_stg4_0 ↦[(blkRect q st).set]{fullShare} f) := by
  unfold Free
  rw [set_cblk_out]

/-- The products' buffer, held whole, is its blocks, each at contents not chosen; -/
theorem part_blocks (c : Dev nD) :
    (iprop(∃ f : Buf (Elt F) ((c : Thread nD τ).loc cc0_scratch0), (c : Thread nD τ).loc cc0_scratch0 ↦[Finset.univ]{fullShare} f) : sProp 𝕄)
      ⊢ bigSep Finset.univ fun b : Fin 32 × Bool => Free c (cblk partM b.1 b.2) := by
  simp only [free_part]
  exact cut_some (ℓ := (c : Thread nD τ).loc cc0_scratch0) (fun b : Fin 32 × Bool => (blkRect b.1 b.2).set) Finset.univ blkRect_disjoint blkRect_cover

/-- and back. -/
theorem blocks_part (c : Dev nD) (f₀ : Buf (Elt F) ((c : Thread nD τ).loc cc0_scratch0)) :
    (bigSep Finset.univ fun b : Fin 32 × Bool => Free c (cblk partM b.1 b.2))
      ⊢ (iprop(∃ f : Buf (Elt F) ((c : Thread nD τ).loc cc0_scratch0), (c : Thread nD τ).loc cc0_scratch0 ↦[Finset.univ]{fullShare} f) : sProp 𝕄) := by
  simp only [free_part]
  exact join_some (ℓ := (c : Thread nD τ).loc cc0_scratch0) (fun b : Fin 32 × Bool => (blkRect b.1 b.2).set) Finset.univ blkRect_disjoint blkRect_cover f₀

/-- The result's buffer, held whole, is its blocks, each at contents not chosen. -/
theorem out_blocks (c : Dev nD) :
    (iprop(∃ f : Buf (Elt F) ((c : Thread nD τ).loc cc0_stg4_0), (c : Thread nD τ).loc cc0_stg4_0 ↦[Finset.univ]{fullShare} f) : sProp 𝕄)
      ⊢ bigSep Finset.univ fun b : Fin 32 × Bool => Free c (cblk outM b.1 b.2) := by
  simp only [free_out]
  exact cut_some (ℓ := (c : Thread nD τ).loc cc0_stg4_0) (fun b : Fin 32 × Bool => (blkRect b.1 b.2).set) Finset.univ blkRect_disjoint blkRect_cover

/-- The result's blocks, each at its part of `X`, are the result's buffer at `X`. -/
theorem blocks_out [∀ e, Nonempty (Elt F e)] (c : Dev nD) (X : Vec F S2048x2048 .f32) :
    (bigSep Finset.univ fun b : Fin 32 × Bool => Holds c (cblk outM b.1 b.2) fullShare (fun i => X ((blkRect b.1 b.2).emb i)))
      ⊢ ((c : Thread nD τ).loc cc0_stg4_0 ↦{fullShare} X : sProp 𝕄) :=
  (owns_of_rects (c : Thread nD τ) outM fullShare (fun b : Fin 32 × Bool => blkRect b.1 b.2) (fun _ _ => rfl)
    blkRect_disjoint blkRect_cover X).trans (Entails.of_eq (owns_whole (c : Thread nD τ) cc0_stg4_0 fullShare X))

/-! ## Slots -/

abbrev slotRect (s : Str) (j : ℕ) (h : j < hops s) : Rect (slotsShape s) :=
  Rect.unit (s := slotsShape s) ![j, 0, 0] S1x64x1024.size (slot_inb s j h)

theorem mem_slotRect (s : Str) (j : ℕ) (h : j < hops s) (i : (slotsShape s).Idx) : i ∈ (slotRect s j h).set ↔ (i 0).val = j := by
  rw [Rect.mem_set_unit]
  constructor
  · intro k
    have := k 0
    have h1 : j ≤ (i 0).val := this.1
    have h2 : (i 0).val < j + 1 := this.2
    omega
  · intro k a
    have h1 : (i 1).val < 64 := (i 1).isLt
    have h2 : (i 2).val < 1024 := (i 2).isLt
    fin_cases a
    · exact ⟨k.ge, by show (i 0).val < j + 1; omega⟩
    · exact ⟨Nat.zero_le _, by show (i 1).val < 0 + 64; omega⟩
    · exact ⟨Nat.zero_le _, by show (i 2).val < 0 + 1024; omega⟩

theorem slotRect_disjoint (s : Str) (j j' : Fin (hops s)) (h : j ≠ j') :
    Disjoint (slotRect s j j.isLt).set (slotRect s j' j'.isLt).set := by
  rw [Finset.disjoint_left]
  intro i hi hi'
  rw [mem_slotRect] at hi hi'
  exact h (Fin.ext (hi.symm.trans hi'))

theorem slotRect_cover (s : Str) : (Finset.univ : Finset (Fin (hops s))).biUnion (fun j => (slotRect s j j.isLt).set) = Finset.univ := by
  ext i
  simp only [Finset.mem_biUnion, Finset.mem_univ, true_and, iff_true]
  exact ⟨i 0, (mem_slotRect s _ _ i).2 rfl⟩

theorem set_slot (s : Str) (j : ℕ) (h : j < hops s) : (slot s j h).view.set = ((rsM s).access (slotRect s j h)).set :=
  View.set_reshape _ _

/-- A stream's landing buffer at some contents. -/
def rsAny (c : Dev nD) (s : Str) : sProp 𝕄 :=
  iprop(∃ f : Buf (Elt F) ((rsM s).view.loc (c : Thread nD τ)), (rsM s).view.loc (c : Thread nD τ) ↦[(rsM s).view.set]{fullShare} f)

theorem slots_disjoint (s : Str) (j j' : Fin (hops s)) (h : j ≠ j') :
    Disjoint ((rsM s).access (slotRect s j j.isLt)).set ((rsM s).access (slotRect s j' j'.isLt)).set := by
  rw [View.set_slice, View.set_slice]
  exact (Finset.disjoint_map _).mpr (slotRect_disjoint s j j' h)

theorem slots_cover (s : Str) :
    (Finset.univ : Finset (Fin (hops s))).biUnion (fun j => ((rsM s).access (slotRect s j j.isLt)).set) = (rsM s).view.set := by
  ext i
  simp only [Finset.mem_biUnion, Finset.mem_univ, true_and]
  constructor
  · rintro ⟨j, hj⟩
    exact View.set_slice_subset _ _ hj
  · intro hi
    obtain ⟨x, -, rfl⟩ := Finset.mem_map.mp hi
    refine ⟨x 0, ?_⟩
    rw [View.set_slice]
    exact Finset.mem_map_of_mem _ ((mem_slotRect s _ _ x).2 rfl)

/-- A squeezed slice, at contents not chosen, is the elements it names, at contents not chosen. -/
theorem free_squeeze {t : Shape} (c : Dev nD) (m : Memref sig .tc .vmem t .f32) (r : Rect t) (hr : ∀ a, r.stride a = 1)
    (hs : r.shape.Squeezes S64x1024) : (Free c ((m.slice r hr).squeeze S64x1024 hs) : sProp 𝕄)
    = iprop(∃ f : Buf (Elt F) (m.view.loc (c : Thread nD τ)), m.view.loc (c : Thread nD τ) ↦[(m.access r).set]{fullShare} f) := by
  unfold Free
  rw [Memref.view_squeeze, View.set_reshape]

theorem free_slot (c : Dev nD) (s : Str) (j : ℕ) (h : j < hops s) : (Free c (slot s j h) : sProp 𝕄)
    = iprop(∃ f : Buf (Elt F) ((rsM s).view.loc (c : Thread nD τ)), (rsM s).view.loc (c : Thread nD τ) ↦[((rsM s).access (slotRect s j h)).set]{fullShare} f) :=
  free_squeeze c (rsM s) (slotRect s j h) (fun _ => rfl) squeezes_S1x64x1024_S64x1024

/-- A landing buffer is its slots, each at contents not chosen; -/
theorem rs_slots (c : Dev nD) (s : Str) :
    (rsAny c s : sProp 𝕄) ⊢ bigSep Finset.univ fun j : Fin (hops s) => Free c (slot s j j.isLt) := by
  unfold rsAny
  simp only [free_slot]
  exact cut_some (ℓ := (rsM s).view.loc (c : Thread nD τ)) (fun j : Fin (hops s) => ((rsM s).access (slotRect s j j.isLt)).set) _
    (slots_disjoint s) (slots_cover s)

/-- and back. -/
theorem slots_rs (c : Dev nD) (s : Str) (f₀ : Buf (Elt F) ((rsM s).view.loc (c : Thread nD τ))) :
    (bigSep Finset.univ fun j : Fin (hops s) => Free c (slot s j j.isLt)) ⊢ (rsAny c s : sProp 𝕄) := by
  unfold rsAny
  simp only [free_slot]
  exact join_some (ℓ := (rsM s).view.loc (c : Thread nD τ)) (fun j : Fin (hops s) => ((rsM s).access (slotRect s j j.isLt)).set) _
    (slots_disjoint s) (slots_cover s) f₀

theorem read_squeeze {t : Shape} (m : Memref sig .tc .vmem t .f32) (r : Rect t) (hr : ∀ a, r.stride a = 1)
    (hs : r.shape.Squeezes S64x1024) (f : (m.access r).ty.Contents (Elt F)) :
    ((m.slice r hr).squeeze S64x1024 hs).view.read (Elt F) f = shapeCast S64x1024 ((m.access r).read (Elt F) f) hs.numel_eq := rfl

theorem read_slot (s : Str) (j : ℕ) (h : j < hops s) (f : ((rsM s).access (slotRect s j h)).ty.Contents (Elt F)) :
    (slot s j h).view.read (Elt F) f
      = shapeCast S64x1024 (((rsM s).access (slotRect s j h)).read (Elt F) f : Vec F S1x64x1024 .f32) shapeCasts_S1x64x1024_S64x1024 :=
  read_squeeze (rsM s) (slotRect s j h) (fun _ => rfl) squeezes_S1x64x1024_S64x1024 f

/-- A slot reads what is stored into it. -/
theorem read_write_slot (s : Str) (j : ℕ) (h : j < hops s) (f : ((rsM s).access (slotRect s j h)).ty.Contents (Elt F))
    (w : FVec F S64x1024 .f32) :
    (slot s j h).view.read (Elt F)
        (((rsM s).access (slotRect s j h)).write (Elt F) f (shapeCast S1x64x1024 w shapeCasts_S64x1024_S1x64x1024 : Vec F S1x64x1024 .f32) Finset.univ)
      = w := by
  rw [read_slot, View.read_write_univ]
  funext i
  show w (Shape.reshapeEquiv _ (Shape.reshapeEquiv _ i)) = w i
  rw [Shape.reshapeEquiv_reshapeEquiv, Shape.reshapeEquiv_self]

end Cert.KernelIdeal.Ring
-- ==== Proof.ProtoIdeal.lean ====
/-
  The protocol of the ring: what every copy carries, with contents; the semaphores it goes by; who pays whom what.
  A hop is a phase (`false`: the sums are formed, `true`: the results are passed on), a stream and a number. Every hop
  has a semaphore on which its sender learns that it has left and one on which its receiver learns that it has landed.
-/
module

public import proofs.«01_k».proof.Proof.ViewsIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

abbrev ER : Emb (URounds (GSem nD τ sig) Bool) (MT nD τ sig Unit (Elt F) ℕ UU ℕ) := embR

/-! ## Contents -/

section Contents

variable (X : Dev nD → Vec F S2048x64 .f32) (Wt : Dev nD → Vec F S64x2048 .f32)

/-- Row block `q` of a device's `x`. -/
def rowsV (c : Dev nD) (q : Fin 32) : Vec F S64x64 .f32 :=
  fun i => X c ((Rect.unit (s := S2048x64) (colOff q false) S64x64.size (colOff_x q)).emb i)

/-- A device's `w`. -/
def wV (c : Dev nD) : Vec F S64x2048 .f32 :=
  fun i => Wt c ((Rect.unit (s := S64x2048) ![0, 0] S64x2048.size inb_S64x2048_S64x2048_0_0).emb i)

/-- Row block `q` of a device's own product, in a half of the columns. -/
def partV (c : Dev nD) (q : Fin 32) (st : Bool) : FVec F S64x1024 .f32 :=
  fun i => dotPay (rowsV X c q) (wV Wt c) (wideIx st i)

/-- What hop `j` of a stream carries away from a device while the sums are formed. -/
def srcS (s : Str) : ℕ → Dev nD → FVec F S64x1024 .f32
  | 0, c => partV X Wt c (posT c + off s.2 (hops s)) s.1
  | j + 1, c => addf (srcS s j (nbr (!s.2) c)) (partV X Wt c (posT c + off s.2 (hops s - 1 - j)) s.1)

/-- A device's own block of the result, in a half of the columns. -/
def finV (st : Bool) (c : Dev nD) : FVec F S64x1024 .f32 :=
  geluV (addf (addf (srcS X Wt (st, false) (hops (st, false) - 1) (nbr true c)) (srcS X Wt (st, true) (hops (st, true) - 1) (nbr false c)))
    (partV X Wt c (posT c) st))

/-- What a hop carries away from a device. -/
def srcV (p : Bool) (s : Str) (j : ℕ) (c : Dev nD) : FVec F S64x1024 .f32 :=
  match p with
  | false => srcS X Wt s j c
  | true => finV X Wt s.1 (devT (posT c + agX s j))

/-- What a hop brings to a device. -/
abbrev landV (p : Bool) (s : Str) (j : ℕ) (c : Dev nD) : FVec F S64x1024 .f32 := srcV X Wt p s j (nbr (!s.2) c)

end Contents

/-! ## Hops and their cells -/

abbrev Hp := Bool × ((s : Str) × Fin (hops s))

@[reducible] def cellSem : Bool → Hp → DmaSem sig
  | false, (false, ⟨s, j⟩) => semAt s (rssA s) j j.isLt
  | true, (false, ⟨s, j⟩) => semAt s (rsrA s) j j.isLt
  | false, (true, ⟨s, j⟩) => semAt s (agsA s) j j.isLt
  | true, (true, ⟨s, j⟩) => semAt s (agrA s) j j.isLt

/-- Where the semaphores of a stream begin. -/
def semBase : Bool → Bool → Str → ℕ
  | false, false, (false, false) => 5
  | true, false, (false, false) => 21
  | false, false, (false, true) => 37
  | true, false, (false, true) => 52
  | false, false, (true, false) => 67
  | true, false, (true, false) => 82
  | false, false, (true, true) => 97
  | true, false, (true, true) => 113
  | false, true, (false, false) => 129
  | true, true, (false, false) => 145
  | false, true, (false, true) => 161
  | true, true, (false, true) => 176
  | false, true, (true, false) => 191
  | true, true, (true, false) => 206
  | false, true, (true, true) => 221
  | true, true, (true, true) => 237

theorem cellSem_val : ∀ (r : Bool) (h : Hp), (cellSem r h).val = semBase r h.1 h.2.1 + h.2.2.val := by
  have h1 : ∀ (s : Str) (j : Fin (hops s)), (semAt s (rssA s) j j.isLt).val = semBase false false s + j.val := by decide +kernel
  have h2 : ∀ (s : Str) (j : Fin (hops s)), (semAt s (rsrA s) j j.isLt).val = semBase true false s + j.val := by decide +kernel
  have h3 : ∀ (s : Str) (j : Fin (hops s)), (semAt s (agsA s) j j.isLt).val = semBase false true s + j.val := by decide +kernel
  have h4 : ∀ (s : Str) (j : Fin (hops s)), (semAt s (agrA s) j j.isLt).val = semBase true true s + j.val := by decide +kernel
  rintro (_ | _) ⟨_ | _, s, j⟩
  · exact h1 s j
  · exact h3 s j
  · exact h2 s j
  · exact h4 s j

/-- Which array a semaphore is of. -/
def semDec (v : ℕ) : Bool × Bool × Str :=
  if v < 21 then (false, false, false, false) else if v < 37 then (true, false, false, false)
  else if v < 52 then (false, false, false, true) else if v < 67 then (true, false, false, true)
  else if v < 82 then (false, false, true, false) else if v < 97 then (true, false, true, false)
  else if v < 113 then (false, false, true, true) else if v < 129 then (true, false, true, true)
  else if v < 145 then (false, true, false, false) else if v < 161 then (true, true, false, false)
  else if v < 176 then (false, true, false, true) else if v < 191 then (true, true, false, true)
  else if v < 206 then (false, true, true, false) else if v < 221 then (true, true, true, false)
  else if v < 237 then (false, true, true, true) else (true, true, true, true)

theorem semDec_base : ∀ (r p : Bool) (s : Str) (j : Fin (hops s)), semDec (semBase r p s + j.val) = (r, p, s) := by decide +kernel

/-- No two hops share a semaphore. -/
theorem cellSem_inj : Function.Injective (fun a : Bool × Hp => cellSem a.1 a.2) := by
  rintro ⟨r, p, s, j⟩ ⟨r', p', s', j'⟩ h
  have hv := congrArg Fin.val h
  dsimp only at hv
  rw [cellSem_val, cellSem_val] at hv
  dsimp only at hv
  have hd := (semDec_base r p s j).symm.trans ((congrArg semDec hv).trans (semDec_base r' p' s' j'))
  simp only [Prod.mk.injEq] at hd
  obtain ⟨rfl, rfl, rfl⟩ := hd
  have hj : j = j' := Fin.ext (Nat.add_left_cancel hv)
  subst hj
  rfl

/-- The hop a semaphore is of, and whether it is the receiver's. -/
def hopOf : DmaSem sig → Option (Bool × Hp) := Function.partialInv (fun a : Bool × Hp => cellSem a.1 a.2)

theorem hopOf_cellSem (r : Bool) (h : Hp) : hopOf (cellSem r h) = some (r, h) := Function.partialInv_left cellSem_inj (r, h)

/-- The cell of a hop on a device. -/
abbrev cellH (r : Bool) (h : Hp) (c : Dev nD) : GSem nD τ sig := ((c : Thread nD τ), .dma (cellSem r h))
abbrev sendC (h : Hp) (c : Dev nD) : GSem nD τ sig := cellH false h c
abbrev recvC (h : Hp) (c : Dev nD) : GSem nD τ sig := cellH true h c
abbrev barC (c : Dev nD) : GSem nD τ sig := ((c : Thread nD τ), .reg barS)

/-- All cells of the protocol. -/
@[reducible] def cellG : Dev nD × Option (Bool × Hp) → GSem nD τ sig
  | (c, none) => barC c
  | (c, some (r, h)) => cellH r h c

theorem cellG_inj : Function.Injective cellG := by
  rintro ⟨c, _ | ⟨r, h⟩⟩ ⟨c', _ | ⟨r', h'⟩⟩ e
  · have := congrArg (fun g : GSem nD τ sig => g.1.1) e
    dsimp only at this; subst this; rfl
  · exact absurd (congrArg (fun g : GSem nD τ sig => g.2) e) (by simp)
  · exact absurd (congrArg (fun g : GSem nD τ sig => g.2) e) (by simp)
  · have h1 := congrArg (fun g : GSem nD τ sig => g.1.1) e
    have h2 := congrArg (fun g : GSem nD τ sig => g.2) e
    dsimp only at h1 h2; subst h1
    have h3 := cellSem_inj (a₁ := (r, h)) (a₂ := (r', h')) (SemLoc.dma.inj h2)
    cases h3; rfl

/-! ## Regions -/

/-- Where a hop lands on a device. -/
@[reducible] def landM : Hp → Dev nD → Memref sig .tc .vmem S64x1024 .f32
  | (false, ⟨s, j⟩), _ => slot s j j.isLt
  | (true, ⟨s, j⟩), c => cblk outM (posT c + off (!s.2) (j.val + 1)) s.1

/-- Where hop `j` of the sums is sent from on a device. -/
@[reducible] def srcM0 (s : Str) (c : Dev nD) : (j : ℕ) → j < hops s → Memref sig .tc .vmem S64x1024 .f32
  | 0, _ => cblk partM (posT c + off s.2 (hops s)) s.1
  | j + 1, h => slot s j (Nat.lt_of_succ_lt h)

/-- Where a hop is sent from on a device. -/
@[reducible] def srcM : Hp → Dev nD → Memref sig .tc .vmem S64x1024 .f32
  | (false, ⟨s, j⟩), c => srcM0 s c j.val j.isLt
  | (true, ⟨s, j⟩), c => cblk outM (posT c + agX s j.val) s.1

theorem rsSrc_eq (c : Dev nD) (s : Str) : (j : ℕ) → (h : j < hops s) → rsSrc (wd c).v4 (wd c).h1 s j h = srcM0 s c j h
  | 0, _ => blk_eq partM c _ _
  | _ + 1, _ => rfl

/-- The share of its source a hop takes: the device's own block of the result is sent in both directions at once. -/
def shQ : Bool → Str → ℕ → PosShare TreeShare
  | true, (_, false), 0 => fullShare.left
  | true, (_, true), 0 => fullShare.right
  | _, _, _ => fullShare

/-- The units a copy brings. -/
def NN : ℕ := (slot (false, false) 0 (hops_pos _)).view.dmaCredit

theorem NN_pos : 0 < NN := View.dmaCredit_pos _ (by decide +kernel)

theorem credit_slot (s : Str) (j : ℕ) (h : j < hops s) : (slot s j h).view.dmaCredit = NN := by
  obtain ⟨_ | _, _ | _⟩ := s <;> rfl
theorem credit_out (v4 : BitVec 32) (hw : k0_chk1 v4) (x : Fin 32) (st : Bool) : (blk outM v4 hw x st).view.dmaCredit = NN := rfl
theorem credit_src (v4 : BitVec 32) (hw : k0_chk1 v4) (s : Str) : (j : ℕ) → (h : j < hops s) → (rsSrc v4 hw s j h).view.dmaCredit = NN
  | 0, _ => rfl
  | j + 1, h => credit_slot s j (Nat.lt_of_succ_lt h)

/-! ## The schedule -/

variable (X : Dev nD → Vec F S2048x64 .f32) (Wt : Dev nD → Vec F S64x2048 .f32)

/-- What the sender of a hop gets back once it has left. -/
def sendPay (h : Hp) (c : Dev nD) : sProp 𝕄 :=
  Holds c (srcM h c) (shQ h.1 h.2.1 h.2.2.val) (srcV X Wt h.1 h.2.1 h.2.2.val c)

/-- What the receiver of a hop gets once it has landed. -/
def recvPay (h : Hp) (c : Dev nD) : sProp 𝕄 :=
  Holds c (landM h c) fullShare (landV X Wt h.1 h.2.1 h.2.2.val c)

/-- The leave to land a hop on a device: the place, and that the round of its cell is open. -/
def leave (h : Hp) (c : Dev nD) : sProp 𝕄 := iprop(Free c (landM h c) ∗ reached ER (recvC h c) 0)

/-- What the neighbour in a direction grants a device at the barrier: leave to land every hop going that way. -/
def barPay (d : Bool) (c : Dev nD) : sProp 𝕄 :=
  bigSep (Finset.univ.filter fun h : Hp => h.2.1.2 = d) fun h => leave h (nbr d c)

def hopPay (c : Dev nD) : Option (Bool × Hp) → sProp 𝕄
  | none => iprop(emp)
  | some (false, h) => sendPay X Wt h c
  | some (true, h) => recvPay X Wt h c

/-- One round: two units on each barrier cell, one from either neighbour; one copy's units on every other cell. -/
def rd : Rounds.Schedule (GSem nD τ sig) Bool 𝕄 where
  duties g r := if r = 0 then (match g.2 with | .reg _ => Finset.univ | .dma _ => {false}) else ∅
  unitless _ := False
  amount g _ _ := match g.2 with | .reg _ => 1 | .dma _ => NN
  payload g _ d := match g.2 with | .reg _ => barPay d g.1.1 | .dma m => hopPay X Wt g.1.1 (hopOf m)
  amount_pos g _ _ _ := by
    rcases g with ⟨t, _ | _⟩
    · exact Nat.one_pos
    · exact NN_pos

instance free_storable (c : Dev nD) (m : Memref sig .tc .vmem S64x1024 .f32) :
    BI.Storable (upEmb : UEmb _ 𝕄) (Free (F := F) c m) := by unfold Free; infer_instance

instance leave_storable (h : Hp) (c : Dev nD) : BI.Storable (upEmb : UEmb _ 𝕄) (leave (F := F) h c) := by
  unfold leave; infer_instance

instance rd_storable (g : GSem nD τ sig) (r : ℕ) (d : Bool) : BI.Storable (upEmb : UEmb _ 𝕄) ((rd X Wt).payload g r d) := by
  rcases g with ⟨t, m | m⟩
  · show BI.Storable upEmb (barPay d t.1)
    unfold barPay; infer_instance
  · show BI.Storable upEmb (hopPay X Wt t.1 (hopOf m))
    rcases hopOf m with _ | ⟨_ | _, h⟩
    · unfold hopPay; infer_instance
    · unfold hopPay sendPay; infer_instance
    · unfold hopPay recvPay; infer_instance

section Sched

variable (c : Dev nD) (h : Hp) (r : Bool)

theorem duties_bar : (rd X Wt).duties (barC c) 0 = Finset.univ := rfl
theorem duties_hop : (rd X Wt).duties (cellH r h c) 0 = {false} := rfl
theorem duties_later (g : GSem nD τ sig) : ∀ n, 1 ≤ n → (rd X Wt).duties g n = ∅ :=
  fun n hn => if_neg (by omega)
theorem amount_bar (d : Bool) : (rd X Wt).amount (barC c) 0 d = 1 := rfl
theorem amount_hop (d : Bool) : (rd X Wt).amount (cellH r h c) 0 d = NN := rfl
theorem expect_bar : (rd X Wt).expect (barC c) 0 = 2 := by
  unfold Schedule.expect Schedule.amountOf
  rw [duties_bar, Finset.sum_congr rfl fun d _ => amount_bar X Wt c d]
  rfl
theorem expect_hop : (rd X Wt).expect (cellH r h c) 0 = NN := by
  unfold Schedule.expect Schedule.amountOf
  rw [duties_hop, Finset.sum_singleton, amount_hop]
theorem payload_bar (d : Bool) : (rd X Wt).payload (barC c) 0 d = barPay d c := rfl
theorem payload_send : (rd X Wt).payload (sendC h c) 0 false = sendPay X Wt h c := by
  show hopPay X Wt c (hopOf (cellSem false h)) = _
  rw [hopOf_cellSem]; rfl
theorem payload_recv : (rd X Wt).payload (recvC h c) 0 false = recvPay X Wt h c := by
  show hopPay X Wt c (hopOf (cellSem true h)) = _
  rw [hopOf_cellSem]; rfl
theorem rest_bar : bigSep ((rd X Wt).duties (barC c) 0 \ ∅) (fun d => (rd X Wt).payload (barC c) 0 d)
    = bigSep Finset.univ fun d => barPay d c := by
  rw [Finset.sdiff_empty, duties_bar]
  rfl
theorem rest_send : bigSep ((rd X Wt).duties (sendC h c) 0 \ ∅) (fun d => (rd X Wt).payload (sendC h c) 0 d) = sendPay X Wt h c := by
  rw [Finset.sdiff_empty, duties_hop, bigSep_singleton, payload_send]
theorem rest_recv : bigSep ((rd X Wt).duties (recvC h c) 0 \ ∅) (fun d => (rd X Wt).payload (recvC h c) 0 d) = recvPay X Wt h c := by
  rw [Finset.sdiff_empty, duties_hop, bigSep_singleton, payload_recv]

end Sched

/-! ## Levels -/

def L (g : GSem nD τ sig) : Finset Unit := if g.1.2 = .tc then {()} else ∅

/-- Arrivals in the order of their hops, the sums before the results; barriers below them, all else at the bottom. -/
def hopLv (h : Hp) : ℕ := if h.1 then 20 + h.2.2.val else 2 + h.2.2.val

def lv (g : GSem nD τ sig) (_ : Unit) : ℕ :=
  match g.2 with
  | .reg _ => 1
  | .dma m => match hopOf m with
    | some (true, h) => hopLv h
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := rfl
theorem lv_recv (h : Hp) (c : Dev nD) (u : Unit) : lv (recvC h c) u = hopLv h := by
  show (match hopOf (cellSem true h) with | some (true, h) => hopLv h | _ => 0) = _
  rw [hopOf_cellSem]
theorem lv_send (h : Hp) (c : Dev nD) (u : Unit) : lv (sendC h c) u = 0 := by
  show (match hopOf (cellSem false h) with | some (true, h) => hopLv h | _ => 0) = _
  rw [hopOf_cellSem]

end Cert.KernelIdeal.Ring
-- ==== Proof.ActsIdeal.lean ====
/-
  What each step of the body does to what a device holds, step by step and by itself: the rule of every kind of step over
  just the resources it uses. The two phases of the ring share their steps here.
-/
module

public import proofs.«01_k».proof.Proof.ProtoIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

abbrev 𝒱₀ : Variants := Variants.none

variable (X : Dev nD → Vec F S2048x64 .f32) (Wt : Dev nD → Vec F S64x2048 .f32)

/-- What a program is run with: any continuation `Kt` from its end. -/
abbrev WP (c : Dev nD) (p : P (F := F)) (Kt : PUnit → sProp 𝕄) : sProp 𝕄 :=
  wp frame (wpE (defs₀ (F := F)) 𝒱₀ (c : Thread nD τ) none) Set.univ p Kt

/-- The device's `x` and `w`, as fetched. -/
abbrev xPts (c : Dev nD) : sProp 𝕄 := (xM.view.loc (c : Thread nD τ)) ↦[Finset.univ]{fullShare} (X c)
abbrev wPts (c : Dev nD) : sProp 𝕄 := (wM.view.loc (c : Thread nD τ)) ↦[Finset.univ]{fullShare} (Wt c)

/-- A load, by itself: the elements held cover what it reads. -/
theorem ld {s : Shape} (c : Dev nD) (m : Memref sig .tc .vmem s .f32) (r : Rect s) (hl : m.view.LoadsAt r.toLoadRect) (q : PosShare TreeShare)
    (S : Finset (Idx (m.view.loc (c : Thread nD τ)))) (hS : (m.access r).set ⊆ S) (f : Buf (Elt F) (m.view.loc (c : Thread nD τ)))
    (Kt : Vec F r.shape .f32 → sProp 𝕄) :
    iprop((m.view.loc (c : Thread nD τ) ↦[S]{q} f) ∗ ((m.view.loc (c : Thread nD τ) ↦[S]{q} f) -∗ Kt ((m.access r).read (Elt F) f)))
      ⊢ wp frame (wpE (defs₀ (F := F)) 𝒱₀ (c : Thread nD τ) none) Set.univ (Prog.lift (.load m r.toLoadRect hl)) Kt := by
  unfold Prog.lift
  iintro ⟨H, Hk⟩
  iapply (wp_load_rect 𝒱₀ (c : Thread nD τ) none Set.univ (m := m) (r := r) (q := q) (S := S) (f := f) hS) $$ H
  iintro H
  rw [wp_ret]
  imodintro
  iapply Hk; iexact H

/-- A whole store, by itself. -/
theorem st {s : Shape} (c : Dev nD) (m : Memref sig .tc .vmem s .f32) (r : Rect s) (w : Vec F r.shape .f32)
    (hx : (m.access r).Stores Finset.univ) (hm) (S : Finset (Idx (m.view.loc (c : Thread nD τ)))) (hS : (m.access r).set ⊆ S)
    (f : Buf (Elt F) (m.view.loc (c : Thread nD τ))) (Kt : PUnit → sProp 𝕄) :
    iprop((m.view.loc (c : Thread nD τ) ↦[S]{fullShare} f)
        ∗ ((m.view.loc (c : Thread nD τ) ↦[S]{fullShare} ((m.access r).write (Elt F) f w Finset.univ)) -∗ Kt ⟨⟩))
      ⊢ wp frame (wpE (defs₀ (F := F)) 𝒱₀ (c : Thread nD τ) none) Set.univ (Prog.lift (.store m r w Finset.univ hx hm)) Kt := by
  unfold Prog.lift
  iintro ⟨H, Hk⟩
  iapply (wp_store 𝒱₀ (c : Thread nD τ) none Set.univ (m := m) (r := r) (S := S) (f := f) (by rw [View.setOn_univ]; exact hS)) $$ H
  iintro H
  rw [wp_ret]
  imodintro
  iapply Hk; iexact H

/-- Computing the block at given offsets. -/
def pieceAt (o : Fin 2 → ℕ) (h₁ : ∀ a, o a + S64x64.size a ≤ S2048x64.size a) (h₂ : ∀ a, o a + S64x2048.size a ≤ S2048x2048.size a) :
    P (F := F) := do
  let a : Vec F S64x64 .f32 ← Prog.lift (.load xM (Rect.unit (s := S2048x64) o S64x64.size h₁).toLoadRect (View.loadsAt_vmem h_S64x64))
  let b : Vec F S64x2048 .f32 ← Prog.lift (.load wM (Rect.unit (s := S64x2048) ![0, 0] S64x2048.size inb_S64x2048_S64x2048_0_0).toLoadRect (View.loadsAt_vmem h_S64x2048))
  let _y : Vec F S64x2048 .f32 ← Prog.lift (.load partM (Rect.unit (s := S2048x2048) o S64x2048.size h₂).toLoadRect (View.loadsAt_vmem h_S64x2048))
  Prog.lift (.store partM (Rect.unit (s := S2048x2048) o S64x2048.size h₂) (dotPay a b) Finset.univ (View.stores_vmem_bits_univ h_S64x2048 rfl) (.inl rfl))

theorem pieceAt_congr {o o' : Fin 2 → ℕ} (h : o = o') (h₁ h₂ h₁' h₂') : pieceAt (F := F) o h₁ h₂ = pieceAt o' h₁' h₂' := by
  subst h; rfl

theorem pieceP_eq (c : Dev nD) (x : Fin 32) :
    pieceP (F := F) (wd c) x = pieceAt (colOff (posT c + x) false) (colOff_x _) (colOff_wide _) :=
  pieceAt_congr (rowOff_eq c x false) (rowOff_x (wd c).v4 (wd c).h1 x) (rowOff_wide (wd c).v4 (wd c).h1 x) _ _

theorem rows_read (c : Dev nD) (q : Fin 32) :
    (xM.access (Rect.unit (s := S2048x64) (colOff q false) S64x64.size (colOff_x q))).read (Elt F) (X c) = rowsV X c q := rfl
theorem w_read (c : Dev nD) :
    (wM.access (Rect.unit (s := S64x2048) ![0, 0] S64x2048.size inb_S64x2048_S64x2048_0_0)).read (Elt F) (Wt c) = wV Wt c := rfl

theorem piece_read (c : Dev nD) (q : Fin 32) (st : Bool) (f : (crow q).view.ty.Contents (Elt F)) :
    (cblk partM q st).view.read (Elt F) ((crow q).view.write (Elt F) f (dotPay (rowsV X c q) (wV Wt c)) Finset.univ)
      = partV X Wt c q st := read_write_row q st f _

theorem ldx (c : Dev nD) (q : Fin 32) (Kt : Vec F S64x64 .f32 → sProp 𝕄) :
    iprop(xPts X c ∗ (xPts X c -∗ Kt (rowsV X c q)))
      ⊢ wp frame (wpE (defs₀ (F := F)) 𝒱₀ (c : Thread nD τ) none) Set.univ
        (Prog.lift (.load xM (Rect.unit (s := S2048x64) (colOff q false) S64x64.size (colOff_x q)).toLoadRect (View.loadsAt_vmem h_S64x64))) Kt :=
  ld c xM (Rect.unit (s := S2048x64) (colOff q false) S64x64.size (colOff_x q)) (View.loadsAt_vmem h_S64x64) fullShare Finset.univ
    (Finset.subset_univ _) (X c) Kt

theorem ldw (c : Dev nD) (Kt : Vec F S64x2048 .f32 → sProp 𝕄) :
    iprop(wPts Wt c ∗ (wPts Wt c -∗ Kt (wV Wt c)))
      ⊢ wp frame (wpE (defs₀ (F := F)) 𝒱₀ (c : Thread nD τ) none) Set.univ
        (Prog.lift (.load wM (Rect.unit (s := S64x2048) ![0, 0] S64x2048.size inb_S64x2048_S64x2048_0_0).toLoadRect (View.loadsAt_vmem h_S64x2048))) Kt :=
  ld c wM (Rect.unit (s := S64x2048) ![0, 0] S64x2048.size inb_S64x2048_S64x2048_0_0) (View.loadsAt_vmem h_S64x2048) fullShare Finset.univ
    (Finset.subset_univ _) (Wt c) Kt

/-- A row of blocks at some contents. -/
def rowAny (c : Dev nD) (q : Fin 32) : sProp 𝕄 :=
  iprop(∃ g : Buf (Elt F) ((crow q).view.loc (c : Thread nD τ)), (crow q).view.loc (c : Thread nD τ) ↦[(crow q).view.set]{fullShare} g)

theorem ldrow (c : Dev nD) (q : Fin 32) (Kt : Vec F S64x2048 .f32 → sProp 𝕄) :
    iprop(rowAny c q ∗ (∀ v, rowAny c q -∗ Kt v))
      ⊢ wp frame (wpE (defs₀ (F := F)) 𝒱₀ (c : Thread nD τ) none) Set.univ
        (Prog.lift (.load partM (rowRect q).toLoadRect (View.loadsAt_vmem h_S64x2048))) Kt := by
  unfold rowAny
  iintro ⟨⟨%g, H⟩, Hk⟩
  iapply (ld c partM (rowRect q) (View.loadsAt_vmem h_S64x2048) fullShare (crow q).view.set subset_rfl g Kt)
  isplitl [H]; · iexact H
  iintro H
  iapply Hk
  iexists g; iexact H

theorem strow (c : Dev nD) (q : Fin 32) (Kt : PUnit → sProp 𝕄) :
    iprop(rowAny c q ∗ ((Holds c (cblk partM q false) fullShare (partV X Wt c q false)
          ∗ Holds c (cblk partM q true) fullShare (partV X Wt c q true)) -∗ Kt ⟨⟩))
      ⊢ wp frame (wpE (defs₀ (F := F)) 𝒱₀ (c : Thread nD τ) none) Set.univ
        (Prog.lift (.store partM (rowRect q) (dotPay (rowsV X c q) (wV Wt c)) Finset.univ (View.stores_vmem_bits_univ h_S64x2048 rfl) (.inl rfl))) Kt := by
  unfold rowAny
  iintro ⟨⟨%g, H⟩, Hk⟩
  iapply (st c partM (rowRect q) (dotPay (rowsV X c q) (wV Wt c)) (View.stores_vmem_bits_univ h_S64x2048 rfl) (.inl rfl) (crow q).view.set subset_rfl g Kt)
  isplitl [H]; · iexact H
  iintro H
  iapply Hk
  rw [← piece_read X Wt c q false g, ← piece_read X Wt c q true g]
  iapply (row_split c q); iexact H

/-- Computing a block: its two halves, whatever they held, hold the block of the product. -/
theorem piece_run (c : Dev nD) (x : Fin 32) (Kt : PUnit → sProp 𝕄) :
    iprop(xPts X c ∗ wPts Wt c ∗ (Free c (cblk partM (posT c + x) false) ∗ Free c (cblk partM (posT c + x) true))
        ∗ ((xPts X c ∗ wPts Wt c ∗ Holds c (cblk partM (posT c + x) false) fullShare (partV X Wt c (posT c + x) false)
            ∗ Holds c (cblk partM (posT c + x) true) fullShare (partV X Wt c (posT c + x) true)) -∗ Kt ⟨⟩))
      ⊢ WP c (pieceP (wd c) x) Kt := by
  unfold WP
  rw [pieceP_eq]
  unfold pieceAt
  iintro ⟨Hx, Hw, Hf, Hk⟩
  ihave Hr := (row_join c (posT c + x)) $$ Hf
  rw [wp_bind]
  iapply (ldx X c (posT c + x))
  isplitl [Hx]; · iexact Hx
  iintro Hx
  rw [wp_bind]
  iapply (ldw Wt c)
  isplitl [Hw]; · iexact Hw
  iintro Hw
  rw [wp_bind]
  iapply (ldrow c (posT c + x))
  isplitl [Hr]; · unfold rowAny; iexact Hr
  iintro %v Hr
  iapply (strow X Wt c (posT c + x))
  isplitl [Hr]; · iexact Hr
  iintro ⟨H0, H1⟩
  iapply Hk
  isplitl [Hx]; · iexact Hx
  isplitl [Hw]; · iexact Hw
  isplitl [H0]; · iexact H0
  iexact H1

/-! ## Accesses to a block and to a slot -/

section Generic

variable {t : Shape} (c : Dev nD) (m : Memref sig .tc .vmem t .f32) (r : Rect t) (hr : ∀ a, r.stride a = 1)

/-- Reading a block held; -/
theorem ldblk (hl : m.view.LoadsAt r.toLoadRect) (q : PosShare TreeShare) (v : Vec F r.shape .f32) (Kt : Vec F r.shape .f32 → sProp 𝕄) :
    iprop(owns (c : Thread nD τ) (m.slice r hr) q v ∗ (owns (c : Thread nD τ) (m.slice r hr) q v -∗ Kt v))
      ⊢ wp frame (wpE (defs₀ (F := F)) 𝒱₀ (c : Thread nD τ) none) Set.univ (Prog.lift (.load m r.toLoadRect hl)) Kt := by
  unfold owns
  iintro ⟨⟨%f, %hf, H⟩, Hk⟩
  subst hf
  iapply (ld c m r hl q (m.access r).set subset_rfl f Kt)
  isplitl [H]; · iexact H
  iintro H
  iapply Hk
  iexists f
  isplitr; · ipureintro; rfl
  iexact H

/-- writing one. -/
theorem stblk (w : Vec F r.shape .f32) (hx : (m.access r).Stores Finset.univ) (hm) (Kt : PUnit → sProp 𝕄) :
    iprop((∃ v, owns (c : Thread nD τ) (m.slice r hr) fullShare v) ∗ (owns (c : Thread nD τ) (m.slice r hr) fullShare w -∗ Kt ⟨⟩))
      ⊢ wp frame (wpE (defs₀ (F := F)) 𝒱₀ (c : Thread nD τ) none) Set.univ (Prog.lift (.store m r w Finset.univ hx hm)) Kt := by
  unfold owns
  iintro ⟨⟨%v, %f, -, H⟩, Hk⟩
  iapply (st c m r w hx hm (m.access r).set subset_rfl f Kt)
  isplitl [H]; · iexact H
  iintro H
  iapply Hk
  iexists ((m.access r).write (Elt F) f w Finset.univ)
  isplitr; · ipureintro; exact View.read_write_univ (v := m.access r) (Val := Elt F) f w
  iexact H

variable (hs : r.shape.Squeezes S64x1024)

/-- Reading a slot held: what is read is the slot's contents, in the shape of the access; -/
theorem ldsq (hl : m.view.LoadsAt r.toLoadRect) (v : Vec F S64x1024 .f32) (Kt : Vec F r.shape .f32 → sProp 𝕄) :
    iprop(Holds c ((m.slice r hr).squeeze S64x1024 hs) fullShare v
        ∗ (∀ a, ⌜shapeCast S64x1024 a hs.numel_eq = v⌝ -∗ Holds c ((m.slice r hr).squeeze S64x1024 hs) fullShare v -∗ Kt a))
      ⊢ wp frame (wpE (defs₀ (F := F)) 𝒱₀ (c : Thread nD τ) none) Set.univ (Prog.lift (.load m r.toLoadRect hl)) Kt := by
  have e : ((m.slice r hr).squeeze S64x1024 hs).view.set = (m.access r).set := View.set_reshape _ _
  unfold Holds owns
  rw [e]
  iintro ⟨⟨%f, %hf, H⟩, Hk⟩
  iapply (ld c m r hl fullShare (m.access r).set subset_rfl f Kt)
  isplitl [H]; · iexact H
  iintro H
  iapply Hk $$ [] [H]
  · ipureintro; rw [← hf]; rfl
  · iexists f
    isplitr; · ipureintro; exact hf
    iexact H

/-- writing one. -/
theorem stsq (w : Vec F r.shape .f32) (hx : (m.access r).Stores Finset.univ) (hm) (v : Vec F S64x1024 .f32) (Kt : PUnit → sProp 𝕄) :
    iprop(Holds c ((m.slice r hr).squeeze S64x1024 hs) fullShare v
        ∗ (Holds c ((m.slice r hr).squeeze S64x1024 hs) fullShare (shapeCast S64x1024 w hs.numel_eq) -∗ Kt ⟨⟩))
      ⊢ wp frame (wpE (defs₀ (F := F)) 𝒱₀ (c : Thread nD τ) none) Set.univ (Prog.lift (.store m r w Finset.univ hx hm)) Kt := by
  have e : ((m.slice r hr).squeeze S64x1024 hs).view.set = (m.access r).set := View.set_reshape _ _
  unfold Holds owns
  rw [e]
  iintro ⟨⟨%f, -, H⟩, Hk⟩
  iapply (st c m r w hx hm (m.access r).set subset_rfl f Kt)
  isplitl [H]; · iexact H
  iintro H
  iapply Hk
  iexists ((m.access r).write (Elt F) f w Finset.univ)
  isplitr
  · ipureintro
    rw [read_squeeze m r hr hs, View.read_write_univ (v := m.access r) (Val := Elt F) f w]
  iexact H

end Generic

/-! ## Adding to a slot, and forming the own block -/

theorem shapeCast_back {s t : Shape} (h : s.ShapeCasts t) (h' : t.ShapeCasts s) (w : Vec F s .f32) :
    (shapeCast s (shapeCast t w h : Vec F t .f32) h' : Vec F s .f32) = w := by
  funext i
  exact congrArg w (Shape.reshapeEquiv_reshapeEquiv ..|>.trans (by simp))

/-- Adding at given offsets. -/
def addAt (s : Str) (j : ℕ) (h : j < hops s) (o : Fin 2 → ℕ) (ho : ∀ a, o a + S64x1024.size a ≤ S2048x2048.size a) : P (F := F) := do
  let a : Vec F S1x64x1024 .f32 ← Prog.lift (.load (rsM s) (slotRect s j h).toLoadRect (View.loadsAt_vmem h_S1x64x1024))
  let b : Vec F S64x1024 .f32 ← Prog.lift (.load partM (Rect.unit (s := S2048x2048) o S64x1024.size ho).toLoadRect (View.loadsAt_vmem h_S64x1024))
  let _y : Vec F S1x64x1024 .f32 ← Prog.lift (.load (rsM s) (slotRect s j h).toLoadRect (View.loadsAt_vmem h_S1x64x1024))
  Prog.lift (.store (rsM s) (slotRect s j h) (addPay a b) Finset.univ (View.stores_vmem_bits_univ h_S1x64x1024 rfl) (.inl rfl))

theorem addAt_congr (s : Str) (j : ℕ) (h : j < hops s) {o o' : Fin 2 → ℕ} (e : o = o') (h₁ h₂) :
    addAt (F := F) s j h o h₁ = addAt s j h o' h₂ := by
  subst e; rfl

theorem rsAddP_eq (c : Dev nD) (s : Str) (j : ℕ) (h : j < hops s) :
    rsAddP (F := F) (wd c) s j h = addAt s j h (colOff (posT c + off s.2 (hops s - 1 - j)) s.1) (colOff_inb _ _) :=
  addAt_congr s j h (rowOff_eq c _ _) (rowOff_inb (wd c).v4 (wd c).h1 _ _) _

/-- Adding a block of the products to a slot. -/
theorem add_run (c : Dev nD) (s : Str) (j : ℕ) (h : j < hops s) (v b : Vec F S64x1024 .f32) (Kt : PUnit → sProp 𝕄) :
    iprop(Holds c (slot s j h) fullShare v ∗ Holds c (cblk partM (posT c + off s.2 (hops s - 1 - j)) s.1) fullShare b
        ∗ ((Holds c (slot s j h) fullShare (addf v b) ∗ Holds c (cblk partM (posT c + off s.2 (hops s - 1 - j)) s.1) fullShare b) -∗ Kt ⟨⟩))
      ⊢ WP c (rsAddP (wd c) s j h) Kt := by
  unfold WP
  rw [rsAddP_eq]
  unfold addAt
  iintro ⟨Hs, Hb, Hk⟩
  rw [wp_bind]
  iapply (ldsq c (rsM s) (slotRect s j h) (fun _ => rfl) squeezes_S1x64x1024_S64x1024 (View.loadsAt_vmem h_S1x64x1024) v)
  isplitl [Hs]; · iexact Hs
  iintro %a %ha Hs
  rw [wp_bind]
  iapply (ldblk c partM (blkRect (posT c + off s.2 (hops s - 1 - j)) s.1) (fun _ => rfl) (View.loadsAt_vmem h_S64x1024) fullShare b)
  isplitl [Hb]; · iexact Hb
  iintro Hb
  rw [wp_bind]
  iapply (ldsq c (rsM s) (slotRect s j h) (fun _ => rfl) squeezes_S1x64x1024_S64x1024 (View.loadsAt_vmem h_S1x64x1024) v)
  isplitl [Hs]; · iexact Hs
  iintro %a' - Hs
  iapply (stsq c (rsM s) (slotRect s j h) (fun _ => rfl) squeezes_S1x64x1024_S64x1024 (addPay a b) (View.stores_vmem_bits_univ h_S1x64x1024 rfl) (.inl rfl) v)
  isplitl [Hs]; · iexact Hs
  iintro Hs
  iapply Hk
  isplitl [Hs]
  · rw [show (addf v b : FVec F S64x1024 .f32) = shapeCast S64x1024 (addPay a b) squeezes_S1x64x1024_S64x1024.numel_eq from by
      unfold addPay; rw [shapeCast_back]; rw [← ha]]
    iexact Hs
  iexact Hb

/-- Forming the own block at given offsets. -/
def ownAt (st : Bool) (o : Fin 2 → ℕ) (ho : ∀ a, o a + S64x1024.size a ≤ S2048x2048.size a) : P (F := F) := do
  let a : Vec F S1x64x1024 .f32 ← Prog.lift (.load (rsM (st, false)) (slotRect (st, false) _ (last_lt _)).toLoadRect (View.loadsAt_vmem h_S1x64x1024))
  let b : Vec F S1x64x1024 .f32 ← Prog.lift (.load (rsM (st, true)) (slotRect (st, true) _ (last_lt _)).toLoadRect (View.loadsAt_vmem h_S1x64x1024))
  let y : Vec F S64x1024 .f32 ← Prog.lift (.load partM (Rect.unit (s := S2048x2048) o S64x1024.size ho).toLoadRect (View.loadsAt_vmem h_S64x1024))
  let _z : Vec F S64x1024 .f32 ← Prog.lift (.load outM (Rect.unit (s := S2048x2048) o S64x1024.size ho).toLoadRect (View.loadsAt_vmem h_S64x1024))
  Prog.lift (.store outM (Rect.unit (s := S2048x2048) o S64x1024.size ho) (ownPay a b y) Finset.univ (View.stores_vmem_bits_univ h_S64x1024 rfl) (.inl rfl))

theorem ownAt_congr (st : Bool) {o o' : Fin 2 → ℕ} (e : o = o') (h₁ h₂) : ownAt (F := F) st o h₁ = ownAt st o' h₂ := by
  subst e; rfl

theorem ownP_eq (c : Dev nD) (st : Bool) : ownP (F := F) (wd c) st = ownAt st (colOff (posT c) st) (colOff_inb _ _) :=
  ownAt_congr st (ownOff_eq c st) (ownOff_inb (wd c).v4 (wd c).h1 st) _

/-- Forming the own block of the result. -/
theorem own_run (c : Dev nD) (st : Bool) (v₀ v₁ b : Vec F S64x1024 .f32) (Kt : PUnit → sProp 𝕄) :
    iprop(Holds c (slot (st, false) _ (last_lt _)) fullShare v₀ ∗ Holds c (slot (st, true) _ (last_lt _)) fullShare v₁
        ∗ Holds c (cblk partM (posT c) st) fullShare b ∗ Free c (cblk outM (posT c) st)
        ∗ ((Holds c (slot (st, false) _ (last_lt _)) fullShare v₀ ∗ Holds c (slot (st, true) _ (last_lt _)) fullShare v₁
            ∗ Holds c (cblk partM (posT c) st) fullShare b ∗ Holds c (cblk outM (posT c) st) fullShare (geluV (addf (addf v₀ v₁) b))) -∗ Kt ⟨⟩))
      ⊢ WP c (ownP (wd c) st) Kt := by
  unfold WP
  rw [ownP_eq]
  unfold ownAt
  iintro ⟨H0, H1, Hb, Hf, Hk⟩
  ihave Hf := (free_holds c (cblk outM (posT c) st)) $$ Hf
  icases Hf with ⟨%z, Hf⟩
  rw [wp_bind]
  iapply (ldsq c (rsM (st, false)) (slotRect (st, false) _ (last_lt _)) (fun _ => rfl) squeezes_S1x64x1024_S64x1024 (View.loadsAt_vmem h_S1x64x1024) v₀)
  isplitl [H0]; · iexact H0
  iintro %a %ha H0
  rw [wp_bind]
  iapply (ldsq c (rsM (st, true)) (slotRect (st, true) _ (last_lt _)) (fun _ => rfl) squeezes_S1x64x1024_S64x1024 (View.loadsAt_vmem h_S1x64x1024) v₁)
  isplitl [H1]; · iexact H1
  iintro %a' %ha' H1
  rw [wp_bind]
  iapply (ldblk c partM (blkRect (posT c) st) (fun _ => rfl) (View.loadsAt_vmem h_S64x1024) fullShare b)
  isplitl [Hb]; · iexact Hb
  iintro Hb
  rw [wp_bind]
  iapply (ldblk c outM (blkRect (posT c) st) (fun _ => rfl) (View.loadsAt_vmem h_S64x1024) fullShare z)
  isplitl [Hf]; · iexact Hf
  iintro Hf
  iapply (stblk c outM (blkRect (posT c) st) (fun _ => rfl) (ownPay a a' b) (View.stores_vmem_bits_univ h_S64x1024 rfl) (.inl rfl))
  isplitl [Hf]; · iexists z; iexact Hf
  iintro Hf
  iapply Hk
  isplitl [H0]; · iexact H0
  isplitl [H1]; · iexact H1
  isplitl [Hb]; · iexact Hb
  rw [show geluV (addf (addf v₀ v₁) b) = ownPay a a' b from by unfold ownPay; rw [← ha, ← ha']]
  iexact Hf

/-! ## Copies and waits -/

/-- Sending a block to another device, between two cells whose rounds carry it. -/
theorem send_run (c c' : Dev nD) (src dst : Memref sig .tc .vmem S64x1024 .f32) (sS sR : DmaSem sig) (hsrc : src.view.WordExact)
    (hdst : dst.view.WordExact) (hsc : dst.view.ref.isScScratch = false)
    (hsem : DmaTarget.Typed (nD := nD) (τ := τ) (p := .tc) .vmem (.dma sR) (.remote (Dev.tc c') dst (.dma sS) hsc)) (q : PosShare TreeShare) (v : Vec F S64x1024 .f32)
    (hN : dst.view.dmaCredit = NN)
    (h₁ : (rd X Wt).payload ((c : Thread nD τ), .dma sS) 0 false = Holds c src q v)
    (h₂ : (rd X Wt).payload ((c' : Thread nD τ), .dma sR) 0 false = Holds c' dst fullShare v)
    (κ₁ κ₂ : ℕ) (O : CellTallies nD τ sig Unit) (W : Waits sig Unit) (Kt : PUnit → sProp 𝕄) :
    iprop(cellInv ER (rd X Wt) κ₁ ((c : Thread nD τ), .dma sS) ∗ cellInv ER (rd X Wt) κ₂ ((c' : Thread nD τ), .dma sR)
        ∗ Holds c src q v ∗ Free c' dst ∗ owes (c : Thread nD τ) (O + tallyAt ((c' : Thread nD τ), .dma sR) () NN) W
        ∗ dutyTok ER ((c : Thread nD τ), .dma sS) 0 false ∗ reached ER ((c : Thread nD τ), .dma sS) 0
        ∗ dutyTok ER ((c' : Thread nD τ), .dma sR) 0 false ∗ reached ER ((c' : Thread nD τ), .dma sR) 0
        ∗ ((cred (tallyAt ((c : Thread nD τ), .dma sS) () NN) ∗ owes (c : Thread nD τ) O W) -∗ Kt ⟨⟩))
      ⊢ WP c (Prog.lift (.enqueueDma src (.remote (Dev.tc c') dst (.dma sS) hsc) (.dma sR) hsrc hdst hsem)) Kt := by
  unfold WP Prog.lift Free
  rw [show (Holds c src q v : sProp 𝕄) = owns (c : Thread nD τ) src q v from rfl]
  unfold owns
  iintro ⟨HI₁, HI₂, ⟨%fs, %hfs, Hs⟩, ⟨%fd, Hd⟩, HO, Ht₁, Hr₁, Ht₂, Hr₂, Hk⟩
  subst hfs
  iapply (Rounds.wp_send_pointsTo 𝒱₀ ER (rd X Wt) (c : Thread nD τ) none (c' := (c' : Thread nD τ)) (src := src) (dst := dst)
      (sS := .dma sS) (sem := .dma sR) (q := q) (fs := fs) (κ₁ := κ₁) (κ₂ := κ₂) (r₁ := 0) (r₂ := 0) (d₁ := false) (d₂ := false) (fd := fd)
      (Finset.mem_singleton_self _) (Finset.mem_singleton_self _) () () NN hN rfl rfl O rfl (W := W)
      (by rw [h₁]; exact owns_intro (c : Thread nD τ) src q fs)
      (by
        rw [h₂]
        have e := owns_intro (U := UU) (Ix := Unit) (Name := ℕ) (Lvl := ℕ) (c' : Thread nD τ) dst fullShare (dst.view.write (Elt F) fd (src.view.read (Elt F) fs) Finset.univ)
        rw [View.read_write_univ] at e
        exact e))
    $$ [HI₁ HI₂ Hs Hd HO Ht₁ Hr₁ Ht₂ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro H
  rw [wp_ret]
  imodintro
  iapply Hk; iexact H

/-- Waiting on a semaphore whose one round carries `pay`. -/
theorem wait_run (c : Dev nD) (sm : DmaSem sig) (src dst : Memref sig .tc .vmem S64x1024 .f32) (hsrc : src.view.WordExact)
    (hdst : dst.view.WordExact) (hN : dst.view.dmaCredit = NN) (pay : sProp 𝕄)
    (h : (rd X Wt).payload ((c : Thread nD τ), .dma sm) 0 false = pay)
    (κ : ℕ) (O : CellTallies nD τ sig Unit) (W : Waits sig Unit) (Kt : PUnit → sProp 𝕄) :
    iprop(cellInv ER (rd X Wt) κ ((c : Thread nD τ), .dma sm) ∗ cred (tallyAt ((c : Thread nD τ), .dma sm) () NN) ∗ owes (c : Thread nD τ) O W
        ∗ MayWait (c : Thread nD τ) (.dma sm) () O ∗ atPos ER ((c : Thread nD τ), .dma sm) 0 ∅ 0
        ∗ ((owes (c : Thread nD τ) O (insert (SemLoc.dma sm, ()) W) ∗ atPos ER ((c : Thread nD τ), .dma sm) 1 ∅ 0 ∗ pay) -∗ Kt ⟨⟩))
      ⊢ WP c (Prog.lift (.waitDma2 sm src dst hsrc hdst)) Kt := by
  have hx : (rd X Wt).expect ((c : Thread nD τ), .dma sm) 0 = NN := by
    unfold Schedule.expect Schedule.amountOf
    rw [show (rd X Wt).duties ((c : Thread nD τ), .dma sm) 0 = {false} from rfl, Finset.sum_singleton]
    rfl
  have hp : bigSep ((rd X Wt).duties ((c : Thread nD τ), .dma sm) 0 \ ∅) (fun d => (rd X Wt).payload ((c : Thread nD τ), .dma sm) 0 d) = pay := by
    rw [Finset.sdiff_empty, show (rd X Wt).duties ((c : Thread nD τ), .dma sm) 0 = {false} from rfl, bigSep_singleton, h]
  unfold WP Prog.lift
  iintro ⟨HI, Hc, HO, Hm, Hat, Hk⟩
  iapply (Rounds.wp_wait_rest_token 𝒱₀ ER (rd X Wt) (c : Thread nD τ) none (κ := κ) (k' := NN)
      (fun K => by rw [wpE_waitDma2_eq 𝒱₀ (c : Thread nD τ) none Set.univ, hN]) (Set.mem_univ _) () (O := O) (W := W) (R := 0) (m := 0) (T := ∅)
      ((Nat.zero_add _).trans hx.symm)) $$ [HI Hc HO Hm Hat]
  · isplitl [HI]; · iexact HI
    isplitl [Hc]; · iexact Hc
    isplitl [HO]; · iexact HO
    isplitl [Hm]; · iexact Hm
    iexact Hat
  iintro ⟨HO, Hat, -, Hp⟩
  rw [wp_ret]
  imodintro
  iapply Hk
  isplitl [HO]; · iexact HO
  isplitl [Hat]; · iexact Hat
  rw [← hp]; iexact Hp

end Cert.KernelIdeal.Ring
-- ==== Proof.HopsIdeal.lean ====
/-
  The rules of the communicating steps: starting, awaiting and settling a hop, in either phase, and the barrier.
-/
module

public import proofs.«01_k».proof.Proof.ActsIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32)

/-- Start a hop; -/
def startP (W : Words) : Hp → P (F := F)
  | (false, ⟨s, j⟩) => rsStartP W s j j.isLt
  | (true, ⟨s, j⟩) => agStartP W s j j.isLt
/-- await what it brings; -/
def waitP (W : Words) : Hp → P (F := F)
  | (false, ⟨s, j⟩) => rsWaitP W s j j.isLt
  | (true, ⟨s, j⟩) => agWaitP W s j j.isLt
/-- wait until it has left. -/
def doneP (W : Words) : Hp → P (F := F)
  | (false, ⟨s, j⟩) => rsDoneP W s j j.isLt
  | (true, ⟨s, j⟩) => agDoneP W s j j.isLt

/-- The receiver of a hop. -/
abbrev toD (h : Hp) (c : Dev nD) : Dev nD := nbr h.2.1.2 c

theorem hops_lt (s : Str) : hops s < 31 := by obtain ⟨_ | _, _ | _⟩ := s <;> decide

/-- What lands at the receiver is what was sent; -/
theorem land_nbr (h : Hp) (c : Dev nD) : landV X Wt h.1 h.2.1 h.2.2.val (toD h c) = srcV X Wt h.1 h.2.1 h.2.2.val c := by
  unfold landV toD
  rw [nbr_nbr']

/-- a result lands in its own place. -/
theorem landM_nbr (c : Dev nD) (s : Str) (j : Fin (hops s)) :
    landM (true, ⟨s, j⟩) (nbr s.2 c) = cblk outM (posT c + agX s j.val) s.1 := by
  have e := land_q (nbr s.2 c) s j.val (lt_trans j.isLt (hops_lt s))
  rw [nbr_nbr'] at e
  show cblk outM (posT (nbr s.2 c) + off (!s.2) (j.val + 1)) s.1 = _
  rw [← e]

/-- Starting a hop. -/
theorem start_hop (c : Dev nD) (h : Hp) (κ₁ κ₂ : ℕ) (O : CellTallies nD τ sig Unit) (W : Waits sig Unit) (Kt : PUnit → sProp 𝕄) :
    iprop(cellInv ER (rd X Wt) κ₁ (sendC h c) ∗ cellInv ER (rd X Wt) κ₂ (recvC h (toD h c))
        ∗ sendPay X Wt h c ∗ Free (toD h c) (landM h (toD h c)) ∗ owes (c : Thread nD τ) (O + tallyAt (recvC h (toD h c)) () NN) W
        ∗ dutyTok ER (sendC h c) 0 false ∗ reached ER (sendC h c) 0
        ∗ dutyTok ER (recvC h (toD h c)) 0 false ∗ reached ER (recvC h (toD h c)) 0
        ∗ ((cred (tallyAt (sendC h c) () NN) ∗ owes (c : Thread nD τ) O W) -∗ Kt ⟨⟩))
      ⊢ WP c (startP (wd c) h) Kt := by
  have hR : recvPay X Wt h (toD h c) = Holds (toD h c) (landM h (toD h c)) fullShare (srcV X Wt h.1 h.2.1 h.2.2.val c) := by
    unfold recvPay
    rw [land_nbr]
  obtain ⟨_ | _, s, j⟩ := h
  · have e : sendPay X Wt (false, ⟨s, j⟩) c = Holds c (rsSrc (wd c).v4 (wd c).h1 s j j.isLt) fullShare (srcV X Wt false s j.val c) := by
      unfold sendPay
      rw [rsSrc_eq]
      rfl
    rw [e]
    exact send_run X Wt c (nbr s.2 c) (rsSrc (wd c).v4 (wd c).h1 s j j.isLt) (slot s j j.isLt) (semAt s (rssA s) j j.isLt) (semAt s (rsrA s) j j.isLt)
      (rsSrc_exact _ _ s j j.isLt) (slot_exact s j j.isLt) _ ⟨⟨rfl, Or.inl rfl⟩, trivial⟩ fullShare (srcV X Wt false s j.val c)
      (credit_slot s j j.isLt) ((payload_send X Wt c (false, ⟨s, j⟩)).trans e)
      ((payload_recv X Wt (nbr s.2 c) (false, ⟨s, j⟩)).trans hR) κ₁ κ₂ O W Kt
  · have e : sendPay X Wt (true, ⟨s, j⟩) c
        = Holds c (blk outM (wd c).v4 (wd c).h1 (agX s j.val) s.1) (shQ true s j.val) (srcV X Wt true s j.val c) := by
      unfold sendPay
      rw [blk_eq]
    rw [landM_nbr] at hR ⊢
    rw [← blk_eq outM c (agX s j.val) s.1] at hR ⊢
    rw [e]
    exact send_run X Wt c (nbr s.2 c) (blk outM (wd c).v4 (wd c).h1 (agX s j.val) s.1) (blk outM (wd c).v4 (wd c).h1 (agX s j.val) s.1)
      (semAt s (agsA s) j j.isLt) (semAt s (agrA s) j j.isLt)
      (View.wordExact_bits rfl) (View.wordExact_bits rfl) _ ⟨⟨rfl, Or.inl rfl⟩, trivial⟩ (shQ true s j.val) (srcV X Wt true s j.val c)
      rfl ((payload_send X Wt c (true, ⟨s, j⟩)).trans e)
      ((payload_recv X Wt (nbr s.2 c) (true, ⟨s, j⟩)).trans hR) κ₁ κ₂ O W Kt

/-- Awaiting a hop. -/
theorem wait_hop (c : Dev nD) (h : Hp) (κ : ℕ) (O : CellTallies nD τ sig Unit) (W : Waits sig Unit) (Kt : PUnit → sProp 𝕄) :
    iprop(cellInv ER (rd X Wt) κ (recvC h c) ∗ cred (tallyAt (recvC h c) () NN) ∗ owes (c : Thread nD τ) O W
        ∗ MayWait (c : Thread nD τ) (.dma (cellSem true h)) () O ∗ atPos ER (recvC h c) 0 ∅ 0
        ∗ ((owes (c : Thread nD τ) O (insert (SemLoc.dma (cellSem true h), ()) W) ∗ atPos ER (recvC h c) 1 ∅ 0 ∗ recvPay X Wt h c) -∗ Kt ⟨⟩))
      ⊢ WP c (waitP (wd c) h) Kt := by
  obtain ⟨_ | _, s, j⟩ := h
  · exact wait_run X Wt c (semAt s (rsrA s) j j.isLt) (rsSrc (wd c).v4 (wd c).h1 s j j.isLt) (slot s j j.isLt) (rsSrc_exact _ _ s j j.isLt)
      (slot_exact s j j.isLt) (credit_slot s j j.isLt) _ (payload_recv X Wt c (false, ⟨s, j⟩)) κ O W Kt
  · exact wait_run X Wt c (semAt s (agrA s) j j.isLt) (blk outM (wd c).v4 (wd c).h1 (agX s (j.val + 1)) s.1) (blk outM (wd c).v4 (wd c).h1 (agX s (j.val + 1)) s.1)
      (View.wordExact_bits rfl) (View.wordExact_bits rfl) rfl _ (payload_recv X Wt c (true, ⟨s, j⟩)) κ O W Kt

/-- Settling a hop. -/
theorem done_hop (c : Dev nD) (h : Hp) (κ : ℕ) (O : CellTallies nD τ sig Unit) (W : Waits sig Unit) (Kt : PUnit → sProp 𝕄) :
    iprop(cellInv ER (rd X Wt) κ (sendC h c) ∗ cred (tallyAt (sendC h c) () NN) ∗ owes (c : Thread nD τ) O W
        ∗ MayWait (c : Thread nD τ) (.dma (cellSem false h)) () O ∗ atPos ER (sendC h c) 0 ∅ 0
        ∗ ((owes (c : Thread nD τ) O (insert (SemLoc.dma (cellSem false h), ()) W) ∗ atPos ER (sendC h c) 1 ∅ 0 ∗ sendPay X Wt h c) -∗ Kt ⟨⟩))
      ⊢ WP c (doneP (wd c) h) Kt := by
  obtain ⟨_ | _, s, j⟩ := h
  · exact wait_run X Wt c (semAt s (rssA s) j j.isLt) (slot s j j.isLt) (rsSrc (wd c).v4 (wd c).h1 s j j.isLt) (slot_exact s j j.isLt)
      (rsSrc_exact _ _ s j j.isLt) (credit_src _ _ s j j.isLt) _ (payload_send X Wt c (false, ⟨s, j⟩)) κ O W Kt
  · exact wait_run X Wt c (semAt s (agsA s) j j.isLt) (blk outM (wd c).v4 (wd c).h1 (agX s j.val) s.1) (blk outM (wd c).v4 (wd c).h1 (agX s j.val) s.1)
      (View.wordExact_bits rfl) (View.wordExact_bits rfl) rfl _ (payload_send X Wt c (true, ⟨s, j⟩)) κ O W Kt

/-- The leaves a device grants at the barrier to the neighbour the hops of a direction come from. -/
def grants (d : Bool) (c : Dev nD) : sProp 𝕄 :=
  bigSep (Finset.univ.filter fun h : Hp => h.2.1.2 = d) fun h => leave h c

theorem barPay_nbr (d : Bool) (c : Dev nD) : (barPay (!d) (nbr d c) : sProp 𝕄) = grants (!d) c := by
  unfold barPay grants
  rw [nbr_nbr']

theorem barPay_eq (d : Bool) (c : Dev nD) : (barPay d c : sProp 𝕄) = grants d (nbr d c) := rfl

/-- Telling a neighbour. -/
theorem signal_run (c : Dev nD) (d : Bool) (κ : ℕ) (O : CellTallies nD τ sig Unit) (W : Waits sig Unit) (Kt : PUnit → sProp 𝕄) :
    iprop(cellInv ER (rd X Wt) κ (barC (nbr d c)) ∗ owes (c : Thread nD τ) (O + tallyAt (barC (nbr d c)) () 1) W
        ∗ dutyTok ER (barC (nbr d c)) 0 (!d) ∗ reached ER (barC (nbr d c)) 0 ∗ grants (!d) c
        ∗ (owes (c : Thread nD τ) O W -∗ Kt ⟨⟩))
      ⊢ WP c (semSignalWord (nbr d c) barS 1#32) Kt := by
  unfold WP
  iintro ⟨HI, HO, Ht, Hr, Hg, Hk⟩
  iapply (Rounds.wp_signal 𝒱₀ ER (rd X Wt) (c : Thread nD τ) none (dst := (nbr d c : Thread nD τ)) (sem := barS) (r := 0) (d := !d) (κ := κ)
      (Finset.mem_univ _) (k' := 1) rfl () O rfl (W := W)) $$ [HI HO Ht Hr Hg]
  · isplitl [HI]; · iexact HI
    isplitl [HO]; · iexact HO
    isplitl [Ht]; · iexact Ht
    isplitl [Hg]
    · rw [payload_bar, barPay_nbr]; iexact Hg
    iexact Hr
  iintro HO
  rw [wp_ret]
  imodintro
  iapply Hk; iexact HO

theorem bar_both (c : Dev nD) : (bigSep Finset.univ fun d => (barPay d c : sProp 𝕄))
    = iprop(grants false (nbr false c) ∗ grants true (nbr true c)) := by
  rw [show (Finset.univ : Finset Bool) = {false, true} from by decide, bigSep_insert (by decide), bigSep_singleton]
  rfl

/-- The barrier: a device grants its leaves to both neighbours and gets theirs. -/
theorem barrier_run (c : Dev nD) (κ κ₀ κ₁ : ℕ) (O : CellTallies nD τ sig Unit) (W : Waits sig Unit) (Kt : PUnit → sProp 𝕄) :
    iprop(cellInv ER (rd X Wt) κ (barC c) ∗ cellInv ER (rd X Wt) κ₀ (barC (nbr false c)) ∗ cellInv ER (rd X Wt) κ₁ (barC (nbr true c))
        ∗ cred (tallyAt (barC c) () 2)
        ∗ owes (c : Thread nD τ) (O + tallyAt (barC (nbr true c)) () 1 + tallyAt (barC (nbr false c)) () 1) W
        ∗ MayWait (c : Thread nD τ) (.reg barS) () O ∗ atPos ER (barC c) 0 ∅ 0
        ∗ (dutyTok ER (barC (nbr false c)) 0 true ∗ reached ER (barC (nbr false c)) 0)
        ∗ (dutyTok ER (barC (nbr true c)) 0 false ∗ reached ER (barC (nbr true c)) 0)
        ∗ grants false c ∗ grants true c
        ∗ ((owes (c : Thread nD τ) O (insert (SemLoc.reg barS, ()) W) ∗ atPos ER (barC c) 1 ∅ 0
            ∗ grants false (nbr false c) ∗ grants true (nbr true c)) -∗ Kt ⟨⟩))
      ⊢ WP c (barrierP (wd c)) Kt := by
  unfold barrierP
  iintro ⟨HI, HI₀, HI₁, Hc, HO, Hm, Hat, ⟨Ht₀, Hr₀⟩, ⟨Ht₁, Hr₁⟩, Hg₀, Hg₁, Hk⟩
  rw [WP, wp_bind]
  iapply (signal_run X Wt c false κ₀ (O + tallyAt (barC (nbr true c)) () 1) W)
  isplitl [HI₀]; · iexact HI₀
  isplitl [HO]; · iexact HO
  isplitl [Ht₀]; · iexact Ht₀
  isplitl [Hr₀]; · iexact Hr₀
  isplitl [Hg₁]; · iexact Hg₁
  iintro HO
  rw [wp_bind]
  iapply (signal_run X Wt c true κ₁ O W)
  isplitl [HI₁]; · iexact HI₁
  isplitl [HO]; · iexact HO
  isplitl [Ht₁]; · iexact Ht₁
  isplitl [Hr₁]; · iexact Hr₁
  isplitl [Hg₀]; · iexact Hg₀
  iintro HO
  iapply (Rounds.wp_wait_rest_token 𝒱₀ ER (rd X Wt) (c : Thread nD τ) none (κ := κ) (k' := 2)
      (wpE_semWait_eq 𝒱₀ (c : Thread nD τ) none Set.univ) (Set.mem_univ _) () (O := O) (W := W) (R := 0) (m := 0) (T := ∅)
      ((Nat.zero_add _).trans (expect_bar X Wt c).symm)) $$ [HI Hc HO Hm Hat]
  · isplitl [HI]; · iexact HI
    isplitl [Hc]; · iexact Hc
    isplitl [HO]; · iexact HO
    isplitl [Hm]; · iexact Hm
    iexact Hat
  iintro ⟨HO, Hat, -, Hp⟩
  rw [wp_ret]
  imodintro
  iapply Hk
  isplitl [HO]; · iexact HO
  isplitl [Hat]; · iexact Hat
  iapply (Entails.of_eq ((rest_bar X Wt c).trans (bar_both c))); iexact Hp

end Cert.KernelIdeal.Ring
-- ==== Proof.InvIdeal.lean ====
/-
  What a device holds between two steps, given which steps are done. Everything it holds changes only at a step and only in
  one place, so the state is a few families, each member read off the steps done.
-/
module

public import proofs.«01_k».proof.Proof.HopsIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-! ## The steps, the two phases together -/

inductive Act
  | piece (x : Fin 32)
  | barrier
  | start (p : Bool) (s : Str) (j : ℕ)
  | wait (p : Bool) (s : Str) (j : ℕ)
  | add (s : Str) (j : ℕ)
  | own (st : Bool)
  | done (p : Bool) (s : Str) (j : ℕ)
  deriving DecidableEq

def Act.prog (W : Words) : Act → P (F := F)
  | .piece x => pieceP W x
  | .barrier => barrierP W
  | .start p s j => if h : j < hops s then startP W (p, ⟨s, ⟨j, h⟩⟩) else pure ⟨⟩
  | .wait p s j => if h : j < hops s then waitP W (p, ⟨s, ⟨j, h⟩⟩) else pure ⟨⟩
  | .add s j => if h : j < hops s then rsAddP W s j h else pure ⟨⟩
  | .own st => ownP W st
  | .done p s j => if h : j < hops s then doneP W (p, ⟨s, ⟨j, h⟩⟩) else pure ⟨⟩

/-- A step of the body, as one of these. -/
def Step.act : Step → Act
  | .piece x => .piece x
  | .barrier => .barrier
  | .rsStart s j => .start false s j
  | .rsWait s j => .wait false s j
  | .rsAdd s j => .add s j
  | .own st => .own st
  | .agStart s j => .start true s j
  | .agWait s j => .wait true s j
  | .rsDone s j => .done false s j
  | .agDone s j => .done true s j

theorem Step.prog_act (W : Words) (a : Step) : (a.prog W : P (F := F)) = a.act.prog W := by
  cases a <;> rfl

/-- The steps done, one more. -/
def ins (D : Act → Bool) (a : Act) : Act → Bool := fun k => if k = a then true else D k

theorem ins_self (D : Act → Bool) (a : Act) : ins D a a = true := if_pos rfl
theorem ins_ne (D : Act → Bool) {a k : Act} (h : k ≠ a) : ins D a k = D k := if_neg h

/-! ## What is owed -/

/-- What a step pays other devices. -/
def actTally (c : Dev nD) : Act → CellTallies nD τ sig Unit
  | .barrier => tallyAt (barC (nbr true c)) () 1 + tallyAt (barC (nbr false c)) () 1
  | .start p s j => if h : j < hops s then tallyAt (recvC (p, ⟨s, ⟨j, h⟩⟩) (nbr s.2 c)) () NN else 0
  | _ => 0

/-- What the steps to come pay. -/
def owedOf (c : Dev nD) : List Act → CellTallies nD τ sig Unit
  | [] => 0
  | a :: l => owedOf c l + actTally c a

/-- Every step to come pays above level `b`. -/
def lvOk (b : ℕ) (l : List Act) : Bool :=
  l.all fun a => match a with
    | .barrier => decide (b < 1)
    | .start p _ j => decide (b < if p then 20 + j else 2 + j)
    | _ => true

theorem tallyAt_pos {g g' : GSem nD τ sig} {u u' : Unit} {k : ℕ} (h : 0 < tallyAt g u k g' u') : g' = g := by
  by_contra hne
  unfold tallyAt at h
  rw [tallyOn_ne hne] at h
  exact absurd h (by simp)

theorem actTally_lv (c : Dev nD) (a : Act) (b : ℕ) (hb : lvOk b [a] = true) (g : GSem nD τ sig) (u : Unit) (h : 0 < actTally c a g u) :
    u ∈ L g ∧ b < lv g u := by
  unfold lvOk at hb
  cases a with
  | barrier =>
    simp only [List.all_cons, List.all_nil, Bool.and_true, decide_eq_true_eq] at hb
    have h' : 0 < tallyAt (barC (nbr true c)) () 1 g u + tallyAt (barC (nbr false c)) () 1 g u := h
    rcases Nat.add_pos_iff_pos_or_pos.mp h' with h₁ | h₁ <;> obtain rfl := tallyAt_pos h₁ <;>
      exact ⟨by rw [L_tc]; exact Finset.mem_singleton_self _, by rw [lv_bar]; exact hb⟩
  | start p s j =>
    simp only [List.all_cons, List.all_nil, Bool.and_true, decide_eq_true_eq] at hb
    unfold actTally at h
    dsimp only at h
    split at h
    · obtain rfl := tallyAt_pos h
      exact ⟨by rw [L_tc]; exact Finset.mem_singleton_self _, by rw [lv_recv]; exact hb⟩
    · exact absurd h (by simp)
  | piece x => exact absurd h (by simp [actTally])
  | wait p s j => exact absurd h (by simp [actTally])
  | add s j => exact absurd h (by simp [actTally])
  | own st => exact absurd h (by simp [actTally])
  | done p s j => exact absurd h (by simp [actTally])

theorem owedOf_lv (c : Dev nD) (b : ℕ) (g : GSem nD τ sig) (u : Unit) : (l : List Act) → lvOk b l = true → 0 < owedOf c l g u → u ∈ L g ∧ b < lv g u
  | [], _, h => absurd h (by simp [owedOf])
  | a :: l, hl, h => by
    have hl' : lvOk b [a] = true ∧ lvOk b l = true := by
      unfold lvOk at hl ⊢
      rw [List.all_cons, Bool.and_eq_true] at hl
      refine ⟨?_, hl.2⟩
      rw [List.all_cons, List.all_nil, Bool.and_true]
      exact hl.1
    have h' : 0 < owedOf c l g u + actTally c a g u := h
    rcases Nat.add_pos_iff_pos_or_pos.mp h' with h₁ | h₁
    · exact owedOf_lv c b g u l hl'.2 h₁
    · exact actTally_lv c a b hl'.1 g u h₁

/-- A wait at a level at or below `b` may be entered while only steps above `b` are to come. -/
theorem mayWait (c : Dev nD) (sm : SemLoc sig) (b : ℕ) (hb : lv ((c : Thread nD τ), sm) () ≤ b) (l : List Act) (hl : lvOk b l = true) :
    (levAts L lv : sProp 𝕄) ⊢ MayWait (c : Thread nD τ) sm () (owedOf c l) :=
  MayOwe.of_cut (L := L) (lev := lv) b
    (fun p hp => by rw [Finset.mem_singleton.mp hp, L_tc]; exact Finset.mem_singleton_self _)
    (fun g u h => (owedOf_lv c b g u l hl h).1)
    (fun p hp => by rw [Finset.mem_singleton.mp hp]; exact hb)
    (fun g u h => (owedOf_lv c b g u l hl h).2)

/-! ## The families -/

instance : DecidableEq ((s : Str) × Fin (hops s)) := fun a b => Sigma.instDecidableEqSigma a b
instance : DecidableEq Hp := instDecidableEqProd

variable (X : Dev nD → Vec F S2048x64 .f32) (Wt : Dev nD → Vec F S64x2048 .f32)

/-- What every device may use at any time: all cells' invariants, and the levels. -/
def ctx (K : GSem nD τ sig → ℕ) : sProp 𝕄 :=
  iprop((bigSep Finset.univ fun a : Dev nD × Option (Bool × Hp) => cellInv ER (rd X Wt) (K (cellG a)) (cellG a)) ∗ levAts L lv)

instance ctx_persistent (K : GSem nD τ sig → ℕ) : BI.Persistent (ctx X Wt K) := by unfold ctx; infer_instance

theorem ctx_bar (K : GSem nD τ sig → ℕ) (c : Dev nD) : ctx X Wt K ⊢ cellInv ER (rd X Wt) (K (barC c)) (barC c) := by
  have h : (bigSep Finset.univ fun a : Dev nD × Option (Bool × Hp) => cellInv ER (rd X Wt) (K (cellG a)) (cellG a))
      ⊢ cellInv ER (rd X Wt) (K (barC c)) (barC c) := bigSep_elim (Finset.mem_univ ((c, none) : Dev nD × Option (Bool × Hp)))
  unfold ctx
  iintro ⟨H, -⟩
  iapply h; iexact H

theorem ctx_hop (K : GSem nD τ sig → ℕ) (r : Bool) (h : Hp) (c : Dev nD) : ctx X Wt K ⊢ cellInv ER (rd X Wt) (K (cellH r h c)) (cellH r h c) := by
  have e : (bigSep Finset.univ fun a : Dev nD × Option (Bool × Hp) => cellInv ER (rd X Wt) (K (cellG a)) (cellG a))
      ⊢ cellInv ER (rd X Wt) (K (cellH r h c)) (cellH r h c) := bigSep_elim (Finset.mem_univ ((c, some (r, h)) : Dev nD × Option (Bool × Hp)))
  unfold ctx
  iintro ⟨H, -⟩
  iapply e; iexact H

/-- Every wait at a level at or below all that is still to be paid may be entered. -/
theorem ctx_may (K : GSem nD τ sig → ℕ) (c : Dev nD) (sm : SemLoc sig) (b : ℕ) (hb : lv ((c : Thread nD τ), sm) () ≤ b) (l : List Act)
    (hl : lvOk b l = true) : ctx X Wt K ⊢ MayWait (c : Thread nD τ) sm () (owedOf c l) := by
  have e : (levAts L lv : sProp 𝕄) ⊢ MayWait (c : Thread nD τ) sm () (owedOf c l) := mayWait c sm b hb l hl
  unfold ctx
  iintro ⟨-, H⟩
  iapply e; iexact H

/-- The receiver's place at a hop: before its wait, with the units it is promised, and after. -/
def posL (c : Dev nD) (h : Hp) : Bool → sProp 𝕄
  | false => iprop(atPos ER (recvC h c) 0 ∅ 0 ∗ cred (tallyAt (recvC h c) () NN))
  | true => atPos ER (recvC h c) 1 ∅ 0

/-- A slot after the device has added to it. -/
def sumV (h : Hp) (c : Dev nD) : FVec F S64x1024 .f32 :=
  addf (landV X Wt h.1 h.2.1 h.2.2.val c) (partV X Wt c (posT c + off h.2.1.2 (hops h.2.1 - 1 - h.2.2.val)) h.2.1.1)

/-- The place a hop lands in: the device's to grant before the barrier `b`, its own again after the wait `w` until it goes on by
    the next hop `n`; `a` says whether the device has added to it. -/
def regL (c : Dev nD) (h : Hp) (b w n a : Bool) : sProp 𝕄 :=
  match b, w, n with
  | false, _, _ => leave h c
  | true, false, _ => iprop(emp)
  | true, true, true => iprop(emp)
  | true, true, false => Holds c (landM h c) fullShare (bif a then sumV X Wt h c else landV X Wt h.1 h.2.1 h.2.2.val c)

/-- What a sender holds of a hop before it starts, from its start `s` and from its settling `d` on. -/
def hopS (c : Dev nD) (h : Hp) (b s d : Bool) : sProp 𝕄 :=
  match s, d with
  | false, _ => iprop((atPos ER (sendC h c) 0 ∅ 0 ∗ reached ER (sendC h c) 0 ∗ dutyTok ER (sendC h c) 0 false
      ∗ dutyTok ER (recvC h (toD h c)) 0 false) ∗ (match b with | true => leave h (toD h c) | false => iprop(emp)))
  | true, false => iprop(atPos ER (sendC h c) 0 ∅ 0 ∗ cred (tallyAt (sendC h c) () NN))
  | true, true => iprop(atPos ER (sendC h c) 1 ∅ 0 ∗ sendPay X Wt h c)

/-- One of the two shares of the own block, until it is sent. -/
def halfP (c : Dev nD) (st : Bool) (q : PosShare TreeShare) : Bool → sProp 𝕄
  | true => iprop(emp)
  | false => Holds c (cblk outM (posT c) st) q (finV X Wt st c)

/-- The own block of the result: to be formed until `o`, then a share for each direction. -/
def ownS (c : Dev nD) (st : Bool) (o a₀ a₁ : Bool) : sProp 𝕄 :=
  match o with
  | false => Free c (cblk outM (posT c) st)
  | true => iprop(halfP X Wt c st fullShare.left a₀ ∗ halfP X Wt c st fullShare.right a₁)

/-- A block of the products, until it is lent to a hop. -/
def prtH (c : Dev nD) (x : Fin 32) (st : Bool) : Bool → sProp 𝕄
  | true => iprop(emp)
  | false => Holds c (cblk partM (posT c + x) st) fullShare (partV X Wt c (posT c + x) st)

/-- A row of blocks of the products: to be computed until `p`, then its two halves. -/
def prtS (c : Dev nD) (x : Fin 32) (p l₀ l₁ : Bool) : sProp 𝕄 :=
  match p with
  | false => iprop(Free c (cblk partM (posT c + x) false) ∗ Free c (cblk partM (posT c + x) true))
  | true => iprop(prtH X Wt c x false l₀ ∗ prtH X Wt c x true l₁)

/-- The barrier. -/
def barB (c : Dev nD) : Bool → sProp 𝕄
  | false => iprop(atPos ER (barC c) 0 ∅ 0 ∗ cred (tallyAt (barC c) () 2)
      ∗ (dutyTok ER (barC (nbr false c)) 0 true ∗ reached ER (barC (nbr false c)) 0)
      ∗ (dutyTok ER (barC (nbr true c)) 0 false ∗ reached ER (barC (nbr true c)) 0))
  | true => atPos ER (barC c) 1 ∅ 0

/-- Whether the block `x` is lent to the first hop of a stream. -/
def lentD (D : Act → Bool) (x : Fin 32) (st d : Bool) : Bool := D (.start false (st, d) 0) && decide (x = off d (hops (st, d)))
def lent (D : Act → Bool) (x : Fin 32) (st : Bool) : Bool := lentD D x st false || lentD D x st true

variable (c : Dev nD) (D : Act → Bool)

def famPos (h : Hp) : sProp 𝕄 := posL c h (D (.wait h.1 h.2.1 h.2.2))
def famReg (h : Hp) : sProp 𝕄 :=
  regL X Wt c h (D .barrier) (D (.wait h.1 h.2.1 h.2.2)) (D (.start h.1 h.2.1 (h.2.2 + 1))) (!h.1 && D (.add h.2.1 h.2.2))
def famHop (h : Hp) : sProp 𝕄 := hopS X Wt c h (D .barrier) (D (.start h.1 h.2.1 h.2.2)) (D (.done h.1 h.2.1 h.2.2))
def famOwn (st : Bool) : sProp 𝕄 := ownS X Wt c st (D (.own st)) (D (.start true (st, false) 0)) (D (.start true (st, true) 0))
def famPrt (x : Fin 32) : sProp 𝕄 := prtS X Wt c x (D (.piece x)) (lent D x false) (lent D x true)

/-- All a device holds between two steps. -/
def Inv (l : List Act) : sProp 𝕄 :=
  iprop(bigSep Finset.univ (famPos c D) ∗ bigSep Finset.univ (famReg X Wt c D) ∗ bigSep Finset.univ (famHop X Wt c D)
    ∗ bigSep Finset.univ (famOwn X Wt c D) ∗ bigSep Finset.univ (famPrt X Wt c D) ∗ barB c (D .barrier) ∗ xPts X c ∗ wPts Wt c
    ∗ ∃ W, owes (c : Thread nD τ) (owedOf c l) W)

/-! ## Which steps may come next -/

/-- What a step needs of the steps done before it and of those to come after it. -/
def ok (a : Act) (l : List Act) : Bool :=
  match a with
  | .piece x => !D (.piece x) && !lent D x false && !lent D x true
  | .barrier => !D .barrier && lvOk 1 l && decide (∀ h : Hp, D (.wait h.1 h.2.1 h.2.2) = false ∧ D (.start h.1 h.2.1 h.2.2) = false)
  | .start p s j => decide (j < hops s) && D .barrier && !D (.start p s j) && !D (.done p s j) && (match p, j with
      | false, 0 => D (.piece (off s.2 (hops s))) && !lent D (off s.2 (hops s)) s.1
      | false, j + 1 => D (.wait false s j) && D (.add s j)
      | true, 0 => D (.own s.1)
      | true, j + 1 => D (.wait true s j))
  | .wait p s j => decide (j < hops s) && D .barrier && !D (.wait p s j) && !D (.start p s (j + 1)) && (p || !D (.add s j))
      && lvOk (if p then 20 + j else 2 + j) l
  | .add s j => decide (j < hops s) && D .barrier && D (.wait false s j) && !D (.start false s (j + 1)) && !D (.add s j)
      && D (.piece (off s.2 (hops s - 1 - j))) && !lent D (off s.2 (hops s - 1 - j)) s.1
  | .own st => D .barrier && !D (.own st) && !D (.start true (st, false) 0) && !D (.start true (st, true) 0)
      && D (.wait false (st, false) (hops (st, false) - 1)) && !D (.start false (st, false) (hops (st, false) - 1 + 1)) && !D (.add (st, false) (hops (st, false) - 1))
      && D (.wait false (st, true) (hops (st, true) - 1)) && !D (.start false (st, true) (hops (st, true) - 1 + 1)) && !D (.add (st, true) (hops (st, true) - 1))
      && D (.piece 0) && !lent D 0 st
  | .done p s j => decide (j < hops s) && D (.start p s j) && !D (.done p s j) && lvOk 0 l

end Cert.KernelIdeal.Ring
-- ==== Proof.LocalIdeal.lean ====
/-
  The steps that only compute, each from one state of the device to the next.
-/
module

public import proofs.«01_k».proof.Proof.InvIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32)
variable (c : Dev nD) (D : Act → Bool) (l : List Act)

theorem lent_ins (a : Act) (h : ∀ s, a ≠ .start false s 0) (x : Fin 32) (st : Bool) : lent (ins D a) x st = lent D x st := by
  unfold lent lentD
  rw [ins_ne D (h (st, false)).symm, ins_ne D (h (st, true)).symm]

/-- Computing a block of the products. -/
theorem run_piece (Kt : PUnit → sProp 𝕄) (x : Fin 32) (h : D (.piece x) = false) (h₀ : lent D x false = false) (h₁ : lent D x true = false) :
    iprop(Inv X Wt c D (.piece x :: l) ∗ (Inv X Wt c (ins D (.piece x)) l -∗ Kt ⟨⟩)) ⊢ WP c (pieceP (wd c) x) Kt := by
  have eP : famPos (F := F) c (ins D (.piece x)) = famPos c D := by funext k; simp [famPos, ins]
  have eR : famReg X Wt c (ins D (.piece x)) = famReg X Wt c D := by funext k; simp [famReg, ins]
  have eH : famHop X Wt c (ins D (.piece x)) = famHop X Wt c D := by funext k; simp [famHop, ins]
  have eO : famOwn X Wt c (ins D (.piece x)) = famOwn X Wt c D := by funext k; simp [famOwn, ins]
  have hl := lent_ins D (.piece x) (by simp)
  have eT : ∀ y, y ≠ x → famPrt X Wt c (ins D (.piece x)) y = famPrt X Wt c D y := fun y hy => by
    unfold famPrt
    rw [hl, hl, ins_ne D (by simpa using hy)]
  have e₀ : famPrt X Wt c D x = iprop(Free c (cblk partM (posT c + x) false) ∗ Free c (cblk partM (posT c + x) true)) := by
    unfold famPrt; rw [h]; rfl
  have e₁ : famPrt X Wt c (ins D (.piece x)) x = iprop(Holds c (cblk partM (posT c + x) false) fullShare (partV X Wt c (posT c + x) false)
      ∗ Holds c (cblk partM (posT c + x) true) fullShare (partV X Wt c (posT c + x) true)) := by
    unfold famPrt; rw [hl, hl, ins_self, h₀, h₁]; rfl
  have eB : ins D (.piece x) .barrier = D .barrier := ins_ne D (by simp)
  unfold Inv
  rw [eP, eR, eH, eO, eB, show owedOf c (.piece x :: l) = owedOf c l from add_zero _]
  iintro ⟨⟨HP, HR, HH, HO, HT, HB, Hx, Hw, HL⟩, Hk⟩
  ihave HT := (bigSep_univ_update (Φ := famPrt X Wt c D) (Ψ := famPrt X Wt c (ins D (.piece x))) x eT) $$ HT
  icases HT with ⟨Hf, HT⟩
  ihave Hf := (Entails.of_eq e₀) $$ Hf
  iapply (piece_run X Wt c x Kt)
  isplitl [Hx]; · iexact Hx
  isplitl [Hw]; · iexact Hw
  isplitl [Hf]; · iexact Hf
  iintro ⟨Hx, Hw, H0, H1⟩
  iapply Hk
  isplitl [HP]; · iexact HP
  isplitl [HR]; · iexact HR
  isplitl [HH]; · iexact HH
  isplitl [HO]; · iexact HO
  isplitl [HT H0 H1]
  · iapply HT
    iapply (Entails.of_eq e₁.symm)
    isplitl [H0]; · iexact H0
    iexact H1
  isplitl [HB]; · iexact HB
  isplitl [Hx]; · iexact Hx
  isplitl [Hw]; · iexact Hw
  iexact HL

/-- A block of the products computed and not lent, out of its row and back. -/
theorem prt_out (x : Fin 32) (st : Bool) (h : D (.piece x) = true) (h₀ : lent D x st = false) :
    bigSep Finset.univ (famPrt X Wt c D)
      ⊢ iprop(Holds c (cblk partM (posT c + x) st) fullShare (partV X Wt c (posT c + x) st)
          ∗ (Holds c (cblk partM (posT c + x) st) fullShare (partV X Wt c (posT c + x) st) -∗ bigSep Finset.univ (famPrt X Wt c D))) := by
  iintro HT
  ihave HT := (bigSep_univ_update (Φ := famPrt X Wt c D) (Ψ := famPrt X Wt c D) x (fun _ _ => rfl)) $$ HT
  icases HT with ⟨Hf, HT⟩
  have e : famPrt X Wt c D x = iprop(prtH X Wt c x false (lent D x false) ∗ prtH X Wt c x true (lent D x true)) := by
    unfold famPrt; rw [h]; rfl
  ihave Hf := (Entails.of_eq e) $$ Hf
  icases Hf with ⟨H0, H1⟩
  cases st with
  | false =>
    have e' : prtH X Wt c x false (lent D x false) = Holds c (cblk partM (posT c + x) false) fullShare (partV X Wt c (posT c + x) false) := by
      rw [h₀]; rfl
    isplitl [H0]; · iapply (Entails.of_eq e'); iexact H0
    iintro H0
    ihave H0 := (Entails.of_eq e'.symm) $$ H0
    iapply HT
    iapply (Entails.of_eq e.symm)
    isplitl [H0]; · iexact H0
    iexact H1
  | true =>
    have e' : prtH X Wt c x true (lent D x true) = Holds c (cblk partM (posT c + x) true) fullShare (partV X Wt c (posT c + x) true) := by
      rw [h₀]; rfl
    isplitl [H1]; · iapply (Entails.of_eq e'); iexact H1
    iintro H1
    ihave H1 := (Entails.of_eq e'.symm) $$ H1
    iapply HT
    iapply (Entails.of_eq e.symm)
    isplitl [H0]; · iexact H0
    iexact H1

/-- Adding to what a hop of the sums brought. -/
theorem run_add (Kt : PUnit → sProp 𝕄) (s : Str) (j : ℕ) (hj : j < hops s) (hb : D .barrier = true) (hw : D (.wait false s j) = true)
    (hn : D (.start false s (j + 1)) = false) (ha : D (.add s j) = false)
    (hp : D (.piece (off s.2 (hops s - 1 - j))) = true) (hl : lent D (off s.2 (hops s - 1 - j)) s.1 = false) :
    iprop(Inv X Wt c D (.add s j :: l) ∗ (Inv X Wt c (ins D (.add s j)) l -∗ Kt ⟨⟩)) ⊢ WP c (rsAddP (wd c) s j hj) Kt := by
  have eP : famPos (F := F) c (ins D (.add s j)) = famPos c D := by funext k; simp [famPos, ins]
  have eH : famHop X Wt c (ins D (.add s j)) = famHop X Wt c D := by funext k; simp [famHop, ins]
  have eO : famOwn X Wt c (ins D (.add s j)) = famOwn X Wt c D := by funext k; simp [famOwn, ins]
  have hL := lent_ins D (.add s j) (by simp)
  have eT : famPrt X Wt c (ins D (.add s j)) = famPrt X Wt c D := by
    funext k; unfold famPrt; rw [hL, hL]; simp [ins]
  have eR : ∀ k : Hp, k ≠ (false, ⟨s, ⟨j, hj⟩⟩) → famReg X Wt c (ins D (.add s j)) k = famReg X Wt c D k := by
    rintro ⟨p, s', j'⟩ hk
    unfold famReg
    rw [ins_ne D (by simp), ins_ne D (by simp), ins_ne D (by simp)]
    dsimp only
    cases p with
    | true => rfl
    | false =>
      rw [ins_ne D]
      intro e
      apply hk
      injection e with e₁ e₂
      subst e₁
      congr
      exact Fin.ext e₂
  have e₀ : famReg X Wt c D (false, ⟨s, ⟨j, hj⟩⟩) = Holds c (slot s j hj) fullShare (landV X Wt false s j c) := by
    unfold famReg; dsimp only; rw [hb, hw, hn, ha]; rfl
  have e₁ : famReg X Wt c (ins D (.add s j)) (false, ⟨s, ⟨j, hj⟩⟩) = Holds c (slot s j hj) fullShare (addf (landV X Wt false s j c)
      (partV X Wt c (posT c + off s.2 (hops s - 1 - j)) s.1)) := by
    unfold famReg; dsimp only
    rw [ins_ne D (by simp), ins_ne D (by simp), ins_ne D (by simp), ins_self, hb, hw, hn]; rfl
  have eB : ins D (.add s j) .barrier = D .barrier := ins_ne D (by simp)
  unfold Inv
  rw [eP, eT, eH, eO, eB, show owedOf c (.add s j :: l) = owedOf c l from add_zero _]
  iintro ⟨⟨HP, HR, HH, HO, HT, HB, Hx, Hw, HL⟩, Hk⟩
  ihave HR := (bigSep_univ_update (Φ := famReg X Wt c D) (Ψ := famReg X Wt c (ins D (.add s j))) (false, ⟨s, ⟨j, hj⟩⟩) eR) $$ HR
  icases HR with ⟨Hs, HR⟩
  ihave HT := (prt_out X Wt c D _ _ hp hl) $$ HT
  icases HT with ⟨Hb, HT⟩
  ihave Hs := (Entails.of_eq e₀) $$ Hs
  iapply (add_run c s j hj _ _ Kt)
  isplitl [Hs]; · iexact Hs
  isplitl [Hb]; · iexact Hb
  iintro ⟨Hs, Hb⟩
  iapply Hk
  isplitl [HP]; · iexact HP
  isplitl [HR Hs]; · iapply HR; iapply (Entails.of_eq e₁.symm); iexact Hs
  isplitl [HH]; · iexact HH
  isplitl [HO]; · iexact HO
  isplitl [HT Hb]; · iapply HT; iexact Hb
  isplitl [HB]; · iexact HB
  isplitl [Hx]; · iexact Hx
  isplitl [Hw]; · iexact Hw
  iexact HL

/-- What a hop of the sums brought, waited for and not yet passed on or added to, out of its slot and back. -/
theorem reg_out (s : Str) (j : ℕ) (hj : j < hops s) (hb : D .barrier = true) (hw : D (.wait false s j) = true)
    (hn : D (.start false s (j + 1)) = false) (ha : D (.add s j) = false) :
    bigSep (Finset.univ.erase (false, ⟨s, ⟨j, hj⟩⟩)) (famReg X Wt c D) = bigSep (Finset.univ.erase (false, ⟨s, ⟨j, hj⟩⟩)) (famReg X Wt c D)
      ∧ famReg X Wt c D (false, ⟨s, ⟨j, hj⟩⟩) = Holds c (slot s j hj) fullShare (srcS X Wt s j (nbr (!s.2) c)) := by
  refine ⟨rfl, ?_⟩
  unfold famReg; dsimp only; rw [hb, hw, hn, ha]; rfl

/-- Two members of a family, out and back. -/
theorem two_out {ι : Type} [Fintype ι] [DecidableEq ι] (Φ : ι → sProp 𝕄) (i j : ι) (h : i ≠ j) :
    bigSep Finset.univ Φ ⊢ iprop(Φ i ∗ Φ j ∗ (Φ i ∗ Φ j -∗ bigSep Finset.univ Φ)) := by
  have e : bigSep Finset.univ Φ = iprop(Φ i ∗ Φ j ∗ bigSep ((Finset.univ.erase i).erase j) Φ) := by
    rw [bigSep_univ_at Φ i, bigSep_erase (s := Finset.univ.erase i) (i := j) (Finset.mem_erase.mpr ⟨h.symm, Finset.mem_univ _⟩)]
    rfl
  iintro H
  ihave H := (Entails.of_eq e) $$ H
  icases H with ⟨H0, H1, H⟩
  isplitl [H0]; · iexact H0
  isplitl [H1]; · iexact H1
  iintro ⟨H0, H1⟩
  iapply (Entails.of_eq e.symm)
  isplitl [H0]; · iexact H0
  isplitl [H1]; · iexact H1
  iexact H

/-- Forming the own block of the result. -/
theorem run_own (Kt : PUnit → sProp 𝕄) (st : Bool) (hb : D .barrier = true) (ho : D (.own st) = false) (hs₀ : D (.start true (st, false) 0) = false)
    (hs₁ : D (.start true (st, true) 0) = false)
    (hw₀ : D (.wait false (st, false) (hops (st, false) - 1)) = true) (hn₀ : D (.start false (st, false) (hops (st, false) - 1 + 1)) = false)
    (ha₀ : D (.add (st, false) (hops (st, false) - 1)) = false)
    (hw₁ : D (.wait false (st, true) (hops (st, true) - 1)) = true) (hn₁ : D (.start false (st, true) (hops (st, true) - 1 + 1)) = false)
    (ha₁ : D (.add (st, true) (hops (st, true) - 1)) = false)
    (hp : D (.piece 0) = true) (hl : lent D 0 st = false) :
    iprop(Inv X Wt c D (.own st :: l) ∗ (Inv X Wt c (ins D (.own st)) l -∗ Kt ⟨⟩)) ⊢ WP c (ownP (wd c) st) Kt := by
  have eP : famPos (F := F) c (ins D (.own st)) = famPos c D := by funext k; simp [famPos, ins]
  have eH : famHop X Wt c (ins D (.own st)) = famHop X Wt c D := by funext k; simp [famHop, ins]
  have eR : famReg X Wt c (ins D (.own st)) = famReg X Wt c D := by funext k; simp [famReg, ins]
  have hL := lent_ins D (.own st) (by simp)
  have eT : famPrt X Wt c (ins D (.own st)) = famPrt X Wt c D := by
    funext k; unfold famPrt; rw [hL, hL]; simp [ins]
  have eO : ∀ k : Bool, k ≠ st → famOwn X Wt c (ins D (.own st)) k = famOwn X Wt c D k := fun k hk => by
    unfold famOwn
    rw [ins_ne D (by simpa using hk), ins_ne D (by simp), ins_ne D (by simp)]
  have eO₀ : famOwn X Wt c D st = Free c (cblk outM (posT c) st) := by unfold famOwn; rw [ho]; rfl
  have eO₁ : famOwn X Wt c (ins D (.own st)) st = iprop(Holds c (cblk outM (posT c) st) fullShare.left (finV X Wt st c)
      ∗ Holds c (cblk outM (posT c) st) fullShare.right (finV X Wt st c)) := by
    unfold famOwn; rw [ins_self, ins_ne D (by simp), ins_ne D (by simp), hs₀, hs₁]; rfl
  have r₀ := (reg_out X Wt c D (st, false) _ (last_lt _) hb hw₀ hn₀ ha₀).2
  have r₁ := (reg_out X Wt c D (st, true) _ (last_lt _) hb hw₁ hn₁ ha₁).2
  have eB : ins D (.own st) .barrier = D .barrier := ins_ne D (by simp)
  have hR := two_out (famReg X Wt c D) (false, ⟨(st, false), ⟨_, last_lt (st, false)⟩⟩) (false, ⟨(st, true), ⟨_, last_lt (st, true)⟩⟩)
    (fun e => by injection e with _ e; injection e with e _; injection e with _ e; exact absurd e (by decide))
  unfold Inv
  rw [eP, eT, eH, eR, eB, show owedOf c (.own st :: l) = owedOf c l from add_zero _]
  iintro ⟨⟨HP, HR, HH, HO, HT, HB, Hx, Hw, HL⟩, Hk⟩
  ihave HR := hR $$ HR
  icases HR with ⟨H0, H1, HR⟩
  ihave HT := (prt_out X Wt c D 0 st hp hl) $$ HT
  icases HT with ⟨Hb, HT⟩
  ihave HO := (bigSep_univ_update (Φ := famOwn X Wt c D) (Ψ := famOwn X Wt c (ins D (.own st))) st eO) $$ HO
  icases HO with ⟨Hf, HO⟩
  ihave H0 := (Entails.of_eq r₀) $$ H0
  ihave H1 := (Entails.of_eq r₁) $$ H1
  ihave Hf := (Entails.of_eq eO₀) $$ Hf
  have ez : posT c + 0 = posT c := by simp
  rw [ez]
  iapply (own_run c st _ _ _ Kt)
  isplitl [H0]; · iexact H0
  isplitl [H1]; · iexact H1
  isplitl [Hb]; · iexact Hb
  isplitl [Hf]; · iexact Hf
  iintro ⟨H0, H1, Hb, Hf⟩
  have hh : Holds c (cblk outM (posT c) st) fullShare (geluV (addf (addf (srcS X Wt (st, false) (hops (st, false) - 1) (nbr (!(st, false).2) c))
        (srcS X Wt (st, true) (hops (st, true) - 1) (nbr (!(st, true).2) c))) (partV X Wt c (posT c) st))) ⊢ iprop(Holds c (cblk outM (posT c) st) fullShare.left (finV X Wt st c)
      ∗ Holds c (cblk outM (posT c) st) fullShare.right (finV X Wt st c)) := by
    show Holds c (cblk outM (posT c) st) fullShare (finV X Wt st c) ⊢ _
    unfold Holds owns
    iintro ⟨%f, %hf, H⟩
    ihave H := (pointsTo_share (PosShare.mem_left_op_right fullShare)).1 $$ H
    icases H with ⟨H, H'⟩
    isplitl [H]
    · iexists f; isplitr; · ipureintro; exact hf
      iexact H
    · iexists f; isplitr; · ipureintro; exact hf
      iexact H'
  ihave Hf := hh $$ Hf
  iapply Hk
  isplitl [HP]; · iexact HP
  isplitl [HR H0 H1]
  · iapply HR
    isplitl [H0]; · iapply (Entails.of_eq r₀.symm); iexact H0
    iapply (Entails.of_eq r₁.symm); iexact H1
  isplitl [HH]; · iexact HH
  isplitl [HO Hf]; · iapply HO; iapply (Entails.of_eq eO₁.symm); iexact Hf
  isplitl [HT Hb]; · iapply HT; iexact Hb
  isplitl [HB]; · iexact HB
  isplitl [Hx]; · iexact Hx
  isplitl [Hw]; · iexact Hw
  iexact HL

end Cert.KernelIdeal.Ring
-- ==== Proof.WireIdeal.lean ====
/-
  The communicating steps, each from one state of the device to the next.
-/
module

public import proofs.«01_k».proof.Proof.LocalIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32)
variable (c : Dev nD) (D : Act → Bool) (l : List Act) (K : GSem nD τ sig → ℕ)

/-- A hop is told by its phase, its stream and its number. -/
theorem hp_ne {p p' : Bool} {s s' : Str} {j : ℕ} (hj : j < hops s) {j' : Fin (hops s')} (h : ((p', ⟨s', j'⟩) : Hp) ≠ (p, ⟨s, ⟨j, hj⟩⟩)) :
    ¬ (p' = p ∧ s' = s ∧ j'.val = j) := by
  rintro ⟨rfl, rfl, rfl⟩
  exact h rfl

/-- Awaiting a hop. -/
theorem run_wait (Kt : PUnit → sProp 𝕄) (p : Bool) (s : Str) (j : ℕ) (hj : j < hops s) (hb : D .barrier = true) (hw : D (.wait p s j) = false)
    (hn : D (.start p s (j + 1)) = false) (ha : (p || !D (.add s j)) = true) (hl : lvOk (if p then 20 + j else 2 + j) l = true) :
    iprop(ctx X Wt K ∗ Inv X Wt c D (.wait p s j :: l) ∗ (Inv X Wt c (ins D (.wait p s j)) l -∗ Kt ⟨⟩))
      ⊢ WP c (waitP (wd c) (p, ⟨s, ⟨j, hj⟩⟩)) Kt := by
  have eH : famHop X Wt c (ins D (.wait p s j)) = famHop X Wt c D := by funext k; simp [famHop, ins]
  have eO : famOwn X Wt c (ins D (.wait p s j)) = famOwn X Wt c D := by funext k; simp [famOwn, ins]
  have hL := lent_ins D (.wait p s j) (by simp)
  have eT : famPrt X Wt c (ins D (.wait p s j)) = famPrt X Wt c D := by
    funext k; unfold famPrt; rw [hL, hL]; simp [ins]
  have eP : ∀ k : Hp, k ≠ (p, ⟨s, ⟨j, hj⟩⟩) → famPos (F := F) c (ins D (.wait p s j)) k = famPos c D k := by
    rintro ⟨p', s', j'⟩ hk
    unfold famPos
    rw [ins_ne D (by simpa using hp_ne hj hk)]
  have eR : ∀ k : Hp, k ≠ (p, ⟨s, ⟨j, hj⟩⟩) → famReg X Wt c (ins D (.wait p s j)) k = famReg X Wt c D k := by
    rintro ⟨p', s', j'⟩ hk
    unfold famReg
    rw [ins_ne D (by simp), ins_ne D (by simpa using hp_ne hj hk), ins_ne D (by simp), ins_ne D (by simp)]
  have eP₀ : famPos (F := F) c D (p, ⟨s, ⟨j, hj⟩⟩) = iprop(atPos ER (recvC (p, ⟨s, ⟨j, hj⟩⟩) c) 0 ∅ 0 ∗ cred (tallyAt (recvC (p, ⟨s, ⟨j, hj⟩⟩) c) () NN)) := by
    unfold famPos; dsimp only; rw [hw]; rfl
  have eP₁ : famPos (F := F) c (ins D (.wait p s j)) (p, ⟨s, ⟨j, hj⟩⟩) = atPos ER (recvC (p, ⟨s, ⟨j, hj⟩⟩) c) 1 ∅ 0 := by
    unfold famPos; dsimp only; rw [ins_self]; rfl
  have ea : (!p && D (.add s j)) = false := by
    cases p
    · simpa using ha
    · rfl
  have eR₁ : famReg X Wt c (ins D (.wait p s j)) (p, ⟨s, ⟨j, hj⟩⟩) = recvPay X Wt (p, ⟨s, ⟨j, hj⟩⟩) c := by
    unfold famReg; dsimp only
    rw [ins_ne D (by simp), ins_self, ins_ne D (by simp), ins_ne D (by simp), hb, hn, ea]; rfl
  have eB : ins D (.wait p s j) .barrier = D .barrier := ins_ne D (by simp)
  have hlv : lv (recvC (p, ⟨s, ⟨j, hj⟩⟩) c) () ≤ (if p then 20 + j else 2 + j) := by
    rw [lv_recv]; exact le_of_eq rfl
  have hm : ctx X Wt K ⊢ MayWait (c : Thread nD τ) (.dma (cellSem true (p, ⟨s, ⟨j, hj⟩⟩))) () (owedOf c l) :=
    ctx_may X Wt K c (.dma (cellSem true (p, ⟨s, ⟨j, hj⟩⟩))) _ hlv l hl
  unfold Inv
  rw [eT, eH, eO, eB, show owedOf c (.wait p s j :: l) = owedOf c l from add_zero _]
  iintro ⟨#HC, ⟨HP, HR, HH, HO, HT, HB, Hx, Hw, %W, HL⟩, Hk⟩
  ihave HP := (bigSep_univ_update (Φ := famPos (F := F) c D) (Ψ := famPos c (ins D (.wait p s j))) (p, ⟨s, ⟨j, hj⟩⟩) eP) $$ HP
  icases HP with ⟨Hp, HP⟩
  ihave Hp := (Entails.of_eq eP₀) $$ Hp
  icases Hp with ⟨Ha, Hc⟩
  ihave HR := (bigSep_univ_update (Φ := famReg X Wt c D) (Ψ := famReg X Wt c (ins D (.wait p s j))) (p, ⟨s, ⟨j, hj⟩⟩) eR) $$ HR
  icases HR with ⟨-, HR⟩
  iapply (wait_hop X Wt c (p, ⟨s, ⟨j, hj⟩⟩) (K (recvC (p, ⟨s, ⟨j, hj⟩⟩) c)) (owedOf c l) W Kt)
  isplitr
  · iapply (ctx_hop X Wt K true _ c); iexact HC
  isplitl [Hc]; · iexact Hc
  isplitl [HL]; · iexact HL
  isplitr
  · iapply hm; iexact HC
  isplitl [Ha]; · iexact Ha
  iintro ⟨HL, Ha, Hr⟩
  iapply Hk
  isplitl [HP Ha]; · iapply HP; iapply (Entails.of_eq eP₁.symm); iexact Ha
  isplitl [HR Hr]; · iapply HR; iapply (Entails.of_eq eR₁.symm); iexact Hr
  isplitl [HH]; · iexact HH
  isplitl [HO]; · iexact HO
  isplitl [HT]; · iexact HT
  isplitl [HB]; · iexact HB
  isplitl [Hx]; · iexact Hx
  isplitl [Hw]; · iexact Hw
  iexists _
  iexact HL

/-- Settling a hop. -/
theorem run_done (Kt : PUnit → sProp 𝕄) (p : Bool) (s : Str) (j : ℕ) (hj : j < hops s) (hs : D (.start p s j) = true) (hd : D (.done p s j) = false)
    (hl : lvOk 0 l = true) :
    iprop(ctx X Wt K ∗ Inv X Wt c D (.done p s j :: l) ∗ (Inv X Wt c (ins D (.done p s j)) l -∗ Kt ⟨⟩))
      ⊢ WP c (doneP (wd c) (p, ⟨s, ⟨j, hj⟩⟩)) Kt := by
  have eP : famPos (F := F) c (ins D (.done p s j)) = famPos c D := by funext k; simp [famPos, ins]
  have eR : famReg X Wt c (ins D (.done p s j)) = famReg X Wt c D := by funext k; simp [famReg, ins]
  have eO : famOwn X Wt c (ins D (.done p s j)) = famOwn X Wt c D := by funext k; simp [famOwn, ins]
  have hL := lent_ins D (.done p s j) (by simp)
  have eT : famPrt X Wt c (ins D (.done p s j)) = famPrt X Wt c D := by
    funext k; unfold famPrt; rw [hL, hL]; simp [ins]
  have eH : ∀ k : Hp, k ≠ (p, ⟨s, ⟨j, hj⟩⟩) → famHop X Wt c (ins D (.done p s j)) k = famHop X Wt c D k := by
    rintro ⟨p', s', j'⟩ hk
    unfold famHop
    rw [ins_ne D (by simp), ins_ne D (by simp), ins_ne D (by simpa using hp_ne hj hk)]
  have eH₀ : famHop X Wt c D (p, ⟨s, ⟨j, hj⟩⟩) = iprop(atPos ER (sendC (p, ⟨s, ⟨j, hj⟩⟩) c) 0 ∅ 0 ∗ cred (tallyAt (sendC (p, ⟨s, ⟨j, hj⟩⟩) c) () NN)) := by
    unfold famHop; dsimp only; rw [hs, hd]; rfl
  have eH₁ : famHop X Wt c (ins D (.done p s j)) (p, ⟨s, ⟨j, hj⟩⟩)
      = iprop(atPos ER (sendC (p, ⟨s, ⟨j, hj⟩⟩) c) 1 ∅ 0 ∗ sendPay X Wt (p, ⟨s, ⟨j, hj⟩⟩) c) := by
    unfold famHop; dsimp only; rw [ins_ne D (by simp), ins_ne D (by simp), ins_self, hs]; rfl
  have hm : ctx X Wt K ⊢ MayWait (c : Thread nD τ) (.dma (cellSem false (p, ⟨s, ⟨j, hj⟩⟩))) () (owedOf c l) :=
    ctx_may X Wt K c (.dma (cellSem false (p, ⟨s, ⟨j, hj⟩⟩))) 0 (le_of_eq (lv_send (p, ⟨s, ⟨j, hj⟩⟩) c ())) l hl
  have eB : ins D (.done p s j) .barrier = D .barrier := ins_ne D (by simp)
  unfold Inv
  rw [eP, eT, eR, eO, eB, show owedOf c (.done p s j :: l) = owedOf c l from add_zero _]
  iintro ⟨#HC, ⟨HP, HR, HH, HO, HT, HB, Hx, Hw, %W, HL⟩, Hk⟩
  ihave HH := (bigSep_univ_update (Φ := famHop X Wt c D) (Ψ := famHop X Wt c (ins D (.done p s j))) (p, ⟨s, ⟨j, hj⟩⟩) eH) $$ HH
  icases HH with ⟨Hh, HH⟩
  ihave Hh := (Entails.of_eq eH₀) $$ Hh
  icases Hh with ⟨Ha, Hc⟩
  iapply (done_hop X Wt c (p, ⟨s, ⟨j, hj⟩⟩) (K (sendC (p, ⟨s, ⟨j, hj⟩⟩) c)) (owedOf c l) W Kt)
  isplitr
  · iapply (ctx_hop X Wt K false _ c); iexact HC
  isplitl [Hc]; · iexact Hc
  isplitl [HL]; · iexact HL
  isplitr
  · iapply hm; iexact HC
  isplitl [Ha]; · iexact Ha
  iintro ⟨HL, Ha, Hr⟩
  iapply Hk
  isplitl [HP]; · iexact HP
  isplitl [HR]; · iexact HR
  isplitl [HH Ha Hr]
  · iapply HH; iapply (Entails.of_eq eH₁.symm)
    isplitl [Ha]; · iexact Ha
    iexact Hr
  isplitl [HO]; · iexact HO
  isplitl [HT]; · iexact HT
  isplitl [HB]; · iexact HB
  isplitl [Hx]; · iexact Hx
  isplitl [Hw]; · iexact Hw
  iexists _
  iexact HL

/-- The hops of the two directions make up all of them. -/
theorem split_dir (Φ : Hp → sProp 𝕄) : bigSep Finset.univ Φ
    = iprop(bigSep (Finset.univ.filter fun h : Hp => h.2.1.2 = false) Φ ∗ bigSep (Finset.univ.filter fun h : Hp => h.2.1.2 = true) Φ) := by
  rw [bigSep_filter_split Finset.univ (fun h : Hp => h.2.1.2 = false) (Φ := Φ),
    show (Finset.univ.filter fun h : Hp => ¬ h.2.1.2 = false) = Finset.univ.filter fun h : Hp => h.2.1.2 = true from by ext h; simp]
  rfl

theorem grants_to (d : Bool) (c : Dev nD) : (grants d (nbr d c) : sProp 𝕄)
    = bigSep (Finset.univ.filter fun h : Hp => h.2.1.2 = d) fun h => leave h (toD h c) := by
  unfold grants
  exact bigSep_congr fun h hh => by rw [show toD h c = nbr d c from by unfold toD; rw [(Finset.mem_filter.mp hh).2]]

/-- The barrier. -/
theorem run_barrier (Kt : PUnit → sProp 𝕄) (hb : D .barrier = false) (hl : lvOk 1 l = true)
    (h₀ : ∀ h : Hp, D (.wait h.1 h.2.1 h.2.2) = false ∧ D (.start h.1 h.2.1 h.2.2) = false) :
    iprop(ctx X Wt K ∗ Inv X Wt c D (.barrier :: l) ∗ (Inv X Wt c (ins D .barrier) l -∗ Kt ⟨⟩)) ⊢ WP c (barrierP (wd c)) Kt := by
  have eP : famPos (F := F) c (ins D .barrier) = famPos c D := by funext k; simp [famPos, ins]
  have eO : famOwn X Wt c (ins D .barrier) = famOwn X Wt c D := by funext k; simp [famOwn, ins]
  have hL := lent_ins D .barrier (by simp)
  have eT : famPrt X Wt c (ins D .barrier) = famPrt X Wt c D := by
    funext k; unfold famPrt; rw [hL, hL]; simp [ins]
  have eR₀ : bigSep Finset.univ (famReg X Wt c D) = iprop(grants false c ∗ grants true c) := by
    rw [split_dir]
    unfold grants
    congr 1 <;> exact bigSep_congr fun h _ => by unfold famReg; rw [hb]; rfl
  have eR₁ : bigSep Finset.univ (famReg X Wt c (ins D .barrier)) = iprop(emp) := by
    rw [bigSep_congr (Ψ := fun _ => iprop(emp)) fun h _ => ?_]
    · exact bigSep_emp_const _
    · unfold famReg; rw [ins_self, ins_ne D (by simp), (h₀ h).1]; rfl
  have eH₁ : bigSep Finset.univ (famHop X Wt c (ins D .barrier))
      = iprop(bigSep Finset.univ (famHop X Wt c D) ∗ grants false (nbr false c) ∗ grants true (nbr true c)) := by
    rw [grants_to, grants_to, ← split_dir]
    refine Eq.trans ?_ (bigSep_sep Finset.univ (famHop X Wt c D) fun h => leave h (toD h c))
    refine bigSep_congr fun h _ => ?_
    unfold famHop
    rw [ins_self, ins_ne D (by simp), (h₀ h).2, hb]
    show iprop(_ ∗ leave h (toD h c)) = iprop((_ ∗ emp) ∗ leave h (toD h c))
    exact congrArg (fun Q => iprop(Q ∗ leave h (toD h c))) (sep_emp_eq _).symm
  have eB₀ : barB (F := F) c (D .barrier) = barB c false := by rw [hb]
  have eB₁ : barB (F := F) c (ins D .barrier .barrier) = atPos ER (barC c) 1 ∅ 0 := by rw [ins_self]; rfl
  have eB₂ : barB (F := F) c false = iprop(atPos ER (barC c) 0 ∅ 0 ∗ cred (tallyAt (barC c) () 2)
      ∗ (dutyTok ER (barC (nbr false c)) 0 true ∗ reached ER (barC (nbr false c)) 0)
      ∗ (dutyTok ER (barC (nbr true c)) 0 false ∗ reached ER (barC (nbr true c)) 0)) := rfl
  have hm : ctx X Wt K ⊢ MayWait (c : Thread nD τ) (.reg barS) () (owedOf c l) := ctx_may X Wt K c (.reg barS) 1 (le_of_eq rfl) l hl
  unfold Inv
  rw [eP, eT, eO, show owedOf c (.barrier :: l) = owedOf c l + tallyAt (barC (nbr true c)) () 1 + tallyAt (barC (nbr false c)) () 1 from (add_assoc _ _ _).symm]
  iintro ⟨#HC, ⟨HP, HR, HH, HO, HT, HB, Hx, Hw, %W, HL⟩, Hk⟩
  ihave HR := (Entails.of_eq eR₀) $$ HR
  icases HR with ⟨Hg₀, Hg₁⟩
  ihave HB := (Entails.of_eq eB₀) $$ HB
  ihave HB := (Entails.of_eq eB₂) $$ HB
  icases HB with ⟨Ha, Hc, Ht₀, Ht₁⟩
  iapply (barrier_run X Wt c (K (barC c)) (K (barC (nbr false c))) (K (barC (nbr true c))) (owedOf c l) W Kt)
  isplitr
  · iapply (ctx_bar X Wt K c); iexact HC
  isplitr
  · iapply (ctx_bar X Wt K (nbr false c)); iexact HC
  isplitr
  · iapply (ctx_bar X Wt K (nbr true c)); iexact HC
  isplitl [Hc]; · iexact Hc
  isplitl [HL]; · iexact HL
  isplitr
  · iapply hm; iexact HC
  isplitl [Ha]; · iexact Ha
  isplitl [Ht₀]; · iexact Ht₀
  isplitl [Ht₁]; · iexact Ht₁
  isplitl [Hg₀]; · iexact Hg₀
  isplitl [Hg₁]; · iexact Hg₁
  iintro ⟨HL, Ha, Hg₀, Hg₁⟩
  iapply Hk
  isplitl [HP]; · iexact HP
  isplitr; · iapply (Entails.of_eq eR₁.symm); iempintro
  isplitl [HH Hg₀ Hg₁]
  · iapply (Entails.of_eq eH₁.symm)
    isplitl [HH]; · iexact HH
    isplitl [Hg₀]; · iexact Hg₀
    iexact Hg₁
  isplitl [HO]; · iexact HO
  isplitl [HT]; · iexact HT
  isplitl [Ha]; · iapply (Entails.of_eq eB₁.symm); iexact Ha
  isplitl [Hx]; · iexact Hx
  isplitl [Hw]; · iexact Hw
  iexists _
  iexact HL

end Cert.KernelIdeal.Ring
-- ==== Proof.StartIdeal.lean ====
/-
  Starting a hop, from one state of the device to the next. What is sent comes from one of three places: the sums leave from
  a block of the products at their first hop and from a slot later, the results from the own block and then from where the
  last hop put them.
-/
module

public import proofs.«01_k».proof.Proof.WireIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32)
variable (c : Dev nD) (D : Act → Bool) (l : List Act) (K : GSem nD τ sig → ℕ)

/-- The places a hop may be sent from. -/
def places : sProp 𝕄 :=
  iprop(bigSep Finset.univ (famReg X Wt c D) ∗ bigSep Finset.univ (famOwn X Wt c D) ∗ bigSep Finset.univ (famPrt X Wt c D))

/-- Starting a hop whose source is in one of the places. -/
theorem run_start (Kt : PUnit → sProp 𝕄) (p : Bool) (s : Str) (j : ℕ) (hj : j < hops s) (hb : D .barrier = true) (hs : D (.start p s j) = false)
    (hd : D (.done p s j) = false) (hp : places X Wt c D ⊢ iprop(sendPay X Wt (p, ⟨s, ⟨j, hj⟩⟩) c ∗ places X Wt c (ins D (.start p s j)))) :
    iprop(ctx X Wt K ∗ Inv X Wt c D (.start p s j :: l) ∗ (Inv X Wt c (ins D (.start p s j)) l -∗ Kt ⟨⟩))
      ⊢ WP c (startP (wd c) (p, ⟨s, ⟨j, hj⟩⟩)) Kt := by
  have eP : famPos (F := F) c (ins D (.start p s j)) = famPos c D := by funext k; simp [famPos, ins]
  have eH : ∀ k : Hp, k ≠ (p, ⟨s, ⟨j, hj⟩⟩) → famHop X Wt c (ins D (.start p s j)) k = famHop X Wt c D k := by
    rintro ⟨p', s', j'⟩ hk
    unfold famHop
    rw [ins_ne D (by simp), ins_ne D (by simpa using hp_ne hj hk), ins_ne D (by simp)]
  have eH₀ : famHop X Wt c D (p, ⟨s, ⟨j, hj⟩⟩) = iprop((atPos ER (sendC (p, ⟨s, ⟨j, hj⟩⟩) c) 0 ∅ 0 ∗ reached ER (sendC (p, ⟨s, ⟨j, hj⟩⟩) c) 0
      ∗ dutyTok ER (sendC (p, ⟨s, ⟨j, hj⟩⟩) c) 0 false ∗ dutyTok ER (recvC (p, ⟨s, ⟨j, hj⟩⟩) (toD (p, ⟨s, ⟨j, hj⟩⟩) c)) 0 false)
      ∗ (Free (toD (p, ⟨s, ⟨j, hj⟩⟩) c) (landM (p, ⟨s, ⟨j, hj⟩⟩) (toD (p, ⟨s, ⟨j, hj⟩⟩) c))
        ∗ reached ER (recvC (p, ⟨s, ⟨j, hj⟩⟩) (toD (p, ⟨s, ⟨j, hj⟩⟩) c)) 0)) := by
    unfold famHop; dsimp only; rw [hs, hb]; rfl
  have eH₁ : famHop X Wt c (ins D (.start p s j)) (p, ⟨s, ⟨j, hj⟩⟩)
      = iprop(atPos ER (sendC (p, ⟨s, ⟨j, hj⟩⟩) c) 0 ∅ 0 ∗ cred (tallyAt (sendC (p, ⟨s, ⟨j, hj⟩⟩) c) () NN)) := by
    unfold famHop; dsimp only; rw [ins_ne D (by simp), ins_self, ins_ne D (by simp), hd]; rfl
  have eB : ins D (.start p s j) .barrier = D .barrier := ins_ne D (by simp)
  have eL : owedOf c (.start p s j :: l) = owedOf c l + tallyAt (recvC (p, ⟨s, ⟨j, hj⟩⟩) (toD (p, ⟨s, ⟨j, hj⟩⟩) c)) () NN := by
    show owedOf c l + actTally c (.start p s j) = _
    unfold actTally
    dsimp only
    rw [dif_pos hj]
  unfold places at hp
  unfold Inv
  rw [eP, eB, eL]
  iintro ⟨#HC, ⟨HP, HR, HH, HO, HT, HB, Hx, Hw, %W, HL⟩, Hk⟩
  ihave HH := (bigSep_univ_update (Φ := famHop X Wt c D) (Ψ := famHop X Wt c (ins D (.start p s j))) (p, ⟨s, ⟨j, hj⟩⟩) eH) $$ HH
  icases HH with ⟨Hh, HH⟩
  ihave Hh := (Entails.of_eq eH₀) $$ Hh
  icases Hh with ⟨⟨Ha, Hr₁, Ht₁, Ht₂⟩, Hf, Hr₂⟩
  ihave HS := hp $$ [HR HO HT]
  · isplitl [HR]; · iexact HR
    isplitl [HO]; · iexact HO
    iexact HT
  icases HS with ⟨HS, HR, HO, HT⟩
  iapply (start_hop X Wt c (p, ⟨s, ⟨j, hj⟩⟩) (K (sendC (p, ⟨s, ⟨j, hj⟩⟩) c)) (K (recvC (p, ⟨s, ⟨j, hj⟩⟩) (toD (p, ⟨s, ⟨j, hj⟩⟩) c))) (owedOf c l) W Kt)
  isplitr
  · iapply (ctx_hop X Wt K false _ c); iexact HC
  isplitr
  · iapply (ctx_hop X Wt K true _ (toD (p, ⟨s, ⟨j, hj⟩⟩) c)); iexact HC
  isplitl [HS]; · iexact HS
  isplitl [Hf]; · iexact Hf
  isplitl [HL]; · iexact HL
  isplitl [Ht₁]; · iexact Ht₁
  isplitl [Hr₁]; · iexact Hr₁
  isplitl [Ht₂]; · iexact Ht₂
  isplitl [Hr₂]; · iexact Hr₂
  iintro ⟨Hc, HL⟩
  iapply Hk
  isplitl [HP]; · iexact HP
  isplitl [HR]; · iexact HR
  isplitl [HH Ha Hc]
  · iapply HH; iapply (Entails.of_eq eH₁.symm)
    isplitl [Ha]; · iexact Ha
    iexact Hc
  isplitl [HO]; · iexact HO
  isplitl [HT]; · iexact HT
  isplitl [HB]; · iexact HB
  isplitl [Hx]; · iexact Hx
  isplitl [Hw]; · iexact Hw
  iexists _
  iexact HL

theorem shQ_false (s : Str) (j : ℕ) : shQ false s j = fullShare := by
  obtain ⟨_ | _, _ | _⟩ := s <;> rfl
theorem shQ_later (s : Str) (j : ℕ) : shQ true s (j + 1) = fullShare := by
  obtain ⟨_ | _, _ | _⟩ := s <;> rfl

/-- The sums leave from a block of the products; -/
theorem source_first (s : Str) (hp : D (.piece (off s.2 (hops s))) = true) (hl : lent D (off s.2 (hops s)) s.1 = false) :
    places X Wt c D ⊢ iprop(sendPay X Wt (false, ⟨s, ⟨0, hops_pos s⟩⟩) c ∗ places X Wt c (ins D (.start false s 0))) := by
  have eR : famReg X Wt c (ins D (.start false s 0)) = famReg X Wt c D := by funext k; simp [famReg, ins]
  have eO : famOwn X Wt c (ins D (.start false s 0)) = famOwn X Wt c D := by funext k; simp [famOwn, ins]
  have hne : ∀ st, st ≠ s.1 → ∀ x, lent (ins D (.start false s 0)) x st = lent D x st := fun st h x => by
    have e : ∀ d, (st, d) ≠ s := fun d e => h (congrArg Prod.fst e)
    unfold lent lentD
    rw [ins_ne D (by simp [e]), ins_ne D (by simp [e])]
  have hnx : ∀ x, x ≠ off s.2 (hops s) → ∀ st, lent (ins D (.start false s 0)) x st = lent D x st := fun x h st => by
    have e : ∀ d, lentD (ins D (.start false s 0)) x st d = lentD D x st d := fun d => by
      unfold lentD
      by_cases hd : (st, d) = s
      · subst hd; rw [decide_eq_false h, Bool.and_false, Bool.and_false]
      · rw [ins_ne D (by simp [hd])]
    unfold lent
    rw [e, e]
  have hx : lent (ins D (.start false s 0)) (off s.2 (hops s)) s.1 = true := by
    obtain ⟨s₁, _ | _⟩ := s <;> simp [lent, lentD, ins]
  have eT : ∀ x, x ≠ off s.2 (hops s) → famPrt X Wt c (ins D (.start false s 0)) x = famPrt X Wt c D x := fun x h => by
    unfold famPrt
    rw [hnx x h, hnx x h]; simp [ins]
  have eP : ins D (.start false s 0) (.piece (off s.2 (hops s))) = true := by rw [ins_ne D (by simp), hp]
  have eS : sendPay X Wt (false, ⟨s, ⟨0, hops_pos s⟩⟩) c
      = Holds c (cblk partM (posT c + off s.2 (hops s)) s.1) fullShare (partV X Wt c (posT c + off s.2 (hops s)) s.1) := by
    unfold sendPay; rw [shQ_false]; rfl
  have hF : famPrt X Wt c D (off s.2 (hops s)) ⊢ iprop(sendPay X Wt (false, ⟨s, ⟨0, hops_pos s⟩⟩) c
      ∗ famPrt X Wt c (ins D (.start false s 0)) (off s.2 (hops s))) := by
    rw [eS]
    unfold famPrt
    rw [eP, hp]
    obtain ⟨_ | _, d⟩ := s
    · rw [hl, hx, hne true (by simp)]
      show iprop(Holds _ _ _ _ ∗ _) ⊢ iprop(_ ∗ emp ∗ _)
      iintro ⟨H0, H1⟩
      isplitl [H0]; · iexact H0
      isplitr; · iempintro
      iexact H1
    · rw [hl, hx, hne false (by simp)]
      show iprop(_ ∗ Holds _ _ _ _) ⊢ iprop(_ ∗ _ ∗ emp)
      iintro ⟨H0, H1⟩
      isplitl [H1]; · iexact H1
      isplitl [H0]; · iexact H0
      iempintro
  unfold places
  rw [eR, eO]
  iintro ⟨HR, HO, HT⟩
  ihave HT := (bigSep_univ_update (Φ := famPrt X Wt c D) (Ψ := famPrt X Wt c (ins D (.start false s 0))) (off s.2 (hops s)) eT) $$ HT
  icases HT with ⟨Hf, HT⟩
  ihave Hf := hF $$ Hf
  icases Hf with ⟨HS, Hf⟩
  isplitl [HS]; · iexact HS
  isplitl [HR]; · iexact HR
  isplitl [HO]; · iexact HO
  iapply HT; iexact Hf

/-- later hops of either phase leave from where the last one landed; -/
theorem source_later (p : Bool) (s : Str) (j : ℕ) (hj : j + 1 < hops s) (hb : D .barrier = true) (hw : D (.wait p s j) = true)
    (hs : D (.start p s (j + 1)) = false) (ha : p = true ∨ D (.add s j) = true) :
    places X Wt c D ⊢ iprop(sendPay X Wt (p, ⟨s, ⟨j + 1, hj⟩⟩) c ∗ places X Wt c (ins D (.start p s (j + 1)))) := by
  have eO : famOwn X Wt c (ins D (.start p s (j + 1))) = famOwn X Wt c D := by funext k; simp [famOwn, ins]
  have hL := lent_ins D (.start p s (j + 1)) (by simp)
  have eT : famPrt X Wt c (ins D (.start p s (j + 1))) = famPrt X Wt c D := by
    funext k; unfold famPrt; rw [hL, hL]; simp [ins]
  have eR : ∀ k : Hp, k ≠ (p, ⟨s, ⟨j, Nat.lt_of_succ_lt hj⟩⟩) → famReg X Wt c (ins D (.start p s (j + 1))) k = famReg X Wt c D k := by
    rintro ⟨p', s', j'⟩ hk
    unfold famReg
    rw [ins_ne D (by simp), ins_ne D (by simp), ins_ne D (by simpa using hp_ne _ hk), ins_ne D (by simp)]
  have hF : famReg X Wt c D (p, ⟨s, ⟨j, Nat.lt_of_succ_lt hj⟩⟩) ⊢ sendPay X Wt (p, ⟨s, ⟨j + 1, hj⟩⟩) c := by
    unfold famReg sendPay
    dsimp only
    rw [hb, hw, hs]
    cases p with
    | false =>
      rw [shQ_false, ha.resolve_left (by simp)]
      exact .rfl
    | true =>
      rw [shQ_later]
      have e : landV X Wt true s j c = srcV X Wt true s (j + 1) c := by
        show finV X Wt s.1 (devT (posT (nbr (!s.2) c) + off (!s.2) j)) = finV X Wt s.1 (devT (posT c + off (!s.2) (j + 1)))
        rw [land_q c s j (lt_trans (Nat.lt_of_succ_lt hj) (hops_lt s))]
      rw [← e]
      exact .rfl
  have hF' : iprop(emp) ⊢ famReg X Wt c (ins D (.start p s (j + 1))) (p, ⟨s, ⟨j, Nat.lt_of_succ_lt hj⟩⟩) := by
    unfold famReg
    dsimp only
    rw [ins_ne D (by simp), ins_ne D (by simp), ins_self, ins_ne D (by simp), hb, hw]
    exact .rfl
  unfold places
  rw [eO, eT]
  iintro ⟨HR, HO, HT⟩
  ihave HR := (bigSep_univ_update (Φ := famReg X Wt c D) (Ψ := famReg X Wt c (ins D (.start p s (j + 1)))) (p, ⟨s, ⟨j, Nat.lt_of_succ_lt hj⟩⟩) eR) $$ HR
  icases HR with ⟨Hf, HR⟩
  isplitl [Hf]; · iapply hF; iexact Hf
  isplitl [HR]; · iapply HR; iapply hF'; iempintro
  isplitl [HO]; · iexact HO
  iexact HT

/-- the results leave from the own block, one share of it each way. -/
theorem source_own (s : Str) (ho : D (.own s.1) = true) (hs : D (.start true s 0) = false) :
    places X Wt c D ⊢ iprop(sendPay X Wt (true, ⟨s, ⟨0, hops_pos s⟩⟩) c ∗ places X Wt c (ins D (.start true s 0))) := by
  have eR : famReg X Wt c (ins D (.start true s 0)) = famReg X Wt c D := by funext k; simp [famReg, ins]
  have hL := lent_ins D (.start true s 0) (by simp)
  have eT : famPrt X Wt c (ins D (.start true s 0)) = famPrt X Wt c D := by
    funext k; unfold famPrt; rw [hL, hL]; simp [ins]
  have eO : ∀ st, st ≠ s.1 → famOwn X Wt c (ins D (.start true s 0)) st = famOwn X Wt c D st := fun st h => by
    have e : ∀ d, (st, d) ≠ s := fun d e => h (congrArg Prod.fst e)
    unfold famOwn
    rw [ins_ne D (by simp), ins_ne D (by simp [e]), ins_ne D (by simp [e])]
  have ez : posT c + agX s 0 = posT c := by
    rw [show agX s 0 = 0 from by obtain ⟨_ | _, _ | _⟩ := s <;> rfl]
    simp
  have eS : sendPay X Wt (true, ⟨s, ⟨0, hops_pos s⟩⟩) c = Holds c (cblk outM (posT c) s.1) (shQ true s 0) (finV X Wt s.1 c) := by
    show Holds c (cblk outM (posT c + agX s 0) s.1) (shQ true s 0) (finV X Wt s.1 (devT (posT c + agX s 0))) = _
    rw [ez, devT_posT]
  have eo : ins D (.start true s 0) (.own s.1) = true := by rw [ins_ne D (by simp), ho]
  have hF : famOwn X Wt c D s.1 ⊢ iprop(sendPay X Wt (true, ⟨s, ⟨0, hops_pos s⟩⟩) c ∗ famOwn X Wt c (ins D (.start true s 0)) s.1) := by
    rw [eS]
    unfold famOwn
    rw [eo, ho]
    obtain ⟨st, _ | _⟩ := s
    · rw [hs, ins_self, ins_ne D (by simp)]
      show iprop(Holds _ _ _ _ ∗ _) ⊢ iprop(_ ∗ emp ∗ _)
      iintro ⟨H0, H1⟩
      isplitl [H0]; · iexact H0
      isplitr; · iempintro
      iexact H1
    · rw [hs, ins_self, ins_ne D (by simp)]
      show iprop(_ ∗ Holds _ _ _ _) ⊢ iprop(_ ∗ _ ∗ emp)
      iintro ⟨H0, H1⟩
      isplitl [H1]; · iexact H1
      isplitl [H0]; · iexact H0
      iempintro
  unfold places
  rw [eR, eT]
  iintro ⟨HR, HO, HT⟩
  ihave HO := (bigSep_univ_update (Φ := famOwn X Wt c D) (Ψ := famOwn X Wt c (ins D (.start true s 0))) s.1 eO) $$ HO
  icases HO with ⟨Hf, HO⟩
  ihave Hf := hF $$ Hf
  icases Hf with ⟨HS, Hf⟩
  isplitl [HS]; · iexact HS
  isplitl [HR]; · iexact HR
  isplitl [HO Hf]; · iapply HO; iexact Hf
  iexact HT

end Cert.KernelIdeal.Ring
-- ==== Proof.RunIdeal.lean ====
/-
  The whole run of the steps: each from one state of the device to the next, in an order that a finite check accepts.
-/
module

public import proofs.«01_k».proof.Proof.StartIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

section Step

variable (X : Dev nD → Vec F S2048x64 .f32) (Wt : Dev nD → Vec F S64x2048 .f32)
variable (c : Dev nD) (D : Act → Bool) (l : List Act) (K : GSem nD τ sig → ℕ)

/-- A step that may come next takes the device from one state to the next. -/
theorem step_run (Kt : PUnit → sProp 𝕄) (a : Act) (h : ok D a l = true) :
    iprop(ctx X Wt K ∗ Inv X Wt c D (a :: l) ∗ (Inv X Wt c (ins D a) l -∗ Kt ⟨⟩)) ⊢ WP c (a.prog (wd c)) Kt := by
  cases a with
  | piece x =>
    simp only [ok, Bool.and_eq_true, Bool.not_eq_true'] at h
    iintro ⟨-, HI⟩
    iapply (run_piece X Wt c D l Kt x h.1.1 h.1.2 h.2)
    iexact HI
  | barrier =>
    simp only [ok, Bool.and_eq_true, Bool.not_eq_true', decide_eq_true_eq] at h
    exact run_barrier X Wt c D l K Kt h.1.1 h.1.2 h.2
  | start p s j =>
    simp only [ok, Bool.and_eq_true, Bool.not_eq_true', decide_eq_true_eq] at h
    obtain ⟨⟨⟨⟨hj, hb⟩, hs⟩, hd⟩, hm⟩ := h
    rw [show Act.prog (wd c) (.start p s j) = startP (F := F) (wd c) (p, ⟨s, ⟨j, hj⟩⟩) from dif_pos hj]
    refine run_start X Wt c D l K Kt p s j hj hb hs hd ?_
    cases p with
    | false =>
      cases j with
      | zero =>
        simp only [Bool.and_eq_true, Bool.not_eq_true'] at hm
        exact source_first X Wt c D s hm.1 hm.2
      | succ j =>
        simp only [Bool.and_eq_true] at hm
        exact source_later X Wt c D false s j hj hb hm.1 hs (.inr hm.2)
    | true =>
      cases j with
      | zero => exact source_own X Wt c D s hm hs
      | succ j => exact source_later X Wt c D true s j hj hb hm hs (.inl rfl)
  | wait p s j =>
    simp only [ok, Bool.and_eq_true, Bool.not_eq_true', decide_eq_true_eq] at h
    obtain ⟨⟨⟨⟨⟨hj, hb⟩, hw⟩, hn⟩, ha⟩, hl⟩ := h
    rw [show Act.prog (wd c) (.wait p s j) = waitP (F := F) (wd c) (p, ⟨s, ⟨j, hj⟩⟩) from dif_pos hj]
    exact run_wait X Wt c D l K Kt p s j hj hb hw hn ha hl
  | add s j =>
    simp only [ok, Bool.and_eq_true, Bool.not_eq_true', decide_eq_true_eq] at h
    obtain ⟨⟨⟨⟨⟨⟨hj, hb⟩, hw⟩, hn⟩, ha⟩, hp⟩, hl⟩ := h
    rw [show Act.prog (wd c) (.add s j) = rsAddP (F := F) (wd c) s j hj from dif_pos hj]
    iintro ⟨-, HI⟩
    iapply (run_add X Wt c D l Kt s j hj hb hw hn ha hp hl)
    iexact HI
  | own st =>
    simp only [ok, Bool.and_eq_true, Bool.not_eq_true'] at h
    obtain ⟨⟨⟨⟨⟨⟨⟨⟨⟨⟨⟨hb, ho⟩, hs₀⟩, hs₁⟩, hw₀⟩, hn₀⟩, ha₀⟩, hw₁⟩, hn₁⟩, ha₁⟩, hp⟩, hl⟩ := h
    iintro ⟨-, HI⟩
    iapply (run_own X Wt c D l Kt st hb ho hs₀ hs₁ hw₀ hn₀ ha₀ hw₁ hn₁ ha₁ hp hl)
    iexact HI
  | done p s j =>
    simp only [ok, Bool.and_eq_true, Bool.not_eq_true', decide_eq_true_eq] at h
    obtain ⟨⟨⟨hj, hs⟩, hd⟩, hl⟩ := h
    rw [show Act.prog (wd c) (.done p s j) = doneP (F := F) (wd c) (p, ⟨s, ⟨j, hj⟩⟩) from dif_pos hj]
    exact run_done X Wt c D l K Kt p s j hj hs hd hl

end Step

/-! ## The steps done, as one number -/

def bn (b : Bool) : ℕ := if b then 1 else 0

/-- The kind of a step, and which of its kind it is. -/
def kind : Act → ℕ
  | .piece _ => 0
  | .barrier => 1
  | .start p s _ => 2 + (4 * bn p + 2 * bn s.1 + bn s.2)
  | .wait p s _ => 10 + (4 * bn p + 2 * bn s.1 + bn s.2)
  | .add s _ => 18 + (2 * bn s.1 + bn s.2)
  | .own st => 22 + bn st
  | .done p s _ => 24 + (4 * bn p + 2 * bn s.1 + bn s.2)
def rank : Act → ℕ
  | .piece x => x.val
  | .barrier => 0
  | .start _ _ j => j
  | .wait _ _ j => j
  | .add _ j => j
  | .own _ => 0
  | .done _ _ j => j

theorem kind_lt (a : Act) : kind a < 32 := by
  have h : ∀ b, bn b ≤ 1 := by decide
  cases a with
  | piece x => exact (by decide : 0 < 32)
  | barrier => exact (by decide : 1 < 32)
  | start p s j => have := h p; have := h s.1; have := h s.2; simp only [kind]; omega
  | wait p s j => have := h p; have := h s.1; have := h s.2; simp only [kind]; omega
  | add s j => have := h s.1; have := h s.2; simp only [kind]; omega
  | own st => have := h st; simp only [kind]; omega
  | done p s j => have := h p; have := h s.1; have := h s.2; simp only [kind]; omega

def bt (n d : ℕ) : Bool := decide (n / d % 2 = 1)

/-- A step is told by its kind and its rank. -/
def ofKind (k n : ℕ) : Act :=
  if k = 0 then .piece ⟨n % 32, Nat.mod_lt _ (by decide)⟩ else if k = 1 then .barrier
  else if k < 10 then .start (bt (k - 2) 4) (bt (k - 2) 2, bt (k - 2) 1) n
  else if k < 18 then .wait (bt (k - 10) 4) (bt (k - 10) 2, bt (k - 10) 1) n
  else if k < 22 then .add (bt (k - 18) 2, bt (k - 18) 1) n
  else if k < 24 then .own (bt (k - 22) 1)
  else .done (bt (k - 24) 4) (bt (k - 24) 2, bt (k - 24) 1) n

theorem ofKind_kind (a : Act) : ofKind (kind a) (rank a) = a := by
  cases a with
  | piece x => exact congrArg Act.piece (Fin.ext (Nat.mod_eq_of_lt x.isLt))
  | barrier => rfl
  | start p s j => obtain ⟨_ | _, _ | _⟩ := s <;> cases p <;> simp [ofKind, kind, rank, bn, bt]
  | wait p s j => obtain ⟨_ | _, _ | _⟩ := s <;> cases p <;> simp [ofKind, kind, rank, bn, bt]
  | add s j => obtain ⟨_ | _, _ | _⟩ := s <;> simp [ofKind, kind, rank, bn, bt]
  | own st => cases st <;> rfl
  | done p s j => obtain ⟨_ | _, _ | _⟩ := s <;> cases p <;> simp [ofKind, kind, rank, bn, bt]

def code (a : Act) : ℕ := kind a + 32 * rank a

theorem code_inj (a b : Act) (h : code a = code b) : a = b := by
  have ha := kind_lt a
  have hb := kind_lt b
  unfold code at h
  have hk : kind a = kind b := by omega
  have hr : rank a = rank b := by omega
  rw [← ofKind_kind a, ← ofKind_kind b, hk, hr]

def bits (n : ℕ) (a : Act) : Bool := n.testBit (code a)

theorem bits_zero : bits 0 = fun _ => false := funext fun _ => Nat.zero_testBit _

def mark (n : ℕ) (a : Act) : ℕ := n ||| 2 ^ code a

theorem bits_mark (n : ℕ) (a : Act) : bits (mark n a) = ins (bits n) a := by
  funext k
  unfold bits mark ins
  rw [Nat.testBit_or, Nat.testBit_two_pow]
  by_cases h : k = a
  · subst h; simp
  · have : code a ≠ code k := fun e => h (code_inj a k e).symm
    simp [h, this]

/-- Every step of a list may come when it comes. -/
def okAll : ℕ → List Act → Bool
  | _, [] => true
  | n, a :: l => ok (bits n) a l && okAll (mark n a) l

/-- The steps done after a list. -/
def marks : ℕ → List Act → ℕ
  | n, [] => n
  | n, a :: l => marks (mark n a) l

variable (X : Dev nD → Vec F S2048x64 .f32) (Wt : Dev nD → Vec F S64x2048 .f32) (c : Dev nD) (K : GSem nD τ sig → ℕ)

/-- A run of steps takes the device from the state before them to the state after. -/
theorem run_all (Kt : PUnit → sProp 𝕄) : (l : List Step) → (n : ℕ) → okAll n (l.map Step.act) = true →
    (iprop(ctx X Wt K ∗ Inv X Wt c (bits n) (l.map Step.act) ∗ (Inv X Wt c (bits (marks n (l.map Step.act))) [] -∗ Kt ⟨⟩))
      ⊢ WP c (run (wd c) l) Kt)
  | [], n, _ => by
    unfold run WP
    iintro ⟨-, HI, Hk⟩
    rw [show (pure ⟨⟩ : P (F := F)) = .ret ⟨⟩ from rfl, wp_ret]
    imodintro
    iapply Hk; iexact HI
  | a :: l, n, h => by
    have h' : ok (bits n) a.act (l.map Step.act) = true ∧ okAll (mark n a.act) (l.map Step.act) = true := by
      rw [List.map_cons, okAll, Bool.and_eq_true] at h; exact h
    have e : Inv X Wt c (bits n) ((a :: l).map Step.act) = Inv X Wt c (bits n) (a.act :: l.map Step.act) := rfl
    have e' : marks n ((a :: l).map Step.act) = marks (mark n a.act) (l.map Step.act) := rfl
    rw [e, e']
    have ih := run_all Kt l (mark n a.act) h'.2
    unfold run
    iintro ⟨#HC, HI, Hk⟩
    rw [WP, wp_bind, Step.prog_act]
    iapply (step_run X Wt c (bits n) (l.map Step.act) K (fun _ => WP c (run (wd c) l) Kt) a.act h'.1)
    isplitr; · iexact HC
    isplitl [HI]; · iexact HI
    rw [← bits_mark]
    iintro HI
    iapply ih
    isplitr; · iexact HC
    isplitl [HI]; · iexact HI
    iexact Hk

/-- The body's steps, in the order it takes them. -/
def acts : List Act := steps.map Step.act

theorem acts_ok : okAll 0 acts = true := by decide +kernel

/-- All steps of the body done. -/
def fin : Act → Bool := bits (marks 0 acts)

end Cert.KernelIdeal.Ring
-- ==== Proof.FamIdeal.lean ====
/-
  Families over the hops, the slots and the blocks, taken apart and put together.
-/
module

public import proofs.«01_k».proof.Proof.RunIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-- A family over `Bool` is its two members. -/
theorem fam_bool (Φ : Bool → sProp 𝕄) : bigSep Finset.univ Φ = iprop(Φ false ∗ Φ true) := by
  rw [show (Finset.univ : Finset Bool) = {false, true} from by decide, bigSep_insert (by decide), bigSep_singleton]
  rfl

/-- A family over `n + 1` places is its first member and the rest; -/
theorem fam_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- or the rest and its last. -/
theorem fam_last {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]
  rfl

/-- Each member of `A` but the first gives the member of `C` before it, and `B`'s last gives the last. -/
theorem fam_shift {n : ℕ} (h : 0 < n) (A B C : Fin n → sProp 𝕄) (hA : ∀ (j : ℕ) (hj : j + 1 < n), A ⟨j + 1, hj⟩ ⊢ C ⟨j, Nat.lt_of_succ_lt hj⟩)
    (hB : B ⟨n - 1, Nat.sub_lt h Nat.one_pos⟩ ⊢ C ⟨n - 1, Nat.sub_lt h Nat.one_pos⟩) :
    iprop(bigSep Finset.univ A ∗ bigSep Finset.univ B) ⊢ iprop(A ⟨0, h⟩ ∗ bigSep Finset.univ C) := by
  obtain ⟨m, rfl⟩ : ∃ m, n = m + 1 := ⟨n - 1, by omega⟩
  have h₁ : (bigSep Finset.univ fun i : Fin m => A i.succ) ⊢ bigSep Finset.univ fun i : Fin m => C i.castSucc :=
    bigSep_mono fun i _ => hA i.val (Nat.succ_lt_succ i.isLt)
  have h₂ : bigSep Finset.univ B ⊢ B (Fin.last m) := bigSep_elim (Finset.mem_univ _)
  have h₃ : B (Fin.last m) ⊢ C (Fin.last m) := hB
  rw [show A ⟨0, h⟩ = A 0 from rfl, fam_first A, fam_last C]
  iintro ⟨⟨H0, HA⟩, HB⟩
  isplitl [H0]; · iexact H0
  isplitl [HB]; · iapply h₃; iapply h₂; iexact HB
  iapply h₁; iexact HA

/-- Two members of `Φ`, and `Ψ` for the others, make `Φ`. -/
theorem fam_fill {ι : Type} [Fintype ι] [DecidableEq ι] (Φ Ψ : ι → sProp 𝕄) (i j : ι) (hij : i ≠ j) (h : ∀ k, k ≠ i → k ≠ j → Ψ k ⊢ Φ k) :
    iprop(bigSep Finset.univ Ψ ∗ Φ i ∗ Φ j) ⊢ bigSep Finset.univ Φ := by
  have e (Φ : ι → sProp 𝕄) : bigSep Finset.univ Φ = iprop(Φ i ∗ Φ j ∗ bigSep ((Finset.univ.erase i).erase j) Φ) := by
    rw [bigSep_univ_at Φ i, bigSep_erase (s := Finset.univ.erase i) (i := j) (Finset.mem_erase.mpr ⟨hij.symm, Finset.mem_univ _⟩)]
    rfl
  have hm : bigSep ((Finset.univ.erase i).erase j) Ψ ⊢ bigSep ((Finset.univ.erase i).erase j) Φ :=
    bigSep_mono fun k hk => h k (Finset.mem_erase.mp (Finset.mem_erase.mp hk).2).1 (Finset.mem_erase.mp hk).1
  rw [e Φ, e Ψ]
  iintro ⟨⟨-, -, H⟩, Hi, Hj⟩
  isplitl [Hi]; · iexact Hi
  isplitl [Hj]; · iexact Hj
  iapply hm; iexact H

/-! ## Hops -/

/-- A family over the hops of one stream in one phase. -/
def row (Φ : Hp → sProp 𝕄) (p : Bool) (s : Str) : sProp 𝕄 := bigSep Finset.univ fun j : Fin (hops s) => Φ (p, ⟨s, j⟩)

def hopMap : (Fin 16 ⊕ Fin 15) ⊕ (Fin 15 ⊕ Fin 16) → ((s : Str) × Fin (hops s))
  | .inl (.inl j) => ⟨(false, false), j⟩
  | .inl (.inr j) => ⟨(false, true), j⟩
  | .inr (.inl j) => ⟨(true, false), j⟩
  | .inr (.inr j) => ⟨(true, true), j⟩

theorem hopMap_bij : Function.Bijective hopMap := by decide +kernel

theorem fam_hops (Φ : Hp → sProp 𝕄) : bigSep Finset.univ Φ
    = iprop((((row Φ false (false, false) ∗ row Φ false (false, true)) ∗ (row Φ false (true, false) ∗ row Φ false (true, true))))
      ∗ ((row Φ true (false, false) ∗ row Φ true (false, true)) ∗ (row Φ true (true, false) ∗ row Φ true (true, true)))) := by
  have e (p : Bool) : (bigSep Finset.univ fun k : ((s : Str) × Fin (hops s)) => Φ (p, k))
      = iprop((row Φ p (false, false) ∗ row Φ p (false, true)) ∗ (row Φ p (true, false) ∗ row Φ p (true, true))) := by
    rw [bigSep_univ_equiv (Equiv.ofBijective hopMap hopMap_bij), bigSep_univ_sum, bigSep_univ_sum, bigSep_univ_sum]
    rfl
  rw [bigSep_univ_prod, fam_bool, e, e]

/-! ## Blocks -/

def ringMap (a b : ℕ) : Unit ⊕ (Fin a ⊕ Fin b) → Fin 32
  | .inl _ => 0
  | .inr (.inl j) => off true (j.val + 1)
  | .inr (.inr j) => off false (j.val + 1)

theorem ringMap_bij : ∀ st : Bool, Function.Bijective (ringMap (hops (st, false)) (hops (st, true))) := by decide +kernel

/-- Around the ring from a device: itself, the devices one direction's hops come from, and the other's. -/
theorem fam_ring (st : Bool) (Φ : Fin 32 → sProp 𝕄) : bigSep Finset.univ Φ
    = iprop(Φ 0 ∗ (bigSep Finset.univ fun j : Fin (hops (st, false)) => Φ (agX (st, false) (j.val + 1)))
      ∗ bigSep Finset.univ fun j : Fin (hops (st, true)) => Φ (agX (st, true) (j.val + 1))) := by
  rw [bigSep_univ_equiv (Equiv.ofBijective _ (ringMap_bij st)), bigSep_univ_sum, bigSep_univ_sum,
    bigSep_univ_of_subsingleton (I := Unit) ()]
  rfl

/-- Counting places from one of them. -/
def turn (q : Fin 32) : Fin 32 ≃ Fin 32 where
  toFun x := q + x
  invFun x := x - q
  left_inv := (by decide +kernel : ∀ q x : Fin 32, q + x - q = x) q
  right_inv := (by decide +kernel : ∀ q x : Fin 32, q + (x - q) = x) q

/-- All blocks, those of either half apart and counted from a device's own place. -/
theorem fam_blocks (q : Fin 32) (Φ : Fin 32 → Bool → sProp 𝕄) : (bigSep Finset.univ fun b : Fin 32 × Bool => Φ b.1 b.2)
    = bigSep Finset.univ fun x : Fin 32 => iprop(Φ (q + x) false ∗ Φ (q + x) true) := by
  rw [bigSep_univ_prod, bigSep_univ_equiv (turn q)]
  exact bigSep_congr fun x _ => fam_bool _

end Cert.KernelIdeal.Ring
-- ==== Proof.FinalIdeal.lean ====
/-
  The state after the last step: the result's buffer holds every device's block, the scratch buffers are whole again, and
  every cell is at its end.
-/
module

public import proofs.«01_k».proof.Proof.FamIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32) (c : Dev nD)

/-! ## What is done at the end -/

theorem fin_wait : ∀ h : Hp, fin (.wait h.1 h.2.1 h.2.2) = true := by decide +kernel
theorem fin_start : ∀ h : Hp, fin (.start h.1 h.2.1 h.2.2) = true := by decide +kernel
theorem fin_done : ∀ h : Hp, fin (.done h.1 h.2.1 h.2.2) = true := by decide +kernel
theorem fin_next : ∀ h : Hp, fin (.start h.1 h.2.1 (h.2.2 + 1)) = decide (h.2.2 + 1 < hops h.2.1) := by decide +kernel
theorem fin_add : ∀ s : Str, fin (.add s (hops s - 1)) = false := by decide +kernel
theorem fin_barrier : fin .barrier = true := by decide +kernel
theorem fin_own : ∀ st, fin (.own st) = true := by decide +kernel
theorem fin_piece : ∀ x, fin (.piece x) = true := by decide +kernel
theorem fin_lent : ∀ x st, lent fin x st = (decide (x = off false (hops (st, false))) || decide (x = off true (hops (st, true)))) := by
  decide +kernel
theorem fin_begun : ∀ st d, fin (.start true (st, d) 0) = true := by decide +kernel

/-! ## The result -/

/-- The whole result: block by block, each device's own. -/
def outV : Vec F S2048x2048 .f32 := fun i =>
  finV X Wt (decide (1024 ≤ (i 1).val)) (devT ⟨(i 0).val / 64, by have h : (i 0).val < 2048 := (i 0).isLt; omega⟩)
    (fun a => match a with
      | ⟨0, _⟩ => (⟨(i 0).val % 64, Nat.mod_lt _ (by decide)⟩ : Fin 64)
      | ⟨1, _⟩ => (⟨(i 1).val % 1024, Nat.mod_lt _ (by decide)⟩ : Fin 1024))

theorem outV_block (q : Fin 32) (st : Bool) : (fun i => outV X Wt ((blkRect q st).emb i)) = finV X Wt st (devT q) := by
  funext i
  have h0 : (i 0).val < 64 := (i 0).isLt
  have h1 : (i 1).val < 1024 := (i 1).isLt
  have e0 : ((blkRect q st).emb i 0).val = 64 * q.val + (i 0).val := by rw [Rect.emb_apply]; show 64 * q.val + 1 * (i 0).val = _; omega
  have e1 : ((blkRect q st).emb i 1).val = (if st then 1024 else 0) + (i 1).val := by
    rw [Rect.emb_apply]; show (if st then 1024 else 0) + 1 * (i 1).val = _; omega
  have a1 : decide (1024 ≤ ((blkRect q st).emb i 1).val) = st := by
    rw [e1]; cases st <;> simp <;> omega
  have a2 : ((blkRect q st).emb i 0).val / 64 = q.val := by rw [e0]; omega
  have a3 : ((blkRect q st).emb i 0).val % 64 = (i 0).val := by rw [e0]; omega
  have a4 : ((blkRect q st).emb i 1).val % 1024 = (i 1).val := by rw [e1]; split <;> omega
  unfold outV
  rw [a1, show (⟨((blkRect q st).emb i 0).val / 64, _⟩ : Fin 32) = q from Fin.ext a2]
  congr 1
  funext a
  match a with
  | ⟨0, _⟩ => exact Fin.ext a3
  | ⟨1, _⟩ => exact Fin.ext a4

/-- The result's block `x` places on. -/
abbrev outH (x : Fin 32) (st : Bool) : sProp 𝕄 := Holds c (cblk outM (posT c + x) st) fullShare (finV X Wt st (devT (posT c + x)))

/-- The two shares of a block make it whole. -/
theorem halves (m : Memref sig .tc .vmem S64x1024 .f32) (v : Vec F S64x1024 .f32) :
    iprop(Holds c m fullShare.left v ∗ Holds c m fullShare.right v) ⊢ Holds c m fullShare v := by
  have hj (f g : Buf (Elt F) (m.view.loc (c : Thread nD τ))) : iprop((m.view.loc (c : Thread nD τ) ↦[m.view.set]{fullShare.left} f)
      ∗ (m.view.loc (c : Thread nD τ) ↦[m.view.set]{fullShare.right} g)) ⊢ (m.view.loc (c : Thread nD τ) ↦[m.view.set]{fullShare} f : sProp 𝕄) := by
    iintro H
    ihave %h := (pointsTo_agree (ℓ := m.view.loc (c : Thread nD τ)) (I := m.view.set) (J := m.view.set) (f := f) (g := g)) $$ H
    icases H with ⟨H, H'⟩
    iapply (pointsTo_share (PosShare.mem_left_op_right fullShare)).2
    isplitl [H]; · iexact H
    iapply (Entails.of_eq (pointsTo_congr (f := g) (g := f) fun i hi => ((h i (Finset.mem_inter.mpr ⟨hi, hi⟩)).1).symm))
    iexact H'
  unfold Holds owns
  iintro ⟨⟨%f, %hf, H⟩, ⟨%g, -, H'⟩⟩
  iexists f
  isplitr; · ipureintro; exact hf
  iapply (hj f g)
  isplitl [H]; · iexact H
  iexact H'

/-! ## The two phases of a stream -/

theorem reg_last (p : Bool) (s : Str) : famReg X Wt c fin (p, ⟨s, ⟨hops s - 1, last_lt s⟩⟩) = recvPay X Wt (p, ⟨s, ⟨hops s - 1, last_lt s⟩⟩) c := by
  have e₁ := fin_wait (p, ⟨s, ⟨hops s - 1, last_lt s⟩⟩)
  have e₂ := fin_next (p, ⟨s, ⟨hops s - 1, last_lt s⟩⟩)
  have e₃ : (!p && fin (.add s (hops s - 1))) = false := by rw [fin_add, Bool.and_false]
  dsimp only at e₁ e₂
  unfold famReg
  dsimp only
  rw [fin_barrier, e₁, e₂, e₃, decide_eq_false (by have := hops_pos s; omega)]
  rfl

/-- The sums' sources come back as the first block lent and, with the last slot, all slots. -/
theorem sums_back (s : Str) : iprop(row (fun h => sendPay X Wt h c) false s ∗ row (famReg X Wt c fin) false s)
    ⊢ iprop(Free c (cblk partM (posT c + off s.2 (hops s)) s.1) ∗ bigSep Finset.univ fun j : Fin (hops s) => Free c (slot s j j.isLt)) := by
  have h := fam_shift (F := F) (hops_pos s) (fun j => sendPay X Wt (false, ⟨s, j⟩) c) (fun j => famReg X Wt c fin (false, ⟨s, j⟩))
    (fun j => Free c (slot s j j.isLt))
    (fun j hj => by
      show Holds c (slot s j (Nat.lt_of_succ_lt hj)) (shQ false s (j + 1)) _ ⊢ _
      rw [shQ_false]
      exact holds_free c _ _)
    (by
      rw [reg_last]
      exact holds_free c _ _)
  have h₀ : sendPay X Wt (false, ⟨s, ⟨0, hops_pos s⟩⟩) c ⊢ Free c (cblk partM (posT c + off s.2 (hops s)) s.1) := by
    show Holds c _ (shQ false s 0) _ ⊢ _
    rw [shQ_false]
    exact holds_free c _ _
  unfold row
  iintro H
  ihave H := h $$ H
  icases H with ⟨H0, H⟩
  isplitl [H0]; · iapply h₀; iexact H0
  iexact H

/-- The results' sources come back as a share of the own block and, with what landed last, every block passed on. -/
theorem results_back (s : Str) : iprop(row (fun h => sendPay X Wt h c) true s ∗ row (famReg X Wt c fin) true s)
    ⊢ iprop(Holds c (cblk outM (posT c + 0) s.1) (shQ true s 0) (finV X Wt s.1 (devT (posT c + 0)))
        ∗ bigSep Finset.univ fun j : Fin (hops s) => outH X Wt c (agX s (j.val + 1)) s.1) := by
  have e₀ : agX s 0 = 0 := by obtain ⟨_ | _, _ | _⟩ := s <;> rfl
  have h := fam_shift (F := F) (hops_pos s) (fun j => sendPay X Wt (true, ⟨s, j⟩) c) (fun j => famReg X Wt c fin (true, ⟨s, j⟩))
    (fun j => outH X Wt c (agX s (j.val + 1)) s.1)
    (fun j hj => by
      show Holds c (cblk outM (posT c + agX s (j + 1)) s.1) (shQ true s (j + 1)) _ ⊢ _
      rw [shQ_later]
      exact .rfl)
    (by
      rw [reg_last]
      show Holds c (cblk outM (posT c + off (!s.2) (hops s - 1 + 1)) s.1) fullShare
        (finV X Wt s.1 (devT (posT (nbr (!s.2) c) + off (!s.2) (hops s - 1)))) ⊢ _
      rw [land_q c s (hops s - 1) (lt_trans (last_lt s) (hops_lt s))])
  have h₀ : sendPay X Wt (true, ⟨s, ⟨0, hops_pos s⟩⟩) c ⊢ Holds c (cblk outM (posT c + 0) s.1) (shQ true s 0) (finV X Wt s.1 (devT (posT c + 0))) := by
    show Holds c (cblk outM (posT c + agX s 0) s.1) (shQ true s 0) (finV X Wt s.1 (devT (posT c + agX s 0))) ⊢ _
    rw [e₀]
  unfold row
  iintro H
  ihave H := h $$ H
  icases H with ⟨H0, H⟩
  isplitl [H0]; · iapply h₀; iexact H0
  iexact H

/-- The results of both directions are a half of the result. -/
theorem half_back (st : Bool) :
    iprop((row (fun h => sendPay X Wt h c) true (st, false) ∗ row (famReg X Wt c fin) true (st, false))
        ∗ (row (fun h => sendPay X Wt h c) true (st, true) ∗ row (famReg X Wt c fin) true (st, true)))
      ⊢ bigSep Finset.univ fun x => outH X Wt c x st := by
  iintro ⟨H0, H1⟩
  ihave H0 := (results_back X Wt c (st, false)) $$ H0
  ihave H1 := (results_back X Wt c (st, true)) $$ H1
  icases H0 with ⟨Ha, H0⟩
  icases H1 with ⟨Hb, H1⟩
  iapply (Entails.of_eq (fam_ring st fun x => outH X Wt c x st).symm)
  isplitl [Ha Hb]
  · iapply (halves c (cblk outM (posT c + 0) st) (finV X Wt st (devT (posT c + 0))))
    isplitl [Ha]; · iexact Ha
    iexact Hb
  isplitl [H0]; · iexact H0
  iexact H1

/-- A half of the products, with the two blocks that were lent. -/
theorem part_back (st : Bool) :
    iprop((bigSep Finset.univ fun x => prtH X Wt c x st (lent fin x st)) ∗ Free c (cblk partM (posT c + off false (hops (st, false))) st)
        ∗ Free c (cblk partM (posT c + off true (hops (st, true))) st))
      ⊢ bigSep Finset.univ fun x => Free c (cblk partM (posT c + x) st) :=
  fam_fill (fun x => Free c (cblk partM (posT c + x) st)) (fun x => prtH X Wt c x st (lent fin x st)) (off false (hops (st, false)))
    (off true (hops (st, true))) ((by decide : ∀ st : Bool, off false (hops (st, false)) ≠ off true (hops (st, true))) st)
    (fun k h₀ h₁ => by
      rw [fin_lent, decide_eq_false h₀, decide_eq_false h₁]
      exact holds_free c _ _)

/-- What the device holds at the end. -/
def atEnd : sProp 𝕄 :=
  iprop(((c : Thread nD τ).loc cc0_stg4_0 ↦{fullShare} outV X Wt)
    ∗ (bigSep Finset.univ fun b : Fin 32 × Bool => Free c (cblk partM b.1 b.2))
    ∗ ((bigSep Finset.univ fun j : Fin (hops (false, false)) => Free c (slot (false, false) j j.isLt))
      ∗ (bigSep Finset.univ fun j : Fin (hops (false, true)) => Free c (slot (false, true) j j.isLt))
      ∗ (bigSep Finset.univ fun j : Fin (hops (true, false)) => Free c (slot (true, false) j j.isLt))
      ∗ (bigSep Finset.univ fun j : Fin (hops (true, true)) => Free c (slot (true, true) j j.isLt)))
    ∗ (bigSep Finset.univ fun h : Hp => iprop(atPos ER (recvC h c) 1 ∅ 0)) ∗ (bigSep Finset.univ fun h : Hp => iprop(atPos ER (sendC h c) 1 ∅ 0))
    ∗ atPos ER (barC c) 1 ∅ 0 ∗ xPts X c ∗ wPts Wt c ∗ ∃ W, owes (c : Thread nD τ) 0 W)

/-- The state after the last step, put together. -/
theorem inv_end [∀ e, Nonempty (Elt F e)] : Inv X Wt c fin [] ⊢ atEnd X Wt c := by
  have eP : famPos (F := F) c fin = fun h => iprop(atPos ER (recvC h c) 1 ∅ 0) := by
    funext h; unfold famPos; rw [fin_wait h]; rfl
  have eH : bigSep Finset.univ (famHop X Wt c fin)
      = iprop((bigSep Finset.univ fun h : Hp => iprop(atPos ER (sendC h c) 1 ∅ 0)) ∗ bigSep Finset.univ fun h => sendPay X Wt h c) := by
    refine Eq.trans ?_ (bigSep_sep Finset.univ (fun h : Hp => iprop(atPos ER (sendC h c) 1 ∅ 0)) fun h => sendPay X Wt h c)
    exact bigSep_congr fun h _ => by unfold famHop; rw [fin_start h, fin_done h]; rfl
  have eT : bigSep Finset.univ (famPrt X Wt c fin)
      = iprop((bigSep Finset.univ fun x => prtH X Wt c x false (lent fin x false)) ∗ bigSep Finset.univ fun x => prtH X Wt c x true (lent fin x true)) := by
    refine Eq.trans ?_ (bigSep_sep Finset.univ (fun x => prtH X Wt c x false (lent fin x false)) fun x => prtH X Wt c x true (lent fin x true))
    exact bigSep_congr fun x _ => by unfold famPrt; rw [fin_piece x]; rfl
  have eB : barB (F := F) c (fin .barrier) = atPos ER (barC c) 1 ∅ 0 := by rw [fin_barrier]; rfl
  have eOut : iprop((bigSep Finset.univ fun x => outH X Wt c x false) ∗ bigSep Finset.univ fun x => outH X Wt c x true)
      ⊢ ((c : Thread nD τ).loc cc0_stg4_0 ↦{fullShare} outV X Wt : sProp 𝕄) := by
    have e : (bigSep Finset.univ fun b : Fin 32 × Bool => Holds c (cblk outM b.1 b.2) fullShare (fun i => outV X Wt ((blkRect b.1 b.2).emb i)))
        = iprop((bigSep Finset.univ fun x => outH X Wt c x false) ∗ bigSep Finset.univ fun x => outH X Wt c x true) := by
      rw [bigSep_congr fun b _ => congrArg (Holds c (cblk outM b.1 b.2) fullShare) (outV_block X Wt b.1 b.2),
        fam_blocks (posT c) fun q st => Holds c (cblk outM q st) fullShare (finV X Wt st (devT q))]
      exact bigSep_sep Finset.univ (fun x => outH X Wt c x false) fun x => outH X Wt c x true
    exact (Entails.of_eq e.symm).trans (blocks_out c (outV X Wt))
  have ePart : (bigSep Finset.univ fun b : Fin 32 × Bool => (Free c (cblk partM b.1 b.2) : sProp 𝕄))
      = iprop((bigSep Finset.univ fun x => Free c (cblk partM (posT c + x) false)) ∗ bigSep Finset.univ fun x => Free c (cblk partM (posT c + x) true)) := by
    rw [fam_blocks (posT c) fun q st => Free c (cblk partM q st)]
    exact bigSep_sep Finset.univ (fun x => Free c (cblk partM (posT c + x) false)) fun x => Free c (cblk partM (posT c + x) true)
  unfold Inv atEnd
  rw [eP]
  iintro ⟨HP, HR, HH, -, HT, HB, Hx, Hw, HL⟩
  ihave HR := (Entails.of_eq (fam_hops (famReg X Wt c fin))) $$ HR
  icases HR with ⟨⟨⟨R0, R1⟩, ⟨R2, R3⟩⟩, ⟨⟨Q0, Q1⟩, ⟨Q2, Q3⟩⟩⟩
  ihave HH := (Entails.of_eq eH) $$ HH
  icases HH with ⟨HH, HS⟩
  ihave HS := (Entails.of_eq (fam_hops fun h => sendPay X Wt h c)) $$ HS
  icases HS with ⟨⟨⟨S0, S1⟩, ⟨S2, S3⟩⟩, ⟨⟨T0, T1⟩, ⟨T2, T3⟩⟩⟩
  ihave HT := (Entails.of_eq eT) $$ HT
  icases HT with ⟨P0, P1⟩
  ihave A0 := (sums_back X Wt c (false, false)) $$ [R0 S0]
  · isplitl [S0]; · iexact S0
    iexact R0
  ihave A1 := (sums_back X Wt c (false, true)) $$ [R1 S1]
  · isplitl [S1]; · iexact S1
    iexact R1
  ihave A2 := (sums_back X Wt c (true, false)) $$ [R2 S2]
  · isplitl [S2]; · iexact S2
    iexact R2
  ihave A3 := (sums_back X Wt c (true, true)) $$ [R3 S3]
  · isplitl [S3]; · iexact S3
    iexact R3
  icases A0 with ⟨F0, A0⟩
  icases A1 with ⟨F1, A1⟩
  icases A2 with ⟨F2, A2⟩
  icases A3 with ⟨F3, A3⟩
  isplitl [Q0 Q1 Q2 Q3 T0 T1 T2 T3]
  · iapply eOut
    isplitl [Q0 Q1 T0 T1]
    · iapply (half_back X Wt c false)
      isplitl [Q0 T0]
      · isplitl [T0]; · iexact T0
        iexact Q0
      · isplitl [T1]; · iexact T1
        iexact Q1
    · iapply (half_back X Wt c true)
      isplitl [Q2 T2]
      · isplitl [T2]; · iexact T2
        iexact Q2
      · isplitl [T3]; · iexact T3
        iexact Q3
  isplitl [P0 P1 F0 F1 F2 F3]
  · iapply (Entails.of_eq ePart.symm)
    isplitl [P0 F0 F1]
    · iapply (part_back X Wt c false)
      isplitl [P0]; · iexact P0
      isplitl [F0]; · iexact F0
      iexact F1
    · iapply (part_back X Wt c true)
      isplitl [P1]; · iexact P1
      isplitl [F2]; · iexact F2
      iexact F3
  isplitl [A0 A1 A2 A3]
  · isplitl [A0]; · iexact A0
    isplitl [A1]; · iexact A1
    isplitl [A2]; · iexact A2
    iexact A3
  isplitl [HP]; · iexact HP
  isplitl [HH]; · iexact HH
  isplitl [HB]; · iapply (Entails.of_eq eB); iexact HB
  isplitl [Hx]; · iexact Hx
  isplitl [Hw]; · iexact Hw
  iexact HL

end Cert.KernelIdeal.Ring
-- ==== Proof.InitIdeal.lean ====
/-
  The state before the first step, from what a device starts with: its buffers at contents not chosen, its cells at
  their first round, the duties it has to pay and the units it is promised.
-/
module

public import proofs.«01_k».proof.Proof.FinalIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32) (c : Dev nD)

/-- The device's own hop cells, at their first round. -/
def opened : sProp 𝕄 :=
  iprop((bigSep Finset.univ fun h : Hp => iprop(atPos ER (recvC h c) 0 ∅ 0)) ∗ (bigSep Finset.univ fun h : Hp => iprop(reached ER (recvC h c) 0))
    ∗ (bigSep Finset.univ fun h : Hp => iprop(atPos ER (sendC h c) 0 ∅ 0)) ∗ bigSep Finset.univ fun h : Hp => iprop(reached ER (sendC h c) 0))

/-- The duties of the hops it sends. -/
def duties : sProp 𝕄 :=
  iprop((bigSep Finset.univ fun h : Hp => iprop(dutyTok ER (sendC h c) 0 false))
    ∗ bigSep Finset.univ fun h : Hp => iprop(dutyTok ER (recvC h (toD h c)) 0 false))

/-- The units its arrivals are promised. -/
def promised : sProp 𝕄 := bigSep Finset.univ fun h : Hp => cred (tallyAt (recvC h c) () NN)

/-- The scratch buffers, at contents not chosen. -/
def scratch : sProp 𝕄 :=
  iprop((∃ f : Buf (Elt F) ((c : Thread nD τ).loc cc0_scratch0), (c : Thread nD τ).loc cc0_scratch0 ↦[Finset.univ]{fullShare} f)
    ∗ rsAny c (false, false) ∗ rsAny c (false, true) ∗ rsAny c (true, false) ∗ rsAny c (true, true))

/-- What a device starts with. -/
def atStart : sProp 𝕄 :=
  iprop((∃ f : Buf (Elt F) ((c : Thread nD τ).loc cc0_stg4_0), (c : Thread nD τ).loc cc0_stg4_0 ↦[Finset.univ]{fullShare} f)
    ∗ scratch c ∗ opened c ∗ duties c ∗ promised c ∗ barB c false ∗ xPts X c ∗ wPts Wt c ∗ ∃ W, owes (c : Thread nD τ) (owedOf c acts) W)

/-- The places of one half of the result: the device's own, and those its arrivals land in. -/
theorem out_places (st : Bool) : (bigSep Finset.univ fun x : Fin 32 => (Free c (cblk outM (posT c + x) st) : sProp 𝕄))
    = iprop(Free c (cblk outM (posT c) st) ∗ row (fun h => Free c (landM h c)) true (st, false) ∗ row (fun h => Free c (landM h c)) true (st, true)) := by
  have e : posT c + 0 = posT c := by simp
  rw [fam_ring st fun x => Free c (cblk outM (posT c + x) st), e]
  rfl

/-- A landing buffer's slots are the places its stream's arrivals land in. -/
theorem slots_row (s : Str) : (rsAny c s : sProp 𝕄) ⊢ row (fun h => Free c (landM h c)) false s :=
  rs_slots c s

/-- The state before the first step, put together. -/
theorem inv_begin : atStart X Wt c ⊢ Inv X Wt c (bits 0) acts := by
  have z : bits 0 = fun _ => false := bits_zero
  have eP : bigSep Finset.univ (famPos (F := F) c fun _ => false)
      = iprop((bigSep Finset.univ fun h : Hp => iprop(atPos ER (recvC h c) 0 ∅ 0)) ∗ promised c) :=
    bigSep_sep Finset.univ (fun h : Hp => iprop(atPos ER (recvC h c) 0 ∅ 0)) fun h => cred (tallyAt (recvC h c) () NN)
  have eR : bigSep Finset.univ (famReg X Wt c fun _ => false)
      = iprop((bigSep Finset.univ fun h : Hp => Free c (landM h c)) ∗ bigSep Finset.univ fun h : Hp => iprop(reached ER (recvC h c) 0)) :=
    bigSep_sep Finset.univ (fun h : Hp => Free c (landM h c)) fun h => iprop(reached ER (recvC h c) 0)
  have eH : bigSep Finset.univ (famHop X Wt c fun _ => false)
      = iprop((bigSep Finset.univ fun h : Hp => iprop(atPos ER (sendC h c) 0 ∅ 0)) ∗ (bigSep Finset.univ fun h : Hp => iprop(reached ER (sendC h c) 0))
        ∗ (bigSep Finset.univ fun h : Hp => iprop(dutyTok ER (sendC h c) 0 false)) ∗ bigSep Finset.univ fun h : Hp => iprop(dutyTok ER (recvC h (toD h c)) 0 false)) := by
    refine Eq.trans (b := bigSep Finset.univ fun h : Hp => iprop(atPos ER (sendC h c) 0 ∅ 0 ∗ reached ER (sendC h c) 0
      ∗ dutyTok ER (sendC h c) 0 false ∗ dutyTok ER (recvC h (toD h c)) 0 false)) (bigSep_congr fun h _ => sep_emp_eq _) ?_
    refine (bigSep_sep Finset.univ (fun h : Hp => iprop(atPos ER (sendC h c) 0 ∅ 0))
      fun h => iprop(reached ER (sendC h c) 0 ∗ dutyTok ER (sendC h c) 0 false ∗ dutyTok ER (recvC h (toD h c)) 0 false)).trans ?_
    refine congrArg (fun P => iprop((bigSep Finset.univ fun h : Hp => iprop(atPos ER (sendC h c) 0 ∅ 0)) ∗ P)) ?_
    refine (bigSep_sep Finset.univ (fun h : Hp => iprop(reached ER (sendC h c) 0))
      fun h => iprop(dutyTok ER (sendC h c) 0 false ∗ dutyTok ER (recvC h (toD h c)) 0 false)).trans ?_
    refine congrArg (fun P => iprop((bigSep Finset.univ fun h : Hp => iprop(reached ER (sendC h c) 0)) ∗ P)) ?_
    exact bigSep_sep Finset.univ (fun h : Hp => iprop(dutyTok ER (sendC h c) 0 false)) fun h => iprop(dutyTok ER (recvC h (toD h c)) 0 false)
  have eO : bigSep Finset.univ (famOwn X Wt c fun _ => false) = iprop(Free c (cblk outM (posT c) false) ∗ Free c (cblk outM (posT c) true)) :=
    fam_bool _
  have eT : (bigSep Finset.univ fun b : Fin 32 × Bool => (Free c (cblk partM b.1 b.2) : sProp 𝕄)) = bigSep Finset.univ (famPrt X Wt c fun _ => false) :=
    fam_blocks (posT c) fun q st => Free c (cblk partM q st)
  have eF : (bigSep Finset.univ fun b : Fin 32 × Bool => (Free c (cblk outM b.1 b.2) : sProp 𝕄))
      = iprop((bigSep Finset.univ fun x => Free c (cblk outM (posT c + x) false)) ∗ bigSep Finset.univ fun x => Free c (cblk outM (posT c + x) true)) := by
    rw [fam_blocks (posT c) fun q st => Free c (cblk outM q st)]
    exact bigSep_sep Finset.univ (fun x => Free c (cblk outM (posT c + x) false)) fun x => Free c (cblk outM (posT c + x) true)
  rw [z]
  unfold atStart Inv scratch opened duties
  iintro ⟨Hout, ⟨Hprt, H0, H1, H2, H3⟩, ⟨HaR, HrR, HaS, HrS⟩, ⟨HtS, HtR⟩, Hpr, Hb, Hx, Hw, HO⟩
  ihave Ho := (out_blocks c) $$ Hout
  ihave Ho := (Entails.of_eq eF) $$ Ho
  icases Ho with ⟨Hf, Ht⟩
  ihave Hf := (Entails.of_eq (out_places c false)) $$ Hf
  ihave Ht := (Entails.of_eq (out_places c true)) $$ Ht
  icases Hf with ⟨Of, Q0, Q1⟩
  icases Ht with ⟨Ot, Q2, Q3⟩
  ihave R0 := (slots_row c (false, false)) $$ H0
  ihave R1 := (slots_row c (false, true)) $$ H1
  ihave R2 := (slots_row c (true, false)) $$ H2
  ihave R3 := (slots_row c (true, true)) $$ H3
  isplitl [HaR Hpr]
  · iapply (Entails.of_eq eP.symm)
    isplitl [HaR]; · iexact HaR
    iexact Hpr
  isplitl [R0 R1 R2 R3 Q0 Q1 Q2 Q3 HrR]
  · iapply (Entails.of_eq eR.symm)
    isplitr [HrR]
    · iapply (Entails.of_eq (fam_hops fun h => Free c (landM h c)).symm)
      isplitl [R0 R1 R2 R3]
      · isplitl [R0 R1]
        · isplitl [R0]; · iexact R0
          iexact R1
        · isplitl [R2]; · iexact R2
          iexact R3
      · isplitl [Q0 Q1]
        · isplitl [Q0]; · iexact Q0
          iexact Q1
        · isplitl [Q2]; · iexact Q2
          iexact Q3
    · iexact HrR
  isplitl [HaS HrS HtS HtR]
  · iapply (Entails.of_eq eH.symm)
    isplitl [HaS]; · iexact HaS
    isplitl [HrS]; · iexact HrS
    isplitl [HtS]; · iexact HtS
    iexact HtR
  isplitl [Of Ot]
  · iapply (Entails.of_eq eO.symm)
    isplitl [Of]; · iexact Of
    iexact Ot
  isplitl [Hprt]
  · iapply (Entails.of_eq eT)
    iapply (part_blocks c); iexact Hprt
  isplitl [Hb]; · iexact Hb
  isplitl [Hx]; · iexact Hx
  isplitl [Hw]; · iexact Hw
  iexact HO

end Cert.KernelIdeal.Ring
-- ==== Proof.BodyIdeal.lean ====
/-
  The whole body of a device: it reads its place on the ring and its two neighbours from the two tables, runs the steps,
  and, all rounds past, gives every semaphore back at zero.
-/
module

public import proofs.«01_k».proof.Proof.InitIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

variable (X : Dev nD → Vec F S2048x64 .f32) (Wt : Dev nD → Vec F S64x2048 .f32) (K : GSem nD τ sig → ℕ) (c : Dev nD)

/-! ## The tables -/

/-- The order of the devices on the ring, and each device's place in it. -/
def permV : Vec F S32 .i32 := fun i => lit0 (S32.rowMajor i)
def invV : Vec F S32 .i32 := fun i => lit1 (S32.rowMajor i)

abbrev permPts : sProp 𝕄 := (permM.view.loc (c : Thread nD τ)) ↦[Finset.univ]{fullShare} permV
abbrev invPts : sProp 𝕄 := (invM.view.loc (c : Thread nD τ)) ↦[Finset.univ]{fullShare} invV

/-- The one word of a rectangle of one element. -/
abbrev word (f : Vec F S32 .i32) (o : Fin 1 → ℕ) (h : ∀ a, o a + S1.size a ≤ S32.size a) : BitVec 32 :=
  f ((Rect.unit (s := S32) o S1.size h).emb (Shape.Idx.first (s := S1) (numel1_S1.symm ▸ Nat.one_pos)))

/-- The rectangle of one element at `q` holds the element `q`. -/
theorem word_lit (t : Fin 32 → BitVec 32) (q : Fin 32) (o : Fin 1 → ℕ) (ho : o 0 = q.val) (h : ∀ a, o a + S1.size a ≤ S32.size a) :
    word (F := F) (fun i => t (S32.rowMajor i)) o h = t q := by
  show t _ = t q
  refine congrArg t (Fin.ext ?_)
  obtain rfl : o = ![q.val] := funext fun a => by fin_cases a; exact ho
  have e : ∀ q : Fin 32, ∀ h : (∀ a, (![q.val] : Fin 1 → ℕ) a + S1.size a ≤ S32.size a),
      (S32.rowMajor ((Rect.unit (s := S32) ![q.val] S1.size h).emb (Shape.Idx.first (s := S1) (numel1_S1.symm ▸ Nat.one_pos)))).val = q.val := by
    decide +kernel
  exact e q h

theorem off_word1 : ∀ c : Dev nD, k0_off1 c 0 = c.val := by decide +kernel
theorem off_word2 : ∀ c : Dev nD, k0_off2 (v4T c) 33#32 0 = (posT c + 1).val := by decide +kernel
theorem off_word3 : ∀ c : Dev nD, k0_off2 (v4T c) 31#32 0 = (posT c + 31).val := by decide +kernel

theorem lit1_pos : ∀ c : Dev nD, lit1 c = v4T c := by decide +kernel
theorem lit0_dev : ∀ q : Fin 32, lit0 q = BitVec.ofNat 32 (devT q).val := by decide +kernel

theorem word1 (h) : word (F := F) invV (k0_off1 c) h = v4T c :=
  (word_lit lit1 c (k0_off1 c) (off_word1 c) h).trans (lit1_pos c)
theorem word2 (h) : word (F := F) permV (k0_off2 (v4T c) 33#32) h = v8T c :=
  (word_lit lit0 (posT c + 1) (k0_off2 (v4T c) 33#32) (off_word2 c) h).trans (lit0_dev _)
theorem word3 (h) : word (F := F) permV (k0_off2 (v4T c) 31#32) h = v12T c :=
  (word_lit lit0 (posT c + 31) (k0_off2 (v4T c) 31#32) (off_word3 c) h).trans (lit0_dev _)

/-- A word read from a table, by itself. -/
theorem ldWord {ℓ : Type} (m : Memref sig .tc .smem S32 .i32) (o : Fin 1 → ℕ) (h : ∀ a, o a + S1.size a ≤ S32.size a) (v : BitVec 32)
    (f : Buf (Elt F) (m.view.loc (c : Thread nD τ)))
    (hv : (m.access (Rect.unit (s := S32) o S1.size h)).read (Elt F) f (Shape.Idx.first (s := S1) (numel1_S1.symm ▸ Nat.one_pos)) = v)
    (k : BitVec 32 → Prog (TpuEff nD τ sig (Elt F) Λ₀ .tc) ℓ) (Kt : ℓ → sProp 𝕄) :
    iprop((m.view.loc (c : Thread nD τ) ↦[Finset.univ]{fullShare} f)
        ∗ ((m.view.loc (c : Thread nD τ) ↦[Finset.univ]{fullShare} f) -∗ wp frame (wpE (defs₀ (F := F)) 𝒱₀ (c : Thread nD τ) none) Set.univ (k v) Kt))
      ⊢ wp frame (wpE (defs₀ (F := F)) 𝒱₀ (c : Thread nD τ) none) Set.univ
          (smemLoad m (Rect.unit (s := S32) o S1.size h) numel1_S1 rfl >>= k) Kt := by
  subst hv
  unfold smemLoad smemLoadElt
  iintro ⟨H, Hk⟩
  iapply (wp_load_rect 𝒱₀ (c : Thread nD τ) none Set.univ (m := m) (r := Rect.unit (s := S32) o S1.size h) (q := fullShare) (S := Finset.univ) (f := f)
    (Finset.subset_univ _)) $$ H
  iintro H
  iapply Hk; iexact H

/-- A check that holds, by itself. -/
theorem assumed {ℓ : Type} (p : Prop) (d : Decidable p) (h : p) (k : PLift p → Prog (TpuEff nD τ sig (Elt F) Λ₀ .tc) ℓ) (Kt : ℓ → sProp 𝕄) :
    wp frame (wpE (defs₀ (F := F)) 𝒱₀ (c : Thread nD τ) none) Set.univ (k ⟨h⟩) Kt
      ⊢ wp frame (wpE (defs₀ (F := F)) 𝒱₀ (c : Thread nD τ) none) Set.univ (Prog.lift (TpuEff.assume p d) >>= k) Kt := by
  unfold Prog.lift
  exact Entails.of_eq (wp_assume_of 𝒱₀ (c : Thread nD τ) none Set.univ (d := d) h).symm

/-- The body is the steps, once its three words are read. -/
theorem body_words (Kt : PUnit → sProp 𝕄) :
    iprop(permPts c ∗ invPts c ∗ (permPts c ∗ invPts c -∗ WP c (run (wd c) steps) Kt)) ⊢ WP c (body (F := F)) Kt := by
  unfold body WP
  iintro ⟨Hp, Hi, Hk⟩
  iapply (Entails.of_eq (wp_deviceId (defs := defs₀ (F := F)) 𝒱₀ (c : Thread nD τ) none Set.univ).symm)
  iapply (ldWord (F := F) c invM (k0_off1 c) (k0_off1_inb c) (v4T c) invV (word1 (F := F) c (k0_off1_inb c)))
  isplitl [Hi]; · iexact Hi
  iintro Hi
  iapply (assumed c (k0_chk1 (v4T c)) (k0_chk1.dec (v4T c)) (h1T c))
  iapply (ldWord (F := F) c permM (k0_off2 (v4T c) 33#32) (k0_off2_inb (v4T c) (h1T c) 1) (v8T c) permV (word2 (F := F) c (k0_off2_inb (v4T c) (h1T c) 1)))
  isplitl [Hp]; · iexact Hp
  iintro Hp
  iapply (assumed c (k0_chk2 (v8T c)) (k0_chk2.dec (v8T c)) (h2T c))
  iapply (ldWord (F := F) c permM (k0_off2 (v4T c) 31#32) (k0_off2_inb (v4T c) (h1T c) 0) (v12T c) permV (word3 (F := F) c (k0_off2_inb (v4T c) (h1T c) 0)))
  isplitl [Hp]; · iexact Hp
  iintro Hp
  iapply (assumed c (k0_chk3 (v12T c)) (k0_chk3.dec (v12T c)) (h3T c))
  iapply Hk
  isplitl [Hp]; · iexact Hp
  iexact Hi

/-! ## The end -/

/-- The device's semaphores, at zero. -/
def semsZero : sProp 𝕄 :=
  iprop((bigSep Finset.univ fun h : Hp => (semVal (recvC h c) 0 : sProp 𝕄)) ∗ (bigSep Finset.univ fun h : Hp => (semVal (sendC h c) 0 : sProp 𝕄)))

/-- What a device ends with. -/
def atClose : sProp 𝕄 :=
  iprop(((c : Thread nD τ).loc cc0_stg4_0 ↦{fullShare} outV X Wt) ∗ scratch c ∗ semsZero c ∗ semVal (barC c) 0
    ∗ xPts X c ∗ wPts Wt c ∗ ∃ W, owes (c : Thread nD τ) 0 W)

/-- The hop cells of one side, closed. -/
theorem close_hops (r : Bool) : iprop(ctx X Wt K ∗ bigSep Finset.univ fun h : Hp => iprop(atPos ER (cellH r h c) 1 ∅ 0))
    ⊢ (|={Set.univ}=> bigSep Finset.univ fun h : Hp => (semVal (cellH r h c) 0 : sProp 𝕄)) := by
  refine (bigSep_with_persistent (Ψ := fun h : Hp => iprop(|={Set.univ}=> (semVal (cellH r h c) 0 : sProp 𝕄))) fun h _ => ?_).trans (bigSep_fupd _ _)
  have e : iprop(ctx X Wt K ∗ atPos ER (cellH r h c) 1 ∅ 0) ⊢ iprop(|={Set.univ}=> (semVal (cellH r h c) 0 : sProp 𝕄)) :=
    (sep_mono_left (ctx_hop X Wt K r h c)).trans
      (cell_close ER (rd X Wt) (Set.mem_univ (K (cellH r h c))) (fun h => h) (R := 0 + 1) (duties_later X Wt (cellH r h c)))
  exact e

/-- Everything given back at the end. -/
theorem closed [∀ e, Nonempty (Elt F e)] : iprop(ctx X Wt K ∗ atEnd X Wt c) ⊢ iprop(|={Set.univ}=> (atClose X Wt c : sProp 𝕄)) := by
  have eR := close_hops X Wt K c true
  have eS := close_hops X Wt K c false
  have eB : iprop(ctx X Wt K ∗ atPos ER (barC c) 1 ∅ 0) ⊢ iprop(|={Set.univ}=> (semVal (barC c) 0 : sProp 𝕄)) :=
    (sep_mono_left (ctx_bar X Wt K c)).trans
      (cell_close ER (rd X Wt) (Set.mem_univ (K (barC c))) (fun h => h) (R := 0 + 1) (duties_later X Wt (barC c)))
  unfold atEnd atClose scratch semsZero
  iintro ⟨#Hc, Hout, Hprt, ⟨H0, H1, H2, H3⟩, HR, HS, HB, Hx, Hw, HO⟩
  imod eR $$ [HR] with HR
  · isplitr; · iexact Hc
    iexact HR
  imod eS $$ [HS] with HS
  · isplitr; · iexact Hc
    iexact HS
  imod eB $$ [HB] with HB
  · isplitr; · iexact Hc
    iexact HB
  imodintro
  isplitl [Hout]; · iexact Hout
  isplitl [Hprt H0 H1 H2 H3]
  · isplitl [Hprt]
    · iapply (blocks_part c fun _ => Classical.choice inferInstance); iexact Hprt
    isplitl [H0]
    · iapply (slots_rs c (false, false) fun _ => Classical.choice inferInstance); iexact H0
    isplitl [H1]
    · iapply (slots_rs c (false, true) fun _ => Classical.choice inferInstance); iexact H1
    isplitl [H2]
    · iapply (slots_rs c (true, false) fun _ => Classical.choice inferInstance); iexact H2
    iapply (slots_rs c (true, true) fun _ => Classical.choice inferInstance); iexact H3
  isplitl [HR HS]
  · isplitl [HR]; · iexact HR
    iexact HS
  isplitl [HB]; · iexact HB
  isplitl [Hx]; · iexact Hx
  isplitl [Hw]; · iexact Hw
  iexact HO

/-- The whole body, from what a device starts with to what it ends with. -/
theorem body_all [∀ e, Nonempty (Elt F e)] (Kt : PUnit → sProp 𝕄) :
    iprop(ctx X Wt K ∗ permPts c ∗ invPts c ∗ atStart X Wt c ∗ (permPts c ∗ invPts c ∗ atClose X Wt c -∗ Kt ⟨⟩)) ⊢ WP c (body (F := F)) Kt := by
  have e1 := run_all X Wt c K (fun u => iprop(|={Set.univ}=> Kt u)) steps 0 acts_ok
  iintro ⟨#Hc, Hp, Hi, Hs, Hk⟩
  iapply (body_words c Kt)
  isplitl [Hp]; · iexact Hp
  isplitl [Hi]; · iexact Hi
  iintro ⟨Hp, Hi⟩
  iapply wp_fupd
  iapply e1
  isplitr; · iexact Hc
  isplitl [Hs]
  · iapply (inv_begin X Wt c); iexact Hs
  iintro He
  ihave He := (show Inv X Wt c (bits (marks 0 (steps.map Step.act))) [] ⊢ atEnd X Wt c from inv_end X Wt c) $$ He
  imod (closed X Wt K c) $$ [He] with He
  · isplitr; · iexact Hc
    iexact He
  imodintro
  iapply Hk
  isplitl [Hp]; · iexact Hp
  isplitl [Hi]; · iexact Hi
  iexact He

end Cert.KernelIdeal.Ring
-- ==== Proof.BodyEqIdeal.lean ====
module
public import proofs.«01_k».proof.Proof.StepsIdeal
public import Idealize.ShloMosaic.Lib.Pipeline.Regions
@[expose] public section
noncomputable section
namespace Cert.KernelIdeal.Ring
open Idealize.ShloMosaic Idealize.SL.Sem Cert.KernelIdeal.Gen
variable {F : FTy → Type} [FloatOps F]

set_option maxRecDepth 1000000 in
set_option maxHeartbeats 0 in
/-- The printed body at its buffers is the run of the steps. -/
theorem cc0_body_eq_steps :
    cc0_body (F := F) xM (Memref.isWhole_whole _) wM (Memref.isWhole_whole _) permM (Memref.isWhole_whole _) invM (Memref.isWhole_whole _)
      outM (Memref.isWhole_whole _) partM (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9
      cc0_scratch10 cc0_scratch11 cc0_scratch12 cc0_scratch13 cc0_scratch14 cc0_scratch15 cc0_scratch16 cc0_scratch17 cc0_scratch18 cc0_scratch19 cc0_scratch20
      = body := by
  chain_rfl

end Cert.KernelIdeal.Ring
-- ==== Proof.DatIdeal.lean ====
/-
  The kernel's call as the pipeline's data: what its windows hold before and after the one point, and the body's obligation there.
-/
module

public import proofs.«01_k».proof.Proof.BodyIdeal
public import proofs.«01_k».proof.Proof.BodyEqIdeal
public import proofs.«01_k».proof.Proof.Gen.KernelIdeal.Frame

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The arrays and their blocks -/

/-- The device's part of `x` and of `w`. -/
abbrev xIn (c : Dev nD) : Vec F S2048x64 .f32 := m ((c : Thread nD τ).loc main_arg0)
abbrev wIn (c : Dev nD) : Vec F S64x2048 .f32 := m ((c : Thread nD τ).loc main_arg1)

/-- The arrays when the call is entered, and after it. -/
abbrev V₀ (c : Dev nD) : Valuation τ sig (Elt F) := fun b => m (c, b)
abbrev V₁ (c : Dev nD) : Valuation τ sig (Elt F) := StableHlo.after hostOps0 (V₀ m c)
def V₂ (c : Dev nD) : Valuation τ sig (Elt F) := Function.update (V₁ m c) (Proc.devRef .tc main_v1) (outV (xIn m) (wIn m))

/-- Every window's block is its whole array. -/
theorem read_blk0 (t : Fin cfg0.N) (f : Vec F S2048x64 .f32) : ((cfg0.win 0).blk t).view.read (Elt F) f = f := by
  obtain rfl := fin_N0 t
  funext i
  show f _ = f i
  refine congrArg f (funext fun a => Fin.ext ?_)
  fin_cases a <;> simp <;> rfl
theorem read_blk1 (t : Fin cfg0.N) (f : Vec F S64x2048 .f32) : ((cfg0.win 1).blk t).view.read (Elt F) f = f := by
  obtain rfl := fin_N0 t
  funext i
  show f _ = f i
  refine congrArg f (funext fun a => Fin.ext ?_)
  fin_cases a <;> simp <;> rfl
theorem read_blk2 (t : Fin cfg0.N) (f : Vec F S32 .i32) : ((cfg0.win 2).blk t).view.read (Elt F) f = f := by
  obtain rfl := fin_N0 t
  funext i
  show f _ = f i
  refine congrArg f (funext fun a => Fin.ext ?_)
  fin_cases a; simp; rfl
theorem read_blk3 (t : Fin cfg0.N) (f : Vec F S32 .i32) : ((cfg0.win 3).blk t).view.read (Elt F) f = f := by
  obtain rfl := fin_N0 t
  funext i
  show f _ = f i
  refine congrArg f (funext fun a => Fin.ext ?_)
  fin_cases a; simp; rfl
theorem read_blk4 (t : Fin cfg0.N) (f : Vec F S2048x2048 .f32) : ((cfg0.win 4).blk t).view.read (Elt F) f = f := by
  obtain rfl := fin_N0 t
  funext i
  show f _ = f i
  refine congrArg f (funext fun a => Fin.ext ?_)
  fin_cases a <;> simp <;> rfl

theorem write_blk4 (t : Fin cfg0.N) (f g : Vec F S2048x2048 .f32) : ((cfg0.win 4).blk t).view.write (Elt F) f g Finset.univ = g := by
  refine (read_blk4 t _).symm.trans ?_
  exact View.read_write_univ _ _

/-! ## What the arrays hold when the call is entered -/

theorem V₁_c (c : Dev nD) : V₁ m c (Proc.devRef .tc main_c) = (permV : Vec F S32 .i32) := by
  show StableHlo.after hostOps0 (V₀ m c) (Proc.devRef .tc main_c) = _
  rw [hostOps0, StableHlo.after_cons, StableHlo.after_cons, StableHlo.after_nil]
  rfl
theorem V₁_c_0 (c : Dev nD) : V₁ m c (Proc.devRef .tc main_c_0) = (invV : Vec F S32 .i32) := by
  show StableHlo.after hostOps0 (V₀ m c) (Proc.devRef .tc main_c_0) = _
  rw [hostOps0, StableHlo.after_cons, StableHlo.after_cons, StableHlo.after_nil]
  rfl

/-! ## The data -/

/-- Before the one point. -/
def Φ₀ (c : Dev nD) : sProp 𝕄 :=
  iprop((∃ K, ctx (xIn m) (wIn m) K) ∗ scratch c ∗ opened c ∗ duties c ∗ promised c ∗ barB c false ∗ ∃ r, prngReg c r)

/-- After it. -/
def Φ₁ (c : Dev nD) : sProp 𝕄 := iprop(scratch c ∗ semsZero c ∗ semVal (barC c) 0 ∗ ∃ r, prngReg c r)

/-- What a device owes other devices from the start. -/
abbrev O₀ (c : Dev nD) : CellTallies nD τ sig Unit := owedOf c acts

def dats (c : Dev nD) : Dat τ (Elt F) Unit ℕ UU ℕ cfg0 c where
  A w := V m c (Pipeline.arrRef spec0 w)
  after w _ := match w with
    | ⟨0, _⟩ => xIn m c
    | ⟨1, _⟩ => wIn m c
    | ⟨2, _⟩ => permV
    | ⟨3, _⟩ => invV
    | ⟨4, _⟩ => outV (xIn m) (wIn m)
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dats m

theorem owed_first (c : Dev nD) : (dats m c).owed t0_0.castSucc = O₀ c := by
  show (if (t0_0.castSucc : Fin (cfg0.N + 1)).val = 0 then O₀ c else 0) = O₀ c; exact if_pos rfl
theorem owed_last (c : Dev nD) : (dats m c).owed t0_0.succ = 0 := by
  show (if (t0_0.succ : Fin (cfg0.N + 1)).val = 0 then O₀ c else 0) = 0; exact if_neg (Nat.succ_ne_zero _)

theorem Φ_first (c : Dev nD) : (dats m c).Φ t0_0.castSucc = Φ₀ m c := by
  show (if (t0_0.castSucc : Fin (cfg0.N + 1)).val = 0 then Φ₀ m c else Φ₁ c) = Φ₀ m c; exact if_pos rfl
theorem Φ_last (c : Dev nD) : (dats m c).Φ t0_0.succ = Φ₁ c := by
  show (if (t0_0.succ : Fin (cfg0.N + 1)).val = 0 then Φ₀ m c else Φ₁ c) = Φ₁ c; exact if_neg (Nat.succ_ne_zero _)

/-- What the windows hold before the point. -/
theorem before0 (c : Dev nD) (d) : (dats m c).before 0 t0_0 d = xIn m c := by
  unfold Dat.before
  rw [if_pos (fetch0_0 t0_0)]
  exact (read_blk0 t0_0 _).trans (V_main_arg0 m c)
theorem before1 (c : Dev nD) (d) : (dats m c).before 1 t0_0 d = wIn m c := by
  unfold Dat.before
  rw [if_pos (fetch0_1 t0_0)]
  exact (read_blk1 t0_0 _).trans (V_main_arg1 m c)
theorem before2 (c : Dev nD) (d) : (dats m c).before 2 t0_0 d = permV := by
  unfold Dat.before
  rw [if_pos (fetch0_2 t0_0)]
  exact (read_blk2 t0_0 _).trans (V₁_c m c)
theorem before3 (c : Dev nD) (d) : (dats m c).before 3 t0_0 d = invV := by
  unfold Dat.before
  rw [if_pos (fetch0_3 t0_0)]
  exact (read_blk3 t0_0 _).trans (V₁_c_0 m c)

/-! ## The body's obligation -/

/-- A whole staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

def bodyPre (c : Dev nD) : sProp 𝕄 :=
  iprop(Φ₀ m c ∗ (dats m c).owesAt () t0_0.castSucc
    ∗ (∃ d, stg c cc0_stg0_0 ((dats m c).before (0 : Fin 5) t0_0 d)) ∗ (∃ d, stg c cc0_stg1_0 ((dats m c).before (1 : Fin 5) t0_0 d))
    ∗ (∃ d, stg c cc0_stg2_0 ((dats m c).before (2 : Fin 5) t0_0 d)) ∗ (∃ d, stg c cc0_stg3_0 ((dats m c).before (3 : Fin 5) t0_0 d))
    ∗ (∃ d, stg c cc0_stg4_0 ((dats m c).before (4 : Fin 5) t0_0 d)))
def bodyPost (c : Dev nD) : sProp 𝕄 :=
  iprop(Φ₁ c ∗ (dats m c).owesAt () t0_0.succ ∗ stg c cc0_stg0_0 (xIn m c) ∗ stg c cc0_stg1_0 (wIn m c)
    ∗ stg c cc0_stg2_0 (permV (F := F)) ∗ stg c cc0_stg3_0 (invV (F := F)) ∗ stg c cc0_stg4_0 (outV (xIn m) (wIn m)))

/-- The body, between what the pipeline hands it and what it hands back. -/
theorem sound_body [∀ e, Nonempty (Elt F e)] (c : Dev nD) (Kt : PUnit → sProp 𝕄) :
    iprop(bodyPre m c ∗ (bodyPost m c -∗ Kt ⟨⟩)) ⊢ WP c (body (F := F)) Kt := by
  unfold bodyPre Φ₀
  iintro ⟨⟨⟨⟨%K, #Hc⟩, Hs, Ho, Hd, Hp, Hb, Hr⟩, HO, ⟨%d0, %g0, %hg0, H0⟩, ⟨%d1, %g1, %hg1, H1⟩, ⟨%d2, %g2, %hg2, H2⟩, ⟨%d3, %g3, %hg3, H3⟩, ⟨%d4, %g4, %hg4, H4⟩⟩, Hk⟩
  have h0 : g0 = xIn m c := hg0.trans (before0 m c d0)
  subst h0
  have h1 : g1 = wIn m c := hg1.trans (before1 m c d1)
  subst h1
  have h2 : g2 = permV := hg2.trans (before2 m c d2)
  subst h2
  have h3 : g3 = invV := hg3.trans (before3 m c d3)
  subst h3
  unfold Dat.owesAt Pipeline.owesWithin
  icases HO with ⟨%W, %hW, HO⟩
  ihave HO := (Entails.of_eq (show (owes (c : Thread nD τ) ((dats m c).owed t0_0.castSucc) W : sProp 𝕄) = owes (c : Thread nD τ) (O₀ c) W by rw [owed_first])) $$ HO
  iapply (body_all (xIn m) (wIn m) K c Kt)
  isplitr; · iexact Hc
  isplitl [H2]; · iexact H2
  isplitl [H3]; · iexact H3
  isplitl [Hs Ho Hd Hp Hb H0 H1 H4 HO]
  · unfold atStart
    isplitl [H4]; · iexists g4; iexact H4
    isplitl [Hs]; · iexact Hs
    isplitl [Ho]; · iexact Ho
    isplitl [Hd]; · iexact Hd
    isplitl [Hp]; · iexact Hp
    isplitl [Hb]; · iexact Hb
    isplitl [H0]; · iexact H0
    isplitl [H1]; · iexact H1
    iexists W; iexact HO
  unfold atClose
  iintro ⟨H2, H3, Hout, Hs, Hz, Hb, H0, H1, ⟨%W', HO⟩⟩
  iapply Hk
  unfold bodyPost Φ₁ Dat.owesAt Pipeline.owesWithin
  isplitl [Hs Hz Hb Hr]
  · isplitl [Hs]; · iexact Hs
    isplitl [Hz]; · iexact Hz
    isplitl [Hb]; · iexact Hb
    iexact Hr
  isplitl [HO]
  · iexists W'
    isplitr; · ipureintro; exact fun _ _ => Or.inl trivial
    iapply (Entails.of_eq (show (owes (c : Thread nD τ) (0 : CellTallies nD τ sig Unit) W' : sProp 𝕄) = owes (c : Thread nD τ) ((dats m c).owed t0_0.succ) W' by rw [owed_last]))
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact Hout

/-- The call's body, at its one point. -/
theorem prog_eq : defs₀ (F := F) Proc.tc 0 (t0_0, cfg0.slots t0_0)
    = cc0_body (F := F) xM (Memref.isWhole_whole _) wM (Memref.isWhole_whole _) permM (Memref.isWhole_whole _) invM (Memref.isWhole_whole _)
      outM (Memref.isWhole_whole _) partM (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9
      cc0_scratch10 cc0_scratch11 cc0_scratch12 cc0_scratch13 cc0_scratch14 cc0_scratch15 cc0_scratch16 cc0_scratch17 cc0_scratch18 cc0_scratch19 cc0_scratch20 := rfl

/-- The pipeline's obligation on the body. -/
theorem body_obligation [∀ e, Nonempty (Elt F e)] (c : Dev nD) : BodyObligation (dats m c) (defs₀ (F := F)) 𝒱₀ () Set.univ := fun t => by
  rw [fin_N0 t]
  rw [bigSep_W0, bigSep_W0]
  simp only [owns_stg]
  rw [Φ_first, Φ_last]
  have hpre : iprop(Φ₀ m c ∗ (dats m c).owesAt () t0_0.castSucc
    ∗ (∃ d, stg c cc0_stg0_0 ((dats m c).before (0 : Fin cfg0.W) t0_0 d)) ∗ (∃ d, stg c cc0_stg1_0 ((dats m c).before (1 : Fin cfg0.W) t0_0 d))
    ∗ (∃ d, stg c cc0_stg2_0 ((dats m c).before (2 : Fin cfg0.W) t0_0 d)) ∗ (∃ d, stg c cc0_stg3_0 ((dats m c).before (3 : Fin cfg0.W) t0_0 d))
    ∗ (∃ d, stg c cc0_stg4_0 ((dats m c).before (4 : Fin cfg0.W) t0_0 d))) ⊢ bodyPre m c := .rfl
  have hpost : bodyPost m c ⊢ iprop(Φ₁ c ∗ (dats m c).owesAt () t0_0.succ ∗ stg c cc0_stg0_0 ((dats m c).after (0 : Fin cfg0.W) t0_0)
    ∗ stg c cc0_stg1_0 ((dats m c).after (1 : Fin cfg0.W) t0_0) ∗ stg c cc0_stg2_0 ((dats m c).after (2 : Fin cfg0.W) t0_0)
    ∗ stg c cc0_stg3_0 ((dats m c).after (3 : Fin cfg0.W) t0_0) ∗ stg c cc0_stg4_0 ((dats m c).after (4 : Fin cfg0.W) t0_0)) := .rfl
  refine hpre.trans ?_
  rw [prog_eq, cc0_body_eq_steps]
  iintro H
  iapply (sound_body m c _)
  isplitl [H]; · iexact H
  iintro H
  iapply hpost; iexact H

end Cert.KernelIdeal.Ring
-- ==== Proof.DealIdeal.lean ====
/-
  What the launch deals to the devices: the units each cell is promised, the tokens of the duties, and the cells'
  invariants, under one naming of all cells.
-/
module

public import proofs.«01_k».proof.Proof.DatIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen

variable {F : FTy → Type} [FloatOps F]

local notation "𝕄" => MT nD τ sig Unit (Elt F) ℕ UU ℕ

/-! ## How much all devices together pay a cell -/

theorem tc_inj {c d : Dev nD} {s s' : SemLoc sig} (h : (((c : Thread nD τ), s) : GSem nD τ sig) = ((d : Thread nD τ), s')) : c = d :=
  congrArg (fun g : GSem nD τ sig => g.1.1) h

theorem tally_bar (c d : Dev nD) (k : ℕ) : (tallyAt (barC d) () k : CellTallies nD τ sig Unit) (barC c) () = if c = d then k else 0 := by
  rw [tallyAt_apply]
  by_cases h : c = d
  · subst h; rw [if_pos ⟨rfl, rfl⟩, if_pos rfl]
  · rw [if_neg (fun e => h (tc_inj e.1)), if_neg h]

theorem tally_recv (h h' : Hp) (c d : Dev nD) (k : ℕ) :
    (tallyAt (recvC h' d) () k : CellTallies nD τ sig Unit) (recvC h c) () = if h' = h ∧ c = d then k else 0 := by
  rw [tallyAt_apply]
  by_cases e : h' = h ∧ c = d
  · obtain ⟨rfl, rfl⟩ := e; rw [if_pos ⟨rfl, rfl⟩, if_pos ⟨rfl, rfl⟩]
  · rw [if_neg, if_neg e]
    rintro ⟨e', -⟩
    have h2 : (c, some (true, h)) = (d, some (true, h')) := cellG_inj e'
    simp only [Prod.mk.injEq, Option.some.injEq, true_and] at h2
    exact e ⟨h2.2.symm, h2.1⟩

theorem tally_off {g g' : GSem nD τ sig} (k : ℕ) (h : g.2 ≠ g'.2) : (tallyAt g () k : CellTallies nD τ sig Unit) g' () = 0 := by
  rw [tallyAt_ne_cell (fun e => h (congrArg Prod.snd e).symm)]; rfl

theorem act_start (d : Dev nD) (p : Bool) (s : Str) (j : ℕ) (hj : j < hops s) :
    actTally d (.start p s j) = tallyAt (recvC (p, ⟨s, ⟨j, hj⟩⟩) (nbr s.2 d)) () NN := dif_pos hj
theorem act_none (d : Dev nD) (p : Bool) (s : Str) (j : ℕ) (hj : ¬ j < hops s) : actTally d (.start p s j) = 0 := dif_neg hj

theorem act_bar (c d : Dev nD) (a : Act) : actTally d a (barC c) ()
    = if a = .barrier then (if c = nbr true d then 1 else 0) + (if c = nbr false d then 1 else 0) else 0 := by
  cases a with
  | barrier =>
    rw [if_pos rfl]
    show (tallyAt (barC (nbr true d)) () 1 : CellTallies nD τ sig Unit) (barC c) () + (tallyAt (barC (nbr false d)) () 1 : CellTallies nD τ sig Unit) (barC c) () = _
    rw [tally_bar, tally_bar]
  | start p s j =>
    rw [if_neg (by simp)]
    by_cases hj : j < hops s
    · rw [act_start d p s j hj]
      exact tally_off NN (by simp)
    · rw [act_none d p s j hj]; rfl
  | _ => rw [if_neg (by simp)]; rfl

theorem act_recv (h : Hp) (c d : Dev nD) (a : Act) : actTally d a (recvC h c) ()
    = if a = .start h.1 h.2.1 h.2.2 then (if c = nbr h.2.1.2 d then NN else 0) else 0 := by
  cases a with
  | barrier =>
    rw [if_neg (by simp)]
    show (tallyAt (barC (nbr true d)) () 1 : CellTallies nD τ sig Unit) (recvC h c) () + (tallyAt (barC (nbr false d)) () 1 : CellTallies nD τ sig Unit) (recvC h c) () = _
    rw [tally_off 1 (by simp), tally_off 1 (by simp)]
  | start p s j =>
    by_cases hj : j < hops s
    · rw [act_start d p s j hj, tally_recv]
      obtain ⟨p', s', j'⟩ := h
      by_cases e : Act.start p s j = Act.start p' s' j'.val
      · cases e
        rw [if_pos rfl]
        by_cases e' : c = nbr s.2 d
        · rw [if_pos ⟨rfl, e'⟩, if_pos e']
        · rw [if_neg (fun e => e' e.2), if_neg e']
      · rw [if_neg e, if_neg]
        rintro ⟨e1, -⟩
        cases e1
        exact e rfl
    · rw [act_none d p s j hj, if_neg]; · rfl
      rintro e
      cases e
      exact hj h.2.2.isLt
  | _ => rw [if_neg (by simp)]; rfl

theorem owed_bar (c d : Dev nD) : (l : List Act) → owedOf d l (barC c) ()
    = l.count .barrier * ((if c = nbr true d then 1 else 0) + (if c = nbr false d then 1 else 0))
  | [] => by rw [List.count_nil, Nat.zero_mul]; rfl
  | a :: l => by
    show owedOf d l (barC c) () + actTally d a (barC c) () = _
    rw [owed_bar c d l, act_bar, List.count_cons, Nat.add_mul]
    by_cases e : a = .barrier
    · subst e; simp
    · simp [e]

theorem owed_recv (h : Hp) (c d : Dev nD) : (l : List Act) → owedOf d l (recvC h c) ()
    = l.count (.start h.1 h.2.1 h.2.2) * (if c = nbr h.2.1.2 d then NN else 0)
  | [] => by rw [List.count_nil, Nat.zero_mul]; rfl
  | a :: l => by
    show owedOf d l (recvC h c) () + actTally d a (recvC h c) () = _
    rw [owed_recv h c d l, act_recv, List.count_cons, Nat.add_mul]
    by_cases e : a = .start h.1 h.2.1 h.2.2
    · subst e; simp
    · simp [e]

theorem count_bar : acts.count .barrier = 1 := by decide +kernel
theorem count_start : ∀ h : Hp, acts.count (.start h.1 h.2.1 h.2.2) = 1 := by decide +kernel

theorem sum_nbr (di : Bool) (c : Dev nD) (k : ℕ) : ∑ d : Dev nD, (if c = nbr di d then k else 0) = k := by
  rw [Finset.sum_congr rfl fun d _ => if_congr (show c = nbr di d ↔ d = nbr (!di) c from
    ⟨fun e => by rw [e, nbr_nbr'], fun e => by rw [e, nbr_nbr]⟩) rfl rfl]
  rw [Finset.sum_ite_eq' Finset.univ (nbr (!di) c) fun _ => k, if_pos (Finset.mem_univ _)]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same,
    Finset.sum_congr rfl fun d _ => (owed_bar c d acts).trans (by rw [count_bar, Nat.one_mul]), Finset.sum_add_distrib, sum_nbr, sum_nbr]

theorem launch_recv (h : Hp) (c : Dev nD) :
    tallyOn (recvC h c) (launchCredit (Pipeline.owing O₀) 0 (recvC h c)) = (tallyAt (recvC h c) () NN : CellTallies nD τ sig Unit) := by
  unfold tallyAt; refine congrArg _ (Finsupp.ext fun u => ?_); cases u
  rw [Pipeline.launchCredit_owing, Finsupp.single_eq_same,
    Finset.sum_congr rfl fun d _ => (owed_recv h c d acts).trans (by rw [count_start, Nat.one_mul]), sum_nbr]

/-- The semaphores arrivals go by. -/
def recvEmb : Hp ↪ SemLoc sig := ⟨fun h => .dma (cellSem true h), fun h h' e => by
  have e2 := cellSem_inj (a₁ := (true, h)) (a₂ := (true, h')) (SemLoc.dma.inj e)
  exact congrArg Prod.snd e2⟩

/-- The launch's promises to a device's barrier and to its arrivals. -/
theorem creds (c : Dev nD) : (Pipeline.launchCred O₀ c : sProp 𝕄) ⊢ iprop(cred (tallyAt (barC c) () 2) ∗ promised c) := by
  unfold Pipeline.launchCred
  rw [bigSep_univ_at _ (SemLoc.reg barS), launch_bar]
  refine sep_mono_right ?_
  have hs : (Finset.univ.map recvEmb) ⊆ (Finset.univ.erase (SemLoc.reg barS) : Finset (SemLoc sig)) := fun sm h => by
    obtain ⟨h', -, rfl⟩ := Finset.mem_map.mp h
    exact Finset.mem_erase.mpr ⟨by rintro ⟨⟩, Finset.mem_univ _⟩
  refine (bigSep_subset hs).trans ?_
  rw [bigSep_map]
  exact Entails.of_eq (bigSep_congr fun h _ => congrArg cred (launch_recv h c))

/-! ## The cells -/

def barEmb : Dev nD ↪ GSem nD τ sig := ⟨fun c => barC c, fun _ _ h => tc_inj h⟩
def hopEmb : Dev nD × (Bool × Hp) ↪ GSem nD τ sig := ⟨fun a => cellG (a.1, some a.2), fun a b e => by
  have e2 := cellG_inj e
  simp only [Prod.mk.injEq, Option.some.injEq] at e2
  exact Prod.ext e2.1 e2.2⟩

abbrev barCells : Finset (GSem nD τ sig) := Finset.univ.map barEmb
abbrev hopCells : Finset (GSem nD τ sig) := Finset.univ.map hopEmb

theorem cells_disjoint : Disjoint barCells hopCells := by
  rw [Finset.disjoint_left]
  rintro g h₁ h₂
  obtain ⟨c, -, rfl⟩ := Finset.mem_map.mp h₁
  obtain ⟨a, -, h⟩ := Finset.mem_map.mp h₂
  exact absurd (cellG_inj (a₁ := (a.1, some a.2)) (a₂ := (c, none)) h) (by simp)

theorem cell_mem : ∀ a : Dev nD × Option (Bool × Hp), cellG a ∈ barCells ∪ hopCells
  | (c, none) => Finset.mem_union_left _ (Finset.mem_map_of_mem barEmb (Finset.mem_univ c))
  | (c, some a) => Finset.mem_union_right _ (Finset.mem_map_of_mem hopEmb (Finset.mem_univ (c, a)))

/-! ## The tokens -/

/-- The duties a device's cells know: either neighbour's at the barrier, one at each hop's. -/
abbrev tokOf (c : Dev nD) : Bool ⊕ (Bool × Hp) → GSem nD τ sig × ℕ × Bool
  | .inl d => (barC c, 0, d)
  | .inr (r, h) => (cellH r h c, 0, false)

theorem tokOf_inj : Function.Injective (fun a : Dev nD × (Bool ⊕ (Bool × Hp)) => tokOf a.1 a.2) := by
  rintro ⟨c, d | a⟩ ⟨c', d' | a'⟩ e
  · have e1 : c = c' := tc_inj (congrArg Prod.fst e)
    have e2 : d = d' := congrArg (fun t : GSem nD τ sig × ℕ × Bool => t.2.2) e
    rw [e1, e2]
  · exact absurd (cellG_inj (a₁ := (c, none)) (a₂ := (c', some a')) (congrArg Prod.fst e)) (by simp)
  · exact absurd (cellG_inj (a₁ := (c, some a)) (a₂ := (c', none)) (congrArg Prod.fst e)) (by simp)
  · have e1 := cellG_inj (a₁ := (c, some a)) (a₂ := (c', some a')) (congrArg Prod.fst e)
    simp only [Prod.mk.injEq, Option.some.injEq] at e1
    rw [e1.1, e1.2]

def allToks : Finset (GSem nD τ sig × ℕ × Bool) := Finset.univ.map ⟨_, tokOf_inj⟩

/-- The tokens of a device's cells. -/
def toks (c : Dev nD) : sProp 𝕄 :=
  iprop((dutyTok ER (barC c) 0 false ∗ dutyTok ER (barC c) 0 true)
    ∗ (bigSep Finset.univ fun h : Hp => iprop(dutyTok ER (sendC h c) 0 false)) ∗ bigSep Finset.univ fun h : Hp => iprop(dutyTok ER (recvC h c) 0 false))

theorem toks_eq : bigSep allToks (fun x => (dutyTok ER x.1 x.2.1 x.2.2 : sProp 𝕄)) = bigSep Finset.univ fun c : Dev nD => toks c := by
  unfold allToks
  refine (bigSep_map _).trans ?_
  refine (bigSep_univ_prod _).trans ?_
  refine bigSep_congr fun c _ => ?_
  refine (bigSep_univ_sum _).trans ?_
  refine congrArg₂ (fun P Q : sProp 𝕄 => iprop(P ∗ Q)) (fam_bool _) ?_
  refine (bigSep_univ_prod _).trans ?_
  exact fam_bool _

/-- A hop and the device it is sent from, against the device it is sent to. -/
def hopEquiv : Dev nD × Hp ≃ Dev nD × Hp where
  toFun a := (toD a.2 a.1, a.2)
  invFun a := (nbr (!a.2.2.1.2) a.1, a.2)
  left_inv a := Prod.ext (nbr_nbr' _ _) rfl
  right_inv a := Prod.ext (nbr_nbr _ _) rfl

/-- The tokens of the duties a device pays. -/
def paid (c : Dev nD) : sProp 𝕄 :=
  iprop((dutyTok ER (barC (nbr true c)) 0 false ∗ dutyTok ER (barC (nbr false c)) 0 true) ∗ duties c)

theorem toks_around : (bigSep Finset.univ fun c : Dev nD => (toks c : sProp 𝕄)) ⊢ bigSep Finset.univ fun c : Dev nD => paid c := by
  have hr : (bigSep Finset.univ fun c : Dev nD => bigSep Finset.univ fun h : Hp => (dutyTok ER (recvC h c) 0 false : sProp 𝕄))
      = bigSep Finset.univ fun c : Dev nD => bigSep Finset.univ fun h : Hp => dutyTok ER (recvC h (toD h c)) 0 false := by
    rw [← bigSep_univ_prod fun a : Dev nD × Hp => (dutyTok ER (recvC a.2 a.1) 0 false : sProp 𝕄),
      ← bigSep_univ_prod fun a : Dev nD × Hp => (dutyTok ER (recvC a.2 (toD a.2 a.1)) 0 false : sProp 𝕄)]
    exact bigSep_univ_equiv hopEquiv _
  unfold toks paid duties
  rw [bigSep_sep', bigSep_sep', bigSep_sep', bigSep_sep', bigSep_sep', bigSep_sep', hr,
    bigSep_univ_equiv (nbrEquiv true) (fun c : Dev nD => (dutyTok ER (barC c) 0 false : sProp 𝕄)),
    bigSep_univ_equiv (nbrEquiv false) (fun c : Dev nD => (dutyTok ER (barC c) 0 true : sProp 𝕄))]
  exact BI.Entails.refl _

/-! ## What stays with a device, and what all may consult -/

section Records

variable (X : Dev nD → Vec F S2048x64 .f32) (Wt : Dev nD → Vec F S64x2048 .f32)

/-- All cells' invariants, under one naming. -/
def invAll (K : GSem nD τ sig → ℕ) : sProp 𝕄 := bigSep Finset.univ fun a : Dev nD × Option (Bool × Hp) => cellInv ER (rd X Wt) (K (cellG a)) (cellG a)

instance invAll_persistent (K : GSem nD τ sig → ℕ) : BI.Persistent (invAll X Wt K) := by unfold invAll; infer_instance

/-- A device's hop cells, not yet open. -/
def closedHops (c : Dev nD) : sProp 𝕄 :=
  iprop((bigSep Finset.univ fun h : Hp => iprop(openTok ER (sendC h c))) ∗ bigSep Finset.univ fun h : Hp => iprop(openTok ER (recvC h c)))

/-- What a device keeps between the launch and the call. -/
def kept (c : Dev nD) : sProp 𝕄 :=
  iprop((∃ K, invAll X Wt K) ∗ closedHops c ∗ duties c ∗ promised c ∗ barB c false)

/-- What the launch leaves with a device. -/
def linear (c : Dev nD) : sProp 𝕄 := iprop(atPos ER (barC c) 0 ∅ 0 ∗ closedHops c ∗ paid c)

/-- What every device may consult. -/
def records (κ : GSem nD τ sig → ℕ) : sProp 𝕄 :=
  iprop((bigSep (barCells ∪ hopCells) fun g => cellInv ER (rd X Wt) (κ g) g) ∗ bigSep barCells fun g => reached ER g 0)

instance records_persistent (κ : GSem nD τ sig → ℕ) : BI.Persistent (records X Wt κ) := by unfold records; infer_instance

theorem inv_all (κ : GSem nD τ sig → ℕ) :
    (bigSep (barCells ∪ hopCells) fun g => (cellInv ER (rd X Wt) (κ g) g : sProp 𝕄)) ⊢ invAll X Wt κ := by
  unfold invAll
  refine (bigSep_of_persistent (Finset.univ : Finset (Dev nD × Option (Bool × Hp))) _).trans ?_
  exact bigSep_mono fun a _ => bigSep_elim (cell_mem a)

theorem reached_at (c : Dev nD) : (bigSep barCells fun g => (reached ER g 0 : sProp 𝕄)) ⊢ reached ER (barC c) 0 :=
  bigSep_elim (Finset.mem_map_of_mem barEmb (Finset.mem_univ c))

theorem kept_intro (κ : GSem nD τ sig → ℕ) (c : Dev nD) :
    iprop(records X Wt κ ∗ linear c ∗ cred (tallyAt (barC c) () 2) ∗ promised c) ⊢ kept X Wt c := by
  unfold records linear paid kept barB
  iintro ⟨⟨#HI, #HR⟩, ⟨Ha, Ho, ⟨Ht, Hf⟩, Hd⟩, Hc, Hp⟩
  isplitr
  · iexists κ
    iapply (inv_all X Wt κ); iexact HI
  isplitl [Ho]; · iexact Ho
  isplitl [Hd]; · iexact Hd
  isplitl [Hp]; · iexact Hp
  isplitl [Ha]; · iexact Ha
  isplitl [Hc]; · iexact Hc
  isplitl [Hf]
  · isplitl [Hf]; · iexact Hf
    iapply (reached_at (F := F) (nbr false c)); iexact HR
  · isplitl [Ht]; · iexact Ht
    iapply (reached_at (F := F) (nbr true c)); iexact HR

/-! ## Opening the hop cells -/

/-- A hop cell opens when its counter is there. -/
theorem open_hop (K : GSem nD τ sig → ℕ) (r : Bool) (c : Dev nD) :
    iprop(invAll X Wt K ∗ (bigSep Finset.univ fun h : Hp => iprop(openTok ER (cellH r h c))) ∗ bigSep Finset.univ fun h : Hp => semVal (cellH r h c) 0)
      ⊢ |={Set.univ}=> iprop((bigSep Finset.univ fun h : Hp => iprop(atPos ER (cellH r h c) 0 ∅ 0)) ∗ bigSep Finset.univ fun h : Hp => iprop(reached ER (cellH r h c) 0)) := by
  have one : ∀ h ∈ (Finset.univ : Finset Hp), iprop(invAll X Wt K ∗ (openTok ER (cellH r h c) ∗ semVal (cellH r h c) 0))
      ⊢ iprop(|={Set.univ}=> (atPos ER (cellH r h c) 0 ∅ 0 ∗ reached ER (cellH r h c) 0)) := fun h _ => by
    have hi : invAll X Wt K ⊢ cellInv ER (rd X Wt) (K (cellH r h c)) (cellH r h c) :=
      bigSep_elim (Finset.mem_univ ((c, some (r, h)) : Dev nD × Option (Bool × Hp)))
    iintro ⟨#HI, Ho, Hs⟩
    iapply (Rounds.cell_open ER (rd X Wt) (g := cellH r h c) (Set.mem_univ (K (cellH r h c))))
    isplitr; · iapply hi; iexact HI
    isplitl [Ho]; · iexact Ho
    iexact Hs
  have e := (bigSep_with_persistent one).trans (bigSep_fupd _ _)
  rw [bigSep_sep', bigSep_sep'] at e
  exact e

theorem opened_intro (K : GSem nD τ sig → ℕ) (c : Dev nD) : iprop(invAll X Wt K ∗ closedHops c ∗ semsZero c) ⊢ |={Set.univ}=> opened c := by
  unfold closedHops semsZero opened
  iintro ⟨#HI, ⟨HoS, HoR⟩, HzR, HzS⟩
  imod (open_hop X Wt K true c) $$ [HoR HzR] with ⟨HaR, HrR⟩
  · isplitr; · iexact HI
    isplitl [HoR]; · iexact HoR
    iexact HzR
  imod (open_hop X Wt K false c) $$ [HoS HzS] with ⟨HaS, HrS⟩
  · isplitr; · iexact HI
    isplitl [HoS]; · iexact HoS
    iexact HzS
  imodintro
  isplitl [HaR]; · iexact HaR
  isplitl [HrR]; · iexact HrR
  isplitl [HaS]; · iexact HaS
  iexact HrS

end Records

end Cert.KernelIdeal.Ring
-- ==== Proof.LaunchIdeal.lean ====
/-
  The whole program: its host operations, then the call; what it starts from and where it ends.
-/
module

public import proofs.«01_k».proof.Proof.DealIdeal

@[expose] public section

noncomputable section

namespace Cert.KernelIdeal.Ring

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The arrays -/

/-- The arrays of the program. -/
abbrev bufs : Finset (DevRef τ sig) := Pipeline.ucRefs τ sig

theorem bufs_arr : Pipeline.arrRefs (τ := τ) (pcfgs (F := F) 0).spec = bufs := by
  show Pipeline.arrRefs (τ := τ) spec0 = bufs
  decide

/-- An array whole. -/
abbrev pt (c : Dev nD) (b : Ref sig .tc) (X : b.ty.Contents (Elt F)) : sProp 𝕄 := ((c : Thread nD τ).loc b) ↦{fullShare} X

theorem held_eq (c : Dev nD) (W : Valuation τ sig (Elt F)) : (StableHlo.held (c : Thread nD τ) bufs W : sProp 𝕄)
    = iprop(pt c main_arg0 (W main_arg0) ∗ pt c main_arg1 (W main_arg1) ∗ pt c main_c (W main_c) ∗ pt c main_c_0 (W main_c_0) ∗ pt c main_v1 (W main_v1)) := by
  unfold StableHlo.held
  rw [bigSep_eq_bigSepL_of_eq [Proc.devRef .tc main_arg0, Proc.devRef .tc main_arg1, Proc.devRef .tc main_c, Proc.devRef .tc main_c_0, Proc.devRef .tc main_v1] (by decide) (by decide)]
  rfl

theorem V₂_out (c : Dev nD) : V₂ m c (Proc.devRef .tc main_v1) = outV (xIn m) (wIn m) := Function.update_self ..
theorem V₂_off (c : Dev nD) (b : DevRef τ sig) (h : b ≠ Proc.devRef .tc main_v1) : V₂ m c b = V₁ m c b := Function.update_of_ne h ..

theorem arr_start (c : Dev nD) (w) : (pdats m 0 c).arrAt w 0 = V₁ m c (Proc.devRef .tc (Pipeline.arrRef (Pipeline.pin (pcfgs (F := F)) adm 0).spec w)) := rfl

theorem out_end (c : Dev nD) : (dats m c).arrAt 4 1 = outV (xIn m) (wIn m) := by
  refine ((dats m c).arrAt_succ 4 t0_0).trans ?_
  rw [if_pos (flush0_4 t0_0)]
  exact write_blk4 t0_0 _ _

theorem arr_end (c : Dev nD) : ∀ w : Fin 5, (dats m c).arrAt w 1 = V₂ m c (Proc.devRef .tc (Pipeline.arrRef spec0 w))
  | 0 => ((dats m c).arrAt_in 0 rfl 1).trans (V₂_off m c (Proc.devRef .tc main_arg0) (by decide)).symm
  | 1 => ((dats m c).arrAt_in 1 rfl 1).trans (V₂_off m c (Proc.devRef .tc main_arg1) (by decide)).symm
  | 2 => ((dats m c).arrAt_in 2 rfl 1).trans (V₂_off m c (Proc.devRef .tc main_c) (by decide)).symm
  | 3 => ((dats m c).arrAt_in 3 rfl 1).trans (V₂_off m c (Proc.devRef .tc main_c_0) (by decide)).symm
  | 4 => (out_end m c).trans (V₂_out m c).symm

/-! ## The call's own semaphores and buffers -/

abbrev osem (a : Bool × Hp) : SemLoc sig := .dma (cellSem a.1 a.2)

theorem base_ge : ∀ (r p : Bool) (s : Str), 5 ≤ semBase r p s := by decide

theorem stage_lt : ∀ (w : Fin 5) (s : Fin (spec0 w).nbuf), ((spec0 w).sem s).val < 5 := by decide

theorem own_off (a : Bool × Hp) (w : Fin 5) (s : Fin (spec0 w).nbuf) : cellSem a.1 a.2 ≠ (spec0 w).sem s := fun e => by
  have h1 := stage_lt w s
  rw [← e, cellSem_val] at h1
  have h2 := base_ge a.1 a.2.1 a.2.2.1
  omega

theorem dma_scoped : ∀ d : DmaSem sig, (SemLoc.dma d).isScoped .tc = true := by decide +kernel

theorem own_facts : Pipeline.OwnSemFacts spec0 osem where
  isScoped a := dma_scoped _
  inj a b e := cellSem_inj (SemLoc.dma.inj e)
  disj a w s e := own_off a w s (SemLoc.dma.inj e)

theorem own_eq (c : Dev nD) : (Pipeline.ownSems0 osem c : sProp 𝕄)
    = iprop((bigSep Finset.univ fun h : Hp => semVal (sendC h c) 0) ∗ bigSep Finset.univ fun h : Hp => semVal (recvC h c) 0) := by
  unfold Pipeline.ownSems0
  exact (bigSep_univ_prod _).trans (fam_bool _)

theorem uscoped_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

theorem unscoped_bar : ∀ sm : SemLoc sig, sm.isScoped .tc = false → sm = .reg barS := by decide +kernel

theorem hop_stage (w : Fin 5) (s : Fin (spec0 w).nbuf) : hopOf ((spec0 w).sem s) = none := by
  unfold hopOf Function.partialInv
  exact dif_neg fun ⟨a, e⟩ => own_off a w s e

/-- The call's scratch buffers are those of the body. -/
theorem rest_eq (c : Dev nD) : (Pipeline.scopedRest (Ix := Unit) (Name := ℕ) (U := UU) (Lvl := ℕ) (Val := Elt F) spec0 c : sProp 𝕄) = scratch c := by
  rw [scopedRest0_eq]
  unfold scratch rsAny
  simp only [Memref.view_whole, View.set_whole]

/-! ## The call -/

/-- What the body starts from, beside its buffers. -/
def opened₀ (c : Dev nD) : sProp 𝕄 := iprop((∃ K, ctx (xIn m) (wIn m) K) ∗ opened c ∗ duties c ∗ promised c ∗ barB c false)

theorem hopen (c : Dev nD) : iprop(kept (xIn m) (wIn m) c ∗ Pipeline.ownSems0 osem c ∗ levAts L lv) ⊢ (|={Set.univ}=> opened₀ m c : sProp 𝕄) := by
  rw [own_eq]
  unfold kept opened₀
  iintro ⟨⟨⟨%K, #HI⟩, Ho, Hd, Hp, Hb⟩, ⟨HS, HR⟩, #Hl⟩
  imod (opened_intro (xIn m) (wIn m) K c) $$ [Ho HS HR] with Ho
  · isplitr; · iexact HI
    isplitl [Ho]; · iexact Ho
    unfold semsZero
    isplitl [HR]; · iexact HR
    iexact HS
  imodintro
  isplitr
  · iexists K
    unfold ctx
    isplitr
    · unfold invAll; iexact HI
    · iexact Hl
  isplitl [Ho]; · iexact Ho
  isplitl [Hd]; · iexact Hd
  isplitl [Hp]; · iexact Hp
  iexact Hb

theorem held_none (c : Dev nD) (W : Valuation τ sig (Elt F)) : (StableHlo.held (c : Thread nD τ) ∅ W : sProp 𝕄) = BI.emp := by
  unfold StableHlo.held
  exact BI.bigSep_empty

theorem Φ_start (c : Dev nD) : (pdats m 0 c).Φ 0 = Φ₀ m c := by
  show (if ((0 : Fin (cfg0.N + 1)).val = 0) then Φ₀ m c else Φ₁ c) = Φ₀ m c; exact if_pos rfl
theorem Φ_end (c : Dev nD) : (pdats m 0 c).Φ (Fin.last _) = Φ₁ c := by
  show (if (Fin.last cfg0.N).val = 0 then Φ₀ m c else Φ₁ c) = Φ₁ c
  rw [Fin.val_last, if_neg (by rw [show cfg0.N = 1 from N_0]; decide)]
theorem owed_start (c : Dev nD) : (pdats m 0 c).owed 0 = O₀ c := by
  show (if ((0 : Fin (cfg0.N + 1)).val = 0) then O₀ c else 0) = O₀ c; exact if_pos rfl
theorem owed_end (c : Dev nD) : (pdats m 0 c).owed (Fin.last _) = 0 := by
  show (if (Fin.last cfg0.N).val = 0 then O₀ c else 0) = 0
  rw [Fin.val_last, if_neg (by rw [show cfg0.N = 1 from N_0]; decide)]

theorem hin (c : Dev nD) : iprop(Pipeline.scopedRest (Pipeline.pin (pcfgs (F := F)) adm 0).spec c ∗ (∃ r, prngReg c r)
    ∗ StableHlo.held (c.tc : Thread nD τ) ∅ (V₁ m c) ∗ opened₀ m c) ⊢ (pdats m 0 c).Φ 0 := by
  rw [Φ_start, show (Pipeline.scopedRest (Pipeline.pin (pcfgs (F := F)) adm 0).spec c : sProp 𝕄) = scratch c from rest_eq c]
  unfold opened₀ Φ₀
  iintro ⟨Hs, Hr, -, HK, Ho, Hd, Hp, Hb⟩
  isplitl [HK]; · iexact HK
  isplitl [Hs]; · iexact Hs
  isplitl [Ho]; · iexact Ho
  isplitl [Hd]; · iexact Hd
  isplitl [Hp]; · iexact Hp
  isplitl [Hb]; · iexact Hb
  iexact Hr

/-- The barrier's counter, at rest. -/
def barZ (c : Dev nD) : sProp 𝕄 := semVal (barC c) 0

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ barZ c) := by
  rw [Φ_end, show (Pipeline.scopedRest (Pipeline.pin (pcfgs (F := F)) adm 0).spec c : sProp 𝕄) = scratch c from rest_eq c, own_eq, held_none]
  unfold Φ₁ barZ semsZero
  iintro ⟨Hs, ⟨HR, HS⟩, Hb, Hr⟩
  isplitl [Hs]; · iexact Hs
  isplitl [Hr]; · iexact Hr
  isplitr; · iempintro
  isplitl [HS HR]
  · isplitl [HS]; · iexact HS
    iexact HR
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_acts : lvOk 0 acts = true := by decide +kernel

theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact owedOf_lv c 0 g i acts lv_acts h
  · exact absurd h (Nat.lt_irrefl 0)

theorem lv_stage (c : Dev nD) (w : Fin 5) (s : Fin (spec0 w).nbuf) : lv ((c : Thread nD τ), .dma ((spec0 w).sem s)) () ≤ 0 := by
  show (match hopOf ((spec0 w).sem s) with | some (true, h) => hopLv h | _ => 0) ≤ 0
  rw [hop_stage]

section Segments

variable [∀ e, Nonempty (Elt F e)]

set_option backward.isDefEq.respectTransparency.types false in
/-- The call. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ ∅ (Finset.Subset.refl _) kitP rfl (fun c => (body_obligation m c).loose)
    (fun _ => 0) O₀ (fun c => (owed_start m c).trans (zero_add _).symm) (owed_end m) (fun _ => rfl)
    (fun _ w => by unfold Dat.share; split <;> rfl)
    (V₁ m) (V₂ m) (fun _ b hb => absurd hb (by rw [Finset.sdiff_self]; exact Finset.notMem_empty b))
    (kept (xIn m) (wIn m)) barZ (opened₀ m) barZ (hopen m) (hin m) (hout m)
    (fun c => by iintro H; imodintro; iexact H)
    (fun _ => 0)
    ⟨fun c w s => by rw [L_tc]; exact Finset.mem_singleton_self _, fun c w s => lv_stage c w s, fun c t g i h => cut_owed m c t g i h⟩
    (fun _ => iprop(emp))
    (arr_start m) (arr_end m)

/-- What rides beside the arrays. -/
def R (c : Dev nD) : sProp 𝕄 := iprop(kept (xIn m) (wIn m) c ∗ (∃ r, prngReg c r) ∗ ∃ W, owes (c : Thread nD τ) (O₀ c) W)

theorem ops_sub : ∀ op ∈ (hostOps0 : List (HloOp τ sig (Elt F))), op.bufs ⊆ bufs := fun op h =>
  Pipeline.sub_ucRefs op (List.forall_iff_forall_mem.mp hostOps0_sub op h)

/-- The host operations before the call. -/
def seg0 : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (R m)

abbrev segs : List (Pipeline.Seg (pcfgs (F := F)) adm (pdats m) () defs₀ 𝒱₀ L lv) := [.host (seg0 m), .region (reg0 m)]

theorem reg_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) ∅ (V₁ m c) ∗ emp) ∗ kept (xIn m) (wIn m) c ∗ ∃ Wd, owes (c : Thread nD τ) (0 + O₀ c) Wd)
  rw [held_none, zero_add, bufs_arr]
  unfold R
  iintro ⟨Hh, Hk, Hr, HO⟩
  isplitl [Hh]; · iexact Hh
  isplitl [Hr]; · iexact Hr
  isplitr
  · isplitr
    · iempintro
    · iempintro
  isplitl [Hk]; · iexact Hk
  iexact HO

theorem reg_post (c : Dev nD) : (reg0 m).post c
    ⊢ iprop((StableHlo.held (c : Thread nD τ) bufs (V₂ m c) ∗ barZ c) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) ∅ (V₂ m c) ∗ emp) ∗ barZ c ∗ ∃ Wd, owes (c : Thread nD τ) (0 : CellTallies nD τ sig Unit) Wd) ⊢ _
  rw [bufs_arr]
  iintro ⟨Hh, -, -, Hb, HO⟩
  isplitl [Hh Hb]
  · isplitl [Hh]; · iexact Hh
    iexact Hb
  iexact HO

end Segments

/-! ## The launch -/

/-- What the ghost state starts from. -/
def u₀ : UU :=
  (initOf (Pipeline.cells (Pipeline.pin (pcfgs (F := F)) adm) cellOf_inj) (Pipeline.launchToks (Pipeline.pin (pcfgs (F := F)) adm) cellOf_inj),
    launchOf barCells hopCells allToks)

/-- A resource kept whole on device 0. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact sep_emp_eq _

abbrev G₀ : sProp 𝕄 := BI.own (ER (launchOf barCells hopCells allToks))

/-- What a device launches with, beside the ghost state. -/
def bundle (c : Dev nD) : sProp 𝕄 :=
  iprop(StableHlo.held (c : Thread nD τ) bufs (V₀ m c) ∗ (cred (tallyAt (barC c) () 2) ∗ promised c)
    ∗ (∃ r, prngReg c r) ∗ ∃ W, owes (c : Thread nD τ) (O₀ c) W)

theorem bundle_intro (κ : GSem nD τ sig → ℕ) (c : Dev nD) :
    iprop(records (xIn m) (wIn m) κ ∗ (linear c ∗ bundle m c)) ⊢ iprop(StableHlo.held (c : Thread nD τ) bufs (V₀ m c) ∗ R m c) := by
  unfold bundle R
  iintro ⟨#HR, Hl, Hh, ⟨H2, Hp⟩, Hr, HO⟩
  isplitl [Hh]; · iexact Hh
  isplitl [Hl H2 Hp]
  · iapply (kept_intro (xIn m) (wIn m) κ c)
    isplitr; · iexact HR
    isplitl [Hl]; · iexact Hl
    isplitl [H2]; · iexact H2
    iexact Hp
  isplitl [Hr]; · iexact Hr
  iexact HO

theorem dev_split {P Q : Dev nD → sProp 𝕄} :
    (bigSep Finset.univ fun c => iprop(P c ∗ Q c)) ⊢ iprop(bigSep Finset.univ P ∗ bigSep Finset.univ Q) := Entails.of_eq (bigSep_sep _ _ _)
theorem dev_join {P Q : Dev nD → sProp 𝕄} :
    iprop(bigSep Finset.univ P ∗ bigSep Finset.univ Q) ⊢ bigSep Finset.univ fun c => iprop(P c ∗ Q c) := Entails.of_eq (bigSep_sep _ _ _).symm

/-- From the launch to every device's start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onFirst G₀ c)) ∗ levAts L lv)
      ⊢ (|={Set.univ}=> bigSep Finset.univ fun c : Dev nD => iprop(StableHlo.held (c : Thread nD τ) bufs (V₀ m c) ∗ R m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ onFirst G₀ c)
      ⊢ (iprop(bundle m c ∗ (semVal (barC c) 0 ∗ onFirst G₀ c)) : sProp 𝕄) := by
    rw [show unscopedBufs c (fun b => m ((c : Thread nD τ).loc b)) = StableHlo.held (c : Thread nD τ) bufs (V₀ m c) from Pipeline.unscopedBufs_held c (V₀ m c),
      uscoped_eq]
    unfold bundle
    iintro ⟨Hh, Hz, HO, Hcr, Hr, HG⟩
    ihave Hc := (creds (F := F) c) $$ Hcr
    isplitl [Hh Hc HO Hr]
    · isplitl [Hh]; · iexact Hh
      isplitl [Hc]; · iexact Hc
      isplitl [Hr]; · iexists (ρ c); iexact Hr
      iexists ∅; iexact HO
    isplitl [Hz]; · iexact Hz
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep hopCells (fun g => (openTok ER g : sProp 𝕄)) ⊢ bigSep Finset.univ fun c : Dev nD => closedHops c :=
    Entails.of_eq ((bigSep_map hopEmb).trans ((bigSep_univ_prod _).trans
      (bigSep_congr fun c _ => (bigSep_univ_prod _).trans (fam_bool _))))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ onFirst G₀ c))
      ⊢ (bigSep Finset.univ fun c : Dev nD => iprop(bundle m c ∗ (semVal (barC c) 0 ∗ onFirst G₀ c)) : sProp 𝕄) from bigSep_mono fun c _ => hcore c) $$ H
  ihave H2 := dev_split $$ H'; icases H2 with ⟨HB, H3⟩
  ihave H4 := dev_split $$ H3; icases H4 with ⟨Hv, HG⟩
  ihave Hu := (Entails.of_eq (bigSep_onFirst (F := F) G₀)) $$ HG
  imod (Rounds.fund_launch ER (rd (xIn m) (wIn m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (xIn m) (wIn m) κ) (Φ := fun c => iprop(linear c ∗ bundle m c)) fun c _ => bundle_intro m κ c)
  isplitr
  · unfold records
    isplitr; · iexact Hinv
    iexact Hr
  iapply dev_join
  isplitr [HB]
  · unfold linear
    iapply dev_join; isplitl [Hat]; · iapply hat $$ Hat
    iapply dev_join; isplitl [Hopen]; · iapply hop $$ Hopen
    iapply (toks_around (F := F))
    iapply (Entails.of_eq (toks_eq (F := F))) $$ Htok
  · iexact HB

set_option backward.isDefEq.respectTransparency.types false in
/-- From any memory and zero counters every fair execution of the program on the 32 devices ends, on every device with the
    arguments as they were and the result at `outV`, and with every counter at zero. -/
theorem run_main [∀ e, Nonempty (Elt F e)] : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1))
        ∧ r.2.mem ((c.tc : Thread nD τ).loc main_v1) = outV (xIn m) (wIn m)) ∧ r.2.sem = fun _ => 0) :=
  Pipeline.θ_run_regions_kit_sems (pcfgs (F := F)) adm (pdats m) () cellOf_inj embL defs₀ 𝒱₀ L lv m ρ main (segs m)
    (fun c Q => by rw [main_segs adm (pdats m) () 𝒱₀ L lv (seg0 m) (reg0 m) rfl c])
    (by simp only [segs, Pipeline.Seg.pipes_host, Pipeline.Seg.pipes_region, Pipeline.Seg.pipes_nil]; decide)
    (O₀ := O₀) (hL := L_of_ne) (G := onFirst G₀) (u₀ := u₀ (F := F))
    (hu₀ := by
      unfold u₀
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) bufs (V₀ m c) ∗ R m c))
    (Tₙ := fun c => iprop(StableHlo.held (c : Thread nD τ) bufs (V₂ m c) ∗ barZ c))
    (hch := ⟨fun c => .rfl, fun c => reg_pre m c, fun c => reg_post m c⟩)
    (hinit := init m ρ)
    (QY := fun c s => (s.mem ((c.tc : Thread nD τ).loc main_arg0) = V₂ m c main_arg0 ∧ s.mem ((c.tc : Thread nD τ).loc main_arg1) = V₂ m c main_arg1
      ∧ s.mem ((c.tc : Thread nD τ).loc main_v1) = V₂ m c main_v1) ∧ s.sem (barC c) = 0)
    (hfin := fun c s' => by
      rw [held_eq]; unfold barZ
      iintro ⟨⟨⟨Hx, Hw, -, -, Hy⟩, Hb⟩, HSI⟩
      icombine HSI Hx gives %hx
      icombine HSI Hw gives %hw
      icombine HSI Hy gives %hy
      icombine HSI Hb gives %hb
      imodintro
      isplitr
      · ipureintro
        exact ⟨⟨Buf.eq_of_forall_mem_univ hx, Buf.eq_of_forall_mem_univ hw, Buf.eq_of_forall_mem_univ hy⟩, by simpa using hb⟩
      iexact HSI)
    (hQ := fun s h hs => ⟨fun c => by
        obtain ⟨⟨hx, hw, hy⟩, -⟩ := h c
        refine ⟨⟨hx.trans ?_, hw.trans ?_⟩, hy.trans (V₂_out m c)⟩
        · exact (V₂_off m c _ (by decide)).trans (V_main_arg0 m c)
        · exact (V₂_off m c _ (by decide)).trans (V_main_arg1 m c),
      sem_eq_zero hs fun c sm hsm => by
        obtain rfl := unscoped_bar sm hsm
        exact (h c).2⟩)

end Cert.KernelIdeal.Ring
-- ==== Proof.ValueIdeal.lean ====
/-
  What the result is over the extended reals: the sums carried round the ring add up, device by device, to the whole
  product, so the result is the activation of the product of the two whole arrays.
-/
module

public import proofs.«01_k».proof.Proof.FinalIdeal
public import proofs.«01_k».proof.Proof.Gen.ReferenceIdeal
public import Idealize.ShloMosaic.Lib.Pointwise
public import Idealize.ShloMosaic.Lib.Layout
public import Idealize.ShloMosaic.PureOps.Ideal

@[expose] public section

noncomputable section

namespace Cert.KernelIdeal.Ring

open Idealize.ShloMosaic Cert.KernelIdeal.Gen
open scoped BigOperators

/-! ## Sums round the ring -/

section Sums
variable (X : Dev nD → Vec Ideal S2048x64 .f32) (Wt : Dev nD → Vec Ideal S64x2048 .f32)

/-- What the device at a place of the ring adds to a block. -/
def place (q : Fin 32) (st : Bool) (i : S64x1024.Idx) (p : Fin 32) : EReal := partV X Wt (devT p) q st i

/-- After `j` hops a stream has gathered the products of the `j` devices behind a device and the device's own. -/
theorem srcS_apply (s : Str) (i : S64x1024.Idx) (j : ℕ) : ∀ (d : Dev nD), j < hops s →
    srcS X Wt s j d i
      = ∑ t ∈ Finset.range (j + 1), place X Wt (posT d + off s.2 (hops s - j)) s.1 i (posT d + off (!s.2) t) := by
  induction j with
  | zero =>
    intro d _
    have e : posT d + off (!s.2) 0 = posT d := by
      have h : ∀ (b : Bool) (q : Fin 32), q + off b 0 = q := by decide +kernel
      exact h _ _
    rw [Finset.sum_range_one, e, place, devT_posT]
    rfl
  | succ j ih =>
    intro d hj
    have k1 : ∀ (di : Bool) (q : Fin 32) (t : Fin 32), q + one (!di) + off (!di) t.val = q + off (!di) (t.val + 1) := by
      decide +kernel
    have k2 : ∀ (di : Bool) (q : Fin 32) (g : Fin 32), q + one (!di) + off di (g.val + 1) = q + off di g.val := by
      decide +kernel
    have hh : hops s ≤ 16 := by
      obtain ⟨a, b⟩ := s
      cases a <;> cases b <;> decide
    have e0 : posT d + off (!s.2) 0 = posT d := by
      have h : ∀ (b : Bool) (q : Fin 32), q + off b 0 = q := by decide +kernel
      exact h _ _
    have eq : posT (nbr (!s.2) d) + off s.2 (hops s - j) = posT d + off s.2 (hops s - (j + 1)) := by
      have := k2 s.2 (posT d) ⟨hops s - (j + 1), by omega⟩
      rw [posT_nbr]
      rw [show hops s - j = hops s - (j + 1) + 1 by omega]
      exact this
    have step : srcS X Wt s (j + 1) d i
        = srcS X Wt s j (nbr (!s.2) d) i + partV X Wt d (posT d + off s.2 (hops s - 1 - j)) s.1 i := rfl
    rw [step, ih _ (by omega), Finset.sum_range_succ' _ (j + 1), eq, e0]
    have last : place X Wt (posT d + off s.2 (hops s - (j + 1))) s.1 i (posT d)
        = partV X Wt d (posT d + off s.2 (hops s - 1 - j)) s.1 i := by
      rw [place, devT_posT, show hops s - 1 - j = hops s - (j + 1) by omega]
    rw [last]
    congr 1
    refine Finset.sum_congr rfl fun t ht => ?_
    have ht' : t < j + 1 := Finset.mem_range.mp ht
    rw [posT_nbr]
    exact congrArg _ (k1 s.2 (posT d) ⟨t, by omega⟩)

/-- The two streams of a half and the device itself make up the whole ring. -/
theorem ring_split (q : Fin 32) : ∀ st : Bool,
    (Multiset.range (hops (st, false))).map (fun t => q + one true + off true t)
      + (Multiset.range (hops (st, true))).map (fun t => q + one false + off false t) + {q} = (Finset.univ : Finset (Fin 32)).val := by
  revert q
  decide +kernel

/-- The sums arriving at a device and its own product are the whole ring's. -/
theorem arrived (st : Bool) (c : Dev nD) (i : S64x1024.Idx) :
    srcS X Wt (st, false) (hops (st, false) - 1) (nbr true c) i + srcS X Wt (st, true) (hops (st, true) - 1) (nbr false c) i
        + partV X Wt c (posT c) st i
      = ∑ p, place X Wt (posT c) st i p := by
  have hp : ∀ d, 0 < hops (st, d) := by cases st <;> decide
  have kk : ∀ (di : Bool) (q : Fin 32), q + one (!di) + off di 1 = q := by decide +kernel
  have e (d : Bool) : srcS X Wt (st, d) (hops (st, d) - 1) (nbr (!d) c) i
      = ∑ t ∈ Finset.range (hops (st, d)), place X Wt (posT c) st i (posT c + one (!d) + off (!d) t) := by
    rw [srcS_apply X Wt (st, d) i _ _ (by have := hp d; omega)]
    have h1 : hops (st, d) - 1 + 1 = hops (st, d) := by have := hp d; omega
    have h2 : hops (st, d) - (hops (st, d) - 1) = 1 := by have := hp d; omega
    rw [h1, h2, posT_nbr, kk]
  have own : partV X Wt c (posT c) st i = place X Wt (posT c) st i (posT c) := by rw [place, devT_posT]
  have e0 := e false
  have e1 := e true
  simp only [Bool.not_false, Bool.not_true] at e0 e1
  rw [e0, e1, own]
  have whole := congrArg (fun M : Multiset (Fin 32) => (M.map (place X Wt (posT c) st i)).sum) (ring_split (posT c) st)
  simp only [Multiset.map_add, Multiset.sum_add, Multiset.map_map, Multiset.map_singleton, Multiset.sum_singleton] at whole
  exact whole

end Sums

/-! ## The whole product -/

/-- An entry of the whole product. -/
def gemm (x w : S2048x2048.Idx → EReal) (r l : Fin 2048) : EReal := ∑ k : Fin 2048, x (ix2 r k) * w (ix2 k l)

/-- The products a device forms, at an index. -/
theorem dotPay_apply (a : Vec Ideal S64x64 .f32) (b : Vec Ideal S64x2048 .f32) (r : Fin 64) (l : Fin 2048) :
    dotPay (F := Ideal) a b (ix2 r l) = ∑ k : Fin 64, a (ix2 r k) * b (ix2 k l) := by
  pointwise [dotPay]

variable (x w : S2048x2048.Idx → EReal)

/-- A device's part of the left array: its block of columns. -/
abbrev xBlk (c : Dev nD) : Vec Ideal S2048x64 .f32 := Layout.block ⟨2, ![2048, 64]⟩ ⟨2, ![2048, 2048]⟩ 1 32 c x

/-- A device's part of the right array: its block of rows. -/
abbrev wBlk (c : Dev nD) : Vec Ideal S64x2048 .f32 := Layout.block ⟨2, ![64, 2048]⟩ ⟨2, ![2048, 2048]⟩ 0 32 c w

/-- A row of the whole array, from its block and its place in the block. -/
def rowAt (q : Fin 32) (r : Fin 64) : Fin 2048 := ⟨64 * q.val + r.val, by have := q.isLt; have := r.isLt; omega⟩

/-- A column of the whole array, from its half and its place in the half. -/
def colAt (st : Bool) (l : Fin 1024) : Fin 2048 := ⟨(if st then 1024 else 0) + l.val, by have := l.isLt; split <;> omega⟩

/-- A device's part of an entry: the products over its own share of the inner index. -/
theorem partV_apply (c : Dev nD) (q : Fin 32) (st : Bool) (r : Fin 64) (l : Fin 1024) :
    partV (xBlk x) (wBlk w) c q st (ix2 r l)
      = ∑ k : Fin 64, x (ix2 (rowAt q r) (rowAt c k)) * w (ix2 (rowAt c k) (colAt st l)) := by
  have e : (wideIx st (ix2 r l) : S64x2048.Idx) = ix2 r (colAt st l) := by
    funext a
    match a with
    | ⟨0, _⟩ => rfl
    | ⟨1, _⟩ => rfl
  show dotPay (rowsV (xBlk x) c q) (wV (wBlk w) c) (wideIx st (ix2 r l)) = _
  rw [e, dotPay_apply]
  refine Finset.sum_congr rfl fun k _ => congrArg₂ (· * ·) (congrArg x ?_) (congrArg w ?_)
  · funext a
    match a with
    | ⟨0, _⟩ => exact Fin.ext (show 64 * q.val + 1 * r.val = 64 * q.val + r.val by omega)
    | ⟨1, _⟩ => exact Fin.ext (show c.val * 64 + (0 + 1 * k.val) = 64 * c.val + k.val by omega)
  · funext a
    match a with
    | ⟨0, _⟩ => exact Fin.ext (show c.val * 64 + (0 + 1 * k.val) = 64 * c.val + k.val by omega)
    | ⟨1, _⟩ => exact Fin.ext (show 0 + 1 * (colAt st l).val = (colAt st l).val by omega)

/-- The parts of all devices are the whole entry. -/
theorem parts (q : Fin 32) (st : Bool) (r : Fin 64) (l : Fin 1024) :
    (∑ p, place (xBlk x) (wBlk w) q st (ix2 r l) p) = gemm x w (rowAt q r) (colAt st l) := by
  let e : Fin 32 ≃ Dev nD := ⟨devT, posT, posT_devT, devT_posT⟩
  have h1 : (∑ p, place (xBlk x) (wBlk w) q st (ix2 r l) p) = ∑ c : Dev nD, partV (xBlk x) (wBlk w) c q st (ix2 r l) :=
    Equiv.sum_comp e (fun c => partV (xBlk x) (wBlk w) c q st (ix2 r l))
  rw [h1, gemm]
  simp only [partV_apply]
  have h2 := Equiv.sum_comp (finProdFinEquiv (m := 32) (n := 64))
    (fun k : Fin 2048 => x (ix2 (rowAt q r) k) * w (ix2 k (colAt st l)))
  rw [← h2, Fintype.sum_prod_type]
  refine Finset.sum_congr rfl fun c _ => Finset.sum_congr rfl fun k _ => ?_
  have hk : (finProdFinEquiv (m := 32) (n := 64) (c, k) : Fin 2048) = rowAt c k :=
    Fin.ext (show k.val + 64 * c.val = 64 * c.val + k.val by omega)
  rw [hk]

/-! ## The activation -/

/-- The activation of an extended real. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

theorem geluV_apply (y : FVec Ideal S64x1024 .f32) (i : S64x1024.Idx) : geluV y i = gelu (y i) := by
  show Ideal.ofBits .f32 0x3F000000#32 * y i
    * (Ideal.ofBits .f32 0x3F800000#32
      + Ideal.tanh (Ideal.ofBits .f32 0x3F4C422A#32 * (y i + Ideal.ofBits .f32 0x3D372713#32 * y i * y i * y i))) = gelu (y i)
  rw [gelu, mul_assoc (Ideal.ofBits .f32 0x3D372713#32 * y i), mul_assoc (Ideal.ofBits .f32 0x3D372713#32), mul_assoc (y i) (y i) (y i)]

/-- An entry of the result is the activation of the whole product's. -/
theorem outV_apply (j : S2048x2048.Idx) : outV (xBlk x) (wBlk w) j = gelu (gemm x w (j 0) (j 1)) := by
  have h0 : (j 0).val < 2048 := (j 0).isLt
  have h1 : (j 1).val < 1024 + 1024 := (j 1).isLt
  let q : Fin 32 := ⟨(j 0).val / 64, by omega⟩
  let r : Fin 64 := ⟨(j 0).val % 64, Nat.mod_lt _ (by decide)⟩
  let l : Fin 1024 := ⟨(j 1).val % 1024, Nat.mod_lt _ (by decide)⟩
  let st : Bool := decide (1024 ≤ (j 1).val)
  have er : rowAt q r = j 0 := Fin.ext (show 64 * ((j 0).val / 64) + (j 0).val % 64 = (j 0).val by omega)
  have el : colAt st l = j 1 := by
    apply Fin.ext
    show (if decide (1024 ≤ (j 1).val) = true then 1024 else 0) + (j 1).val % 1024 = (j 1).val
    by_cases h : 1024 ≤ (j 1).val
    · rw [if_pos (decide_eq_true h)]; omega
    · rw [if_neg (by simpa using h)]; omega
  have main : finV (xBlk x) (wBlk w) st (devT q) (ix2 r l) = gelu (gemm x w (rowAt q r) (colAt st l)) := by
    rw [finV, geluV_apply]
    refine congrArg gelu ?_
    refine (arrived (xBlk x) (wBlk w) st (devT q) (ix2 r l)).trans ?_
    rw [posT_devT, parts]
  rw [← er, ← el, ← main]
  exact congrArg (finV (xBlk x) (wBlk w) st (devT q)) (by
    funext a
    match a with
    | ⟨0, _⟩ => rfl
    | ⟨1, _⟩ => rfl)

end Cert.KernelIdeal.Ring

namespace Cert.ReferenceIdeal.Ring

open Idealize.ShloMosaic Cert.ReferenceIdeal Cert.ReferenceIdeal.Gen

/-- The reference's result of its two arrays, as its operations compose it. -/
def refV (x w : FVec Ideal S2048x2048 .f32) : FVec Ideal S2048x2048 .f32 :=
  mulf (mulf (broadcastInDim S2048x2048 ![] bcast_S_S2048x2048 (constant S_ .f32 0x3F000000#32)) (Host.dotGeneral dot_S2048x2048_S2048x2048_S2048x2048_1_0_0_1_n_n none x w))
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf (Host.dotGeneral dot_S2048x2048_S2048x2048_S2048x2048_1_0_0_1_n_n none x w)
          (mulf (broadcastInDim S2048x2048 ![] bcast_S_S2048x2048 (constant S_ .f32 0x3D372713#32))
            (mulf (mulf (Host.dotGeneral dot_S2048x2048_S2048x2048_S2048x2048_1_0_0_1_n_n none x w) (Host.dotGeneral dot_S2048x2048_S2048x2048_S2048x2048_1_0_0_1_n_n none x w))
              (Host.dotGeneral dot_S2048x2048_S2048x2048_S2048x2048_1_0_0_1_n_n none x w)))))))

/-- The reference's product, at an index. -/
theorem dot_apply (x w : FVec Ideal S2048x2048 .f32) (j : S2048x2048.Idx) :
    (Host.dotGeneral dot_S2048x2048_S2048x2048_S2048x2048_1_0_0_1_n_n none x w : FVec Ideal S2048x2048 .f32) j
      = Cert.KernelIdeal.Ring.gemm x w (j 0) (j 1) := by
  pointwise [Cert.KernelIdeal.Ring.gemm]

/-- An entry of the reference's result is the activation of the whole product's. -/
theorem refV_apply (x w : FVec Ideal S2048x2048 .f32) (j : S2048x2048.Idx) :
    refV x w j = Cert.KernelIdeal.Ring.gelu (Cert.KernelIdeal.Ring.gemm x w (j 0) (j 1)) := by
  rw [← dot_apply]
  rfl

/-- What the devices leave is the reference's result. -/
theorem out_eq (x w : FVec Ideal S2048x2048 .f32) :
    Cert.KernelIdeal.Ring.outV (Cert.KernelIdeal.Ring.xBlk x) (Cert.KernelIdeal.Ring.wBlk w) = refV x w := by
  funext j
  rw [Cert.KernelIdeal.Ring.outV_apply]
  exact (refV_apply x w j).symm

end Cert.ReferenceIdeal.Ring
-- ==== Proof.lean ====
/-
  The proof of the claims about the ring kernel: it runs and leaves the machine quiet, read on bits and on extended reals;
  so does the reference; and over the extended reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.ValueIdeal
public import Idealize.ShloMosaic.Adequacy
public import Idealize.ShloMosaic.Lib.Quiescent
public import Idealize.ShloMosaic.Init

@[expose] public section

noncomputable section

namespace Cert.Proof

open Idealize.ShloMosaic Idealize.SL.Sem

/-- On bits: every execution ends, with the arguments as they were and every counter at zero. -/
theorem bits_quiet : Cert.quiescent_Kernel (hKernel := Cert.Kernel.Gen.facts) := by
  intro m g _
  have : ∀ e, Nonempty (Elt Bits e) := fun _ => inferInstance
  exact (θ_run _ _ _).mono (fun _ h => ⟨fun c => (h.1 c).1, h.2⟩) (Cert.Kernel.Ring.run_main m g)

/-- The same on extended reals. -/
theorem ideal_quiet : Cert.quiescent_KernelIdeal (hKernelIdeal := Cert.KernelIdeal.Gen.facts) := by
  intro m g _
  have : ∀ e, Nonempty (Elt Ideal e) := fun _ => inferInstance
  exact (θ_run _ _ _).mono (fun _ h => ⟨fun c => (h.1 c).1, h.2⟩) (Cert.KernelIdeal.Ring.run_main m g)

/-- The reference has no counter, so none is left raised. -/
theorem reference_quiet : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- Every device ends with the reference's result. -/
theorem values : Cert.algebraic_KernelIdeal_ReferenceIdeal (hKernelIdeal := Cert.KernelIdeal.Gen.facts)
    (hReferenceIdeal := Cert.ReferenceIdeal.Gen.facts) := by
  intro m g m' g' _ hargs
  have : ∀ e, Nonempty (Elt Ideal e) := fun _ => inferInstance
  let x : FVec Ideal Cert.ReferenceIdeal.S2048x2048 .f32 :=
    m' (((0 : Dev Cert.ReferenceIdeal.nD).tc : Thread Cert.ReferenceIdeal.nD Cert.ReferenceIdeal.τ).loc Cert.ReferenceIdeal.main_arg0)
  let w : FVec Ideal Cert.ReferenceIdeal.S2048x2048 .f32 :=
    m' (((0 : Dev Cert.ReferenceIdeal.nD).tc : Thread Cert.ReferenceIdeal.nD Cert.ReferenceIdeal.τ).loc Cert.ReferenceIdeal.main_arg1)
  have hx : Cert.KernelIdeal.Ring.xIn m = Cert.KernelIdeal.Ring.xBlk x := funext fun c => (hargs c).1
  have hw : Cert.KernelIdeal.Ring.wIn m = Cert.KernelIdeal.Ring.wBlk w := funext fun c => (hargs c).2
  refine ⟨Cert.ReferenceIdeal.Ring.refV x w, ?_, ?_⟩
  · refine (θ_run _ _ _).mono (fun _ h c => ⟨?_, (h.1 c).1.1, (h.1 c).1.2⟩) (Cert.KernelIdeal.Ring.run_main m g)
    refine (h.1 c).2.trans ?_
    rw [hx, hw]
    exact Cert.ReferenceIdeal.Ring.out_eq x w
  · exact (θ_run _ _ _).mono (fun _ h => h 0) (Cert.ReferenceIdeal.Value.run m' g')

theorem claim : Cert.Claim :=
  ⟨Cert.Kernel.Gen.facts, Cert.KernelIdeal.Gen.facts, Cert.ReferenceIdeal.Gen.facts,
    bits_quiet, ideal_quiet, reference_quiet, trivial, values⟩

end Cert.Proof

end
